-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Actq (m : (ℓ : Loc Cert.Actq.nD Cert.Actq.τ Cert.Actq.sig) → Buf (Elt Bits) ℓ) : Prop :=
  True

def Pre_ActqIdeal (m : (ℓ : Loc Cert.ActqIdeal.nD Cert.ActqIdeal.τ Cert.ActqIdeal.sig) → Buf (Elt Ideal) ℓ) : Prop :=
  True

def Pre_ActqRefIdeal (m : (ℓ : Loc Cert.ActqRefIdeal.nD Cert.ActqRefIdeal.τ Cert.ActqRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Actq [hActq : Cert.Actq.Facts] : Prop :=
  ∀ (m : (ℓ : Loc Cert.Actq.nD Cert.Actq.τ Cert.Actq.sig) → Buf (Elt Bits) ℓ) (g : Dev Cert.Actq.nD → PrngReg), Pre_Actq m →
    θ_run (Cert.Actq.defs (F := Bits)) (onTc (τ := Cert.Actq.τ) (Cert.Actq.main (F := Bits))) ⟨m, fun _ => 0, g⟩ (fun r => (∀ c : Dev Cert.Actq.nD,
      r.2.mem ((c.tc : Thread Cert.Actq.nD Cert.Actq.τ).loc Cert.Actq.main_arg0) = m ((c.tc : Thread Cert.Actq.nD Cert.Actq.τ).loc Cert.Actq.main_arg0)
      ∧ r.2.mem ((c.tc : Thread Cert.Actq.nD Cert.Actq.τ).loc Cert.Actq.main_arg1) = m ((c.tc : Thread Cert.Actq.nD Cert.Actq.τ).loc Cert.Actq.main_arg1))
      ∧ r.2.sem = fun _ => 0)

def quiescent_ActqIdeal [hActqIdeal : Cert.ActqIdeal.Facts] : Prop :=
  ∀ (m : (ℓ : Loc Cert.ActqIdeal.nD Cert.ActqIdeal.τ Cert.ActqIdeal.sig) → Buf (Elt Ideal) ℓ) (g : Dev Cert.ActqIdeal.nD → PrngReg), Pre_ActqIdeal m →
    θ_run (Cert.ActqIdeal.defs (F := Ideal)) (onTc (τ := Cert.ActqIdeal.τ) (Cert.ActqIdeal.main (F := Ideal))) ⟨m, fun _ => 0, g⟩ (fun r => (∀ c : Dev Cert.ActqIdeal.nD,
      r.2.mem ((c.tc : Thread Cert.ActqIdeal.nD Cert.ActqIdeal.τ).loc Cert.ActqIdeal.main_arg0) = m ((c.tc : Thread Cert.ActqIdeal.nD Cert.ActqIdeal.τ).loc Cert.ActqIdeal.main_arg0)
      ∧ r.2.mem ((c.tc : Thread Cert.ActqIdeal.nD Cert.ActqIdeal.τ).loc Cert.ActqIdeal.main_arg1) = m ((c.tc : Thread Cert.ActqIdeal.nD Cert.ActqIdeal.τ).loc Cert.ActqIdeal.main_arg1))
      ∧ r.2.sem = fun _ => 0)

def quiescent_ActqRefIdeal [hActqRefIdeal : Cert.ActqRefIdeal.Facts] : Prop :=
  ∀ (m : (ℓ : Loc Cert.ActqRefIdeal.nD Cert.ActqRefIdeal.τ Cert.ActqRefIdeal.sig) → Buf (Elt Ideal) ℓ) (g : Dev Cert.ActqRefIdeal.nD → PrngReg), Pre_ActqRefIdeal m →
    θ_run (Cert.ActqRefIdeal.defs (F := Ideal)) (onTc (τ := Cert.ActqRefIdeal.τ) (Cert.ActqRefIdeal.main (F := Ideal))) ⟨m, fun _ => 0, g⟩ (fun r => (∀ c : Dev Cert.ActqRefIdeal.nD,
      r.2.mem ((c.tc : Thread Cert.ActqRefIdeal.nD Cert.ActqRefIdeal.τ).loc Cert.ActqRefIdeal.main_arg0) = m ((c.tc : Thread Cert.ActqRefIdeal.nD Cert.ActqRefIdeal.τ).loc Cert.ActqRefIdeal.main_arg0)
      ∧ r.2.mem ((c.tc : Thread Cert.ActqRefIdeal.nD Cert.ActqRefIdeal.τ).loc Cert.ActqRefIdeal.main_arg1) = m ((c.tc : Thread Cert.ActqRefIdeal.nD Cert.ActqRefIdeal.τ).loc Cert.ActqRefIdeal.main_arg1))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v2_0)) (v1 : (c : Dev Cert.FfnIdeal.nD) → Buf (Elt Ideal) ((c.tc : Thread Cert.FfnIdeal.nD Cert.FfnIdeal.τ).loc Cert.FfnIdeal.main_v2_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2_0) = v0 c
          ∧ r.2.mem ((c.tc : Thread Cert.FfnIdeal.nD Cert.FfnIdeal.τ).loc Cert.FfnIdeal.main_v2_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v2_0) = v0 c
          ∧ r.2.mem ((c.tc : Thread Cert.FfnRefIdeal.nD Cert.FfnRefIdeal.τ).loc Cert.FfnRefIdeal.main_v2_1) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Actq_ActqIdeal : Prop :=
  True

def algebraic_ActqIdeal_ActqRefIdeal [hActqIdeal : Cert.ActqIdeal.Facts] [hActqRefIdeal : Cert.ActqRefIdeal.Facts] : Prop :=
  ∀ (m : (ℓ : Loc Cert.ActqIdeal.nD Cert.ActqIdeal.τ Cert.ActqIdeal.sig) → Buf (Elt Ideal) ℓ) (g : Dev Cert.ActqIdeal.nD → PrngReg)
    (m' : (ℓ : Loc Cert.ActqRefIdeal.nD Cert.ActqRefIdeal.τ Cert.ActqRefIdeal.sig) → Buf (Elt Ideal) ℓ) (g' : Dev Cert.ActqRefIdeal.nD → PrngReg), Pre_ActqIdeal m →
    (∀ c : Dev Cert.ActqIdeal.nD,
      m' ((c.tc : Thread Cert.ActqRefIdeal.nD Cert.ActqRefIdeal.τ).loc Cert.ActqRefIdeal.main_arg0) = m ((c.tc : Thread Cert.ActqIdeal.nD Cert.ActqIdeal.τ).loc Cert.ActqIdeal.main_arg0)
      ∧ m' ((c.tc : Thread Cert.ActqRefIdeal.nD Cert.ActqRefIdeal.τ).loc Cert.ActqRefIdeal.main_arg1) = m ((c.tc : Thread Cert.ActqIdeal.nD Cert.ActqIdeal.τ).loc Cert.ActqIdeal.main_arg1)) →
    ∃ (v0 : (c : Dev Cert.ActqIdeal.nD) → Buf (Elt Ideal) ((c.tc : Thread Cert.ActqIdeal.nD Cert.ActqIdeal.τ).loc Cert.ActqIdeal.main_v0_0)) (v1 : (c : Dev Cert.ActqIdeal.nD) → Buf (Elt Ideal) ((c.tc : Thread Cert.ActqIdeal.nD Cert.ActqIdeal.τ).loc Cert.ActqIdeal.main_v0_1)),
      θ_run (Cert.ActqIdeal.defs (F := Ideal)) (onTc (τ := Cert.ActqIdeal.τ) (Cert.ActqIdeal.main (F := Ideal))) ⟨m, fun _ => 0, g⟩ (fun r => ∀ c : Dev Cert.ActqIdeal.nD,
          r.2.mem ((c.tc : Thread Cert.ActqIdeal.nD Cert.ActqIdeal.τ).loc Cert.ActqIdeal.main_v0_0) = v0 c
          ∧ r.2.mem ((c.tc : Thread Cert.ActqIdeal.nD Cert.ActqIdeal.τ).loc Cert.ActqIdeal.main_v0_1) = v1 c
          ∧ r.2.mem ((c.tc : Thread Cert.ActqIdeal.nD Cert.ActqIdeal.τ).loc Cert.ActqIdeal.main_arg0) = m ((c.tc : Thread Cert.ActqIdeal.nD Cert.ActqIdeal.τ).loc Cert.ActqIdeal.main_arg0)
          ∧ r.2.mem ((c.tc : Thread Cert.ActqIdeal.nD Cert.ActqIdeal.τ).loc Cert.ActqIdeal.main_arg1) = m ((c.tc : Thread Cert.ActqIdeal.nD Cert.ActqIdeal.τ).loc Cert.ActqIdeal.main_arg1))
      ∧ θ_run (Cert.ActqRefIdeal.defs (F := Ideal)) (onTc (τ := Cert.ActqRefIdeal.τ) (Cert.ActqRefIdeal.main (F := Ideal))) ⟨m', fun _ => 0, g'⟩ (fun r => ∀ c : Dev Cert.ActqRefIdeal.nD,
          r.2.mem ((c.tc : Thread Cert.ActqRefIdeal.nD Cert.ActqRefIdeal.τ).loc Cert.ActqRefIdeal.main_v0_0) = v0 c
          ∧ r.2.mem ((c.tc : Thread Cert.ActqRefIdeal.nD Cert.ActqRefIdeal.τ).loc Cert.ActqRefIdeal.main_v0_1) = v1 c
          ∧ r.2.mem ((c.tc : Thread Cert.ActqRefIdeal.nD Cert.ActqRefIdeal.τ).loc Cert.ActqRefIdeal.main_arg0) = m' ((c.tc : Thread Cert.ActqRefIdeal.nD Cert.ActqRefIdeal.τ).loc Cert.ActqRefIdeal.main_arg0)
          ∧ r.2.mem ((c.tc : Thread Cert.ActqRefIdeal.nD Cert.ActqRefIdeal.τ).loc Cert.ActqRefIdeal.main_arg1) = m' ((c.tc : Thread Cert.ActqRefIdeal.nD Cert.ActqRefIdeal.τ).loc Cert.ActqRefIdeal.main_arg1))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v16) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v4_0)) (v1 : (c : Dev Cert.QkvIdeal.nD) → Buf (Elt Ideal) ((c.tc : Thread Cert.QkvIdeal.nD Cert.QkvIdeal.τ).loc Cert.QkvIdeal.main_v4_1)) (v2 : (c : Dev Cert.QkvIdeal.nD) → Buf (Elt Ideal) ((c.tc : Thread Cert.QkvIdeal.nD Cert.QkvIdeal.τ).loc Cert.QkvIdeal.main_v4_2)) (v3 : (c : Dev Cert.QkvIdeal.nD) → Buf (Elt Ideal) ((c.tc : Thread Cert.QkvIdeal.nD Cert.QkvIdeal.τ).loc Cert.QkvIdeal.main_v4_3)) (v4 : (c : Dev Cert.QkvIdeal.nD) → Buf (Elt Ideal) ((c.tc : Thread Cert.QkvIdeal.nD Cert.QkvIdeal.τ).loc Cert.QkvIdeal.main_v4_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4_0) = v0 c
          ∧ r.2.mem ((c.tc : Thread Cert.QkvIdeal.nD Cert.QkvIdeal.τ).loc Cert.QkvIdeal.main_v4_1) = v1 c
          ∧ r.2.mem ((c.tc : Thread Cert.QkvIdeal.nD Cert.QkvIdeal.τ).loc Cert.QkvIdeal.main_v4_2) = v2 c
          ∧ r.2.mem ((c.tc : Thread Cert.QkvIdeal.nD Cert.QkvIdeal.τ).loc Cert.QkvIdeal.main_v4_3) = v3 c
          ∧ r.2.mem ((c.tc : Thread Cert.QkvIdeal.nD Cert.QkvIdeal.τ).loc Cert.QkvIdeal.main_v4_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v4_0) = v0 c
          ∧ r.2.mem ((c.tc : Thread Cert.QkvRefIdeal.nD Cert.QkvRefIdeal.τ).loc Cert.QkvRefIdeal.main_v4_1) = v1 c
          ∧ r.2.mem ((c.tc : Thread Cert.QkvRefIdeal.nD Cert.QkvRefIdeal.τ).loc Cert.QkvRefIdeal.main_v4_2) = v2 c
          ∧ r.2.mem ((c.tc : Thread Cert.QkvRefIdeal.nD Cert.QkvRefIdeal.τ).loc Cert.QkvRefIdeal.main_v4_3) = v3 c
          ∧ r.2.mem ((c.tc : Thread Cert.QkvRefIdeal.nD Cert.QkvRefIdeal.τ).loc Cert.QkvRefIdeal.main_v4_4) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7))

def Claim : Prop :=
  ∃ (hFfn : Cert.Ffn.Facts) (hFfnIdeal : Cert.FfnIdeal.Facts) (hFfnRefIdeal : Cert.FfnRefIdeal.Facts) (hDown : Cert.Down.Facts) (hDownIdeal : Cert.DownIdeal.Facts) (hDownRefIdeal : Cert.DownRefIdeal.Facts) (hActq : Cert.Actq.Facts) (hActqIdeal : Cert.ActqIdeal.Facts) (hActqRefIdeal : Cert.ActqRefIdeal.Facts) (hFinal : Cert.Final.Facts) (hFinalIdeal : Cert.FinalIdeal.Facts) (hFinalRefIdeal : Cert.FinalRefIdeal.Facts) (hQkv : Cert.Qkv.Facts) (hQkvIdeal : Cert.QkvIdeal.Facts) (hQkvRefIdeal : Cert.QkvRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Down (hDown := hDown)
    ∧ quiescent_DownIdeal (hDownIdeal := hDownIdeal)
    ∧ quiescent_DownRefIdeal (hDownRefIdeal := hDownRefIdeal)
    ∧ quiescent_Actq (hActq := hActq)
    ∧ quiescent_ActqIdeal (hActqIdeal := hActqIdeal)
    ∧ quiescent_ActqRefIdeal (hActqRefIdeal := hActqRefIdeal)
    ∧ quiescent_Final (hFinal := hFinal)
    ∧ quiescent_FinalIdeal (hFinalIdeal := hFinalIdeal)
    ∧ quiescent_FinalRefIdeal (hFinalRefIdeal := hFinalRefIdeal)
    ∧ quiescent_Qkv (hQkv := hQkv)
    ∧ quiescent_QkvIdeal (hQkvIdeal := hQkvIdeal)
    ∧ quiescent_QkvRefIdeal (hQkvRefIdeal := hQkvRefIdeal)
    ∧ preserves_Ffn_FfnIdeal
    ∧ algebraic_FfnIdeal_FfnRefIdeal (hFfnIdeal := hFfnIdeal) (hFfnRefIdeal := hFfnRefIdeal)
    ∧ preserves_Down_DownIdeal
    ∧ algebraic_DownIdeal_DownRefIdeal (hDownIdeal := hDownIdeal) (hDownRefIdeal := hDownRefIdeal)
    ∧ preserves_Actq_ActqIdeal
    ∧ algebraic_ActqIdeal_ActqRefIdeal (hActqIdeal := hActqIdeal) (hActqRefIdeal := hActqRefIdeal)
    ∧ preserves_Final_FinalIdeal
    ∧ algebraic_FinalIdeal_FinalRefIdeal (hFinalIdeal := hFinalIdeal) (hFinalRefIdeal := hFinalRefIdeal)
    ∧ preserves_Qkv_QkvIdeal
    ∧ algebraic_QkvIdeal_QkvRefIdeal (hQkvIdeal := hQkvIdeal) (hQkvRefIdeal := hQkvRefIdeal)
-- ==== Ffn.lean ====
abbrev S768x4608 : Shape := ⟨2, ![768, 4608]⟩
abbrev S768x1 : Shape := ⟨2, ![768, 1]⟩
abbrev S4608x9216 : Shape := ⟨2, ![4608, 9216]⟩
abbrev S9216 : Shape := ⟨1, ![9216]⟩
abbrev S1x9216 : Shape := ⟨2, ![1, 9216]⟩
abbrev S768x9216 : Shape := ⟨2, ![768, 9216]⟩
abbrev S4608x512 : Shape := ⟨2, ![4608, 512]⟩
abbrev S1x512 : Shape := ⟨2, ![1, 512]⟩
abbrev S768x512 : Shape := ⟨2, ![768, 512]⟩
abbrev S7x384x512 : Shape := ⟨3, ![7, 384, 512]⟩
abbrev S1x32x512 : Shape := ⟨3, ![1, 32, 512]⟩
abbrev S32x512 : Shape := ⟨2, ![32, 512]⟩
abbrev S32x1 : Shape := ⟨2, ![32, 1]⟩
abbrev S32 : Shape := ⟨1, ![32]⟩
abbrev S384x2304 : Shape := ⟨2, ![384, 2304]⟩
abbrev S2304x512 : Shape := ⟨2, ![2304, 512]⟩
abbrev S384x512 : Shape := ⟨2, ![384, 512]⟩
abbrev S1x384x512 : Shape := ⟨3, ![1, 384, 512]⟩

abbrev nBuf : Space → Nat
  | .hbm => 10
  | .vmem => 15
  | .smem => 0
  | _ => 0

abbrev bufTy : (tb : Table) → Fin (tcTables nBuf tb) → BufTy
  | .hbm, ⟨0, _⟩ => ⟨S768x4608, .i8⟩
  | .hbm, ⟨1, _⟩ => ⟨S768x1, .f32⟩
  | .hbm, ⟨2, _⟩ => ⟨S4608x9216, .i8⟩
  | .hbm, ⟨3, _⟩ => ⟨S9216, .f32⟩
  | .hbm, ⟨4, _⟩ => ⟨S4608x9216, .i8⟩
  | .hbm, ⟨5, _⟩ => ⟨S9216, .f32⟩
  | .hbm, ⟨6, _⟩ => ⟨S1x9216, .f32⟩
  | .hbm, ⟨7, _⟩ => ⟨S1x9216, .f32⟩
  | .hbm, ⟨8, _⟩ => ⟨S768x9216, .f32⟩
  | .hbm, ⟨9, _⟩ => ⟨S768x1, .f32⟩
  | .local _ .vmem, ⟨0, _⟩ => ⟨S768x4608, .i8⟩
  | .local _ .vmem, ⟨1, _⟩ => ⟨S768x1, .f32⟩
  | .local _ .vmem, ⟨2, _⟩ => ⟨S4608x512, .i8⟩
  | .local _ .vmem, ⟨3, _⟩ => ⟨S4608x512, .i8⟩
  | .local _ .vmem, ⟨4, _⟩ => ⟨S1x512, .f32⟩
  | .local _ .vmem, ⟨5, _⟩ => ⟨S1x512, .f32⟩
  | .local _ .vmem, ⟨6, _⟩ => ⟨S4608x512, .i8⟩
  | .local _ .vmem, ⟨7, _⟩ => ⟨S4608x512, .i8⟩
  | .local _ .vmem, ⟨8, _⟩ => ⟨S1x512, .f32⟩
  | .local _ .vmem, ⟨9, _⟩ => ⟨S1x512, .f32⟩
  | .local _ .vmem, ⟨10, _⟩ => ⟨S768x512, .f32⟩
  | .local _ .vmem, ⟨11, _⟩ => ⟨S768x512, .f32⟩
  | .local _ .vmem, ⟨12, _⟩ => ⟨S768x1, .f32⟩
  | .local _ .vmem, ⟨13, _⟩ => ⟨S768x4608, .bf16⟩
  | .local _ .vmem, ⟨14, _⟩ => ⟨S7x384x512, .f32⟩
  | _, _ => ⟨S768x4608, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c17_i32 : BitVec 32 := 17#32
  let v0 : BitVec 32 := Scalar.minsi arg0 c17_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let c17_i32 : BitVec 32 := 17#32
  let v0 : BitVec 32 := Scalar.minsi arg0 c17_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x4608 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4608x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4608x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S768x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnRefIdeal.lean ====
abbrev S768x4608 : Shape := ⟨2, ![768, 4608]⟩
abbrev S768x1 : Shape := ⟨2, ![768, 1]⟩
abbrev S4608x9216 : Shape := ⟨2, ![4608, 9216]⟩
abbrev S9216 : Shape := ⟨1, ![9216]⟩
abbrev S1x9216 : Shape := ⟨2, ![1, 9216]⟩
abbrev S768x9216 : Shape := ⟨2, ![768, 9216]⟩
abbrev S768 : Shape := ⟨1, ![768]⟩

abbrev nBuf : Space → Nat
  | .hbm => 10
  | .vmem => 8
  | .smem => 0
  | _ => 0

abbrev bufTy : (tb : Table) → Fin (tcTables nBuf tb) → BufTy
  | .hbm, ⟨0, _⟩ => ⟨S768x4608, .i8⟩
  | .hbm, ⟨1, _⟩ => ⟨S768x1, .f32⟩
  | .hbm, ⟨2, _⟩ => ⟨S4608x9216, .i8⟩
  | .hbm, ⟨3, _⟩ => ⟨S9216, .f32⟩
  | .hbm, ⟨4, _⟩ => ⟨S4608x9216, .i8⟩
  | .hbm, ⟨5, _⟩ => ⟨S9216, .f32⟩
  | .hbm, ⟨6, _⟩ => ⟨S1x9216, .f32⟩
  | .hbm, ⟨7, _⟩ => ⟨S1x9216, .f32⟩
  | .hbm, ⟨8, _⟩ => ⟨S768x9216, .f32⟩
  | .hbm, ⟨9, _⟩ => ⟨S768x1, .f32⟩
  | .local _ .vmem, ⟨0, _⟩ => ⟨S768x4608, .i8⟩
  | .local _ .vmem, ⟨1, _⟩ => ⟨S768x1, .f32⟩
  | .local _ .vmem, ⟨2, _⟩ => ⟨S4608x9216, .i8⟩
  | .local _ .vmem, ⟨3, _⟩ => ⟨S1x9216, .f32⟩
  | .local _ .vmem, ⟨4, _⟩ => ⟨S4608x9216, .i8⟩
  | .local _ .vmem, ⟨5, _⟩ => ⟨S1x9216, .f32⟩
  | .local _ .vmem, ⟨6, _⟩ => ⟨S768x9216, .f32⟩
  | .local _ .vmem, ⟨7, _⟩ => ⟨S768x1, .f32⟩
  | _, _ => ⟨S768x4608, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S768x4608 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x9216 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x9216 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Down.lean ====
abbrev S768x9216 : Shape := ⟨2, ![768, 9216]⟩
abbrev S768x1 : Shape := ⟨2, ![768, 1]⟩
abbrev S9216x4608 : Shape := ⟨2, ![9216, 4608]⟩
abbrev S4608 : Shape := ⟨1, ![4608]⟩
abbrev S1x4608 : Shape := ⟨2, ![1, 4608]⟩
abbrev S768x4608 : Shape := ⟨2, ![768, 4608]⟩
abbrev S9216x512 : Shape := ⟨2, ![9216, 512]⟩
abbrev S1x512 : Shape := ⟨2, ![1, 512]⟩
abbrev S768x512 : Shape := ⟨2, ![768, 512]⟩
abbrev S7x384x256 : Shape := ⟨3, ![7, 384, 256]⟩
abbrev S1x32x256 : Shape := ⟨3, ![1, 32, 256]⟩
abbrev S32x256 : Shape := ⟨2, ![32, 256]⟩
abbrev S32x1 : Shape := ⟨2, ![32, 1]⟩
abbrev S1x256 : Shape := ⟨2, ![1, 256]⟩
abbrev S384x4608 : Shape := ⟨2, ![384, 4608]⟩
abbrev S4608x256 : Shape := ⟨2, ![4608, 256]⟩
abbrev S384x256 : Shape := ⟨2, ![384, 256]⟩
abbrev S1x384x256 : Shape := ⟨3, ![1, 384, 256]⟩

abbrev nBuf : Space → Nat
  | .hbm => 6
  | .vmem => 10
  | .smem => 0
  | _ => 0

abbrev bufTy : (tb : Table) → Fin (tcTables nBuf tb) → BufTy
  | .hbm, ⟨0, _⟩ => ⟨S768x9216, .i8⟩
  | .hbm, ⟨1, _⟩ => ⟨S768x1, .f32⟩
  | .hbm, ⟨2, _⟩ => ⟨S9216x4608, .i8⟩
  | .hbm, ⟨3, _⟩ => ⟨S4608, .f32⟩
  | .hbm, ⟨4, _⟩ => ⟨S1x4608, .f32⟩
  | .hbm, ⟨5, _⟩ => ⟨S768x4608, .f32⟩
  | .local _ .vmem, ⟨0, _⟩ => ⟨S768x9216, .i8⟩
  | .local _ .vmem, ⟨1, _⟩ => ⟨S768x1, .f32⟩
  | .local _ .vmem, ⟨2, _⟩ => ⟨S9216x512, .i8⟩
  | .local _ .vmem, ⟨3, _⟩ => ⟨S9216x512, .i8⟩
  | .local _ .vmem, ⟨4, _⟩ => ⟨S1x512, .f32⟩
  | .local _ .vmem, ⟨5, _⟩ => ⟨S1x512, .f32⟩
  | .local _ .vmem, ⟨6, _⟩ => ⟨S768x512, .f32⟩
  | .local _ .vmem, ⟨7, _⟩ => ⟨S768x512, .f32⟩
  | .local _ .vmem, ⟨8, _⟩ => ⟨S768x9216, .bf16⟩
  | .local _ .vmem, ⟨9, _⟩ => ⟨S7x384x256, .f32⟩
  | _, _ => ⟨S768x9216, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S768x9216 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S9216x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownRefIdeal.lean ====
abbrev S768x9216 : Shape := ⟨2, ![768, 9216]⟩
abbrev S768x1 : Shape := ⟨2, ![768, 1]⟩
abbrev S9216x4608 : Shape := ⟨2, ![9216, 4608]⟩
abbrev S4608 : Shape := ⟨1, ![4608]⟩
abbrev S1x4608 : Shape := ⟨2, ![1, 4608]⟩
abbrev S768x4608 : Shape := ⟨2, ![768, 4608]⟩

abbrev nBuf : Space → Nat
  | .hbm => 6
  | .vmem => 5
  | .smem => 0
  | _ => 0

abbrev bufTy : (tb : Table) → Fin (tcTables nBuf tb) → BufTy
  | .hbm, ⟨0, _⟩ => ⟨S768x9216, .i8⟩
  | .hbm, ⟨1, _⟩ => ⟨S768x1, .f32⟩
  | .hbm, ⟨2, _⟩ => ⟨S9216x4608, .i8⟩
  | .hbm, ⟨3, _⟩ => ⟨S4608, .f32⟩
  | .hbm, ⟨4, _⟩ => ⟨S1x4608, .f32⟩
  | .hbm, ⟨5, _⟩ => ⟨S768x4608, .f32⟩
  | .local _ .vmem, ⟨0, _⟩ => ⟨S768x9216, .i8⟩
  | .local _ .vmem, ⟨1, _⟩ => ⟨S768x1, .f32⟩
  | .local _ .vmem, ⟨2, _⟩ => ⟨S9216x4608, .i8⟩
  | .local _ .vmem, ⟨3, _⟩ => ⟨S1x4608, .f32⟩
  | .local _ .vmem, ⟨4, _⟩ => ⟨S768x4608, .f32⟩
  | _, _ => ⟨S768x9216, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S768x9216 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x4608 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Actq.lean ====
abbrev S768x9216 : Shape := ⟨2, ![768, 9216]⟩
abbrev S768x1 : Shape := ⟨2, ![768, 1]⟩
abbrev S128x9216 : Shape := ⟨2, ![128, 9216]⟩
abbrev S128x1 : Shape := ⟨2, ![128, 1]⟩

abbrev nBuf : Space → Nat
  | .hbm => 4
  | .vmem => 8
  | .smem => 0
  | _ => 0

abbrev bufTy : (tb : Table) → Fin (tcTables nBuf tb) → BufTy
  | .hbm, ⟨0, _⟩ => ⟨S768x9216, .f32⟩
  | .hbm, ⟨1, _⟩ => ⟨S768x1, .f32⟩
  | .hbm, ⟨2, _⟩ => ⟨S768x9216, .i8⟩
  | .hbm, ⟨3, _⟩ => ⟨S768x1, .f32⟩
  | .local _ .vmem, ⟨0, _⟩ => ⟨S128x9216, .f32⟩
  | .local _ .vmem, ⟨1, _⟩ => ⟨S128x9216, .f32⟩
  | .local _ .vmem, ⟨2, _⟩ => ⟨S128x1, .f32⟩
  | .local _ .vmem, ⟨3, _⟩ => ⟨S128x1, .f32⟩
  | .local _ .vmem, ⟨4, _⟩ => ⟨S128x9216, .i8⟩
  | .local _ .vmem, ⟨5, _⟩ => ⟨S128x9216, .i8⟩
  | .local _ .vmem, ⟨6, _⟩ => ⟨S128x1, .f32⟩
  | .local _ .vmem, ⟨7, _⟩ => ⟨S128x1, .f32⟩
  | _, _ => ⟨S768x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x9216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x9216 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ActqRefIdeal.lean ====
abbrev S768x9216 : Shape := ⟨2, ![768, 9216]⟩
abbrev S768x1 : Shape := ⟨2, ![768, 1]⟩

abbrev nBuf : Space → Nat
  | .hbm => 4
  | .vmem => 4
  | .smem => 0
  | _ => 0

abbrev bufTy : (tb : Table) → Fin (tcTables nBuf tb) → BufTy
  | .hbm, ⟨0, _⟩ => ⟨S768x9216, .f32⟩
  | .hbm, ⟨1, _⟩ => ⟨S768x1, .f32⟩
  | .hbm, ⟨2, _⟩ => ⟨S768x9216, .i8⟩
  | .hbm, ⟨3, _⟩ => ⟨S768x1, .f32⟩
  | .local _ .vmem, ⟨0, _⟩ => ⟨S768x9216, .f32⟩
  | .local _ .vmem, ⟨1, _⟩ => ⟨S768x1, .f32⟩
  | .local _ .vmem, ⟨2, _⟩ => ⟨S768x9216, .i8⟩
  | .local _ .vmem, ⟨3, _⟩ => ⟨S768x1, .f32⟩
  | _, _ => ⟨S768x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S768x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x9216 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Final.lean ====
abbrev S768x4608 : Shape := ⟨2, ![768, 4608]⟩
abbrev S4608 : Shape := ⟨1, ![4608]⟩
abbrev S1x4608 : Shape := ⟨2, ![1, 4608]⟩
abbrev S128x4608 : Shape := ⟨2, ![128, 4608]⟩
abbrev S128 : Shape := ⟨1, ![128]⟩
abbrev S128x1 : Shape := ⟨2, ![128, 1]⟩

abbrev nBuf : Space → Nat
  | .hbm => 5
  | .vmem => 7
  | .smem => 0
  | _ => 0

abbrev bufTy : (tb : Table) → Fin (tcTables nBuf tb) → BufTy
  | .hbm, ⟨0, _⟩ => ⟨S768x4608, .f32⟩
  | .hbm, ⟨1, _⟩ => ⟨S768x4608, .f32⟩
  | .hbm, ⟨2, _⟩ => ⟨S4608, .f32⟩
  | .hbm, ⟨3, _⟩ => ⟨S1x4608, .f32⟩
  | .hbm, ⟨4, _⟩ => ⟨S768x4608, .bf16⟩
  | .local _ .vmem, ⟨0, _⟩ => ⟨S128x4608, .f32⟩
  | .local _ .vmem, ⟨1, _⟩ => ⟨S128x4608, .f32⟩
  | .local _ .vmem, ⟨2, _⟩ => ⟨S128x4608, .f32⟩
  | .local _ .vmem, ⟨3, _⟩ => ⟨S128x4608, .f32⟩
  | .local _ .vmem, ⟨4, _⟩ => ⟨S1x4608, .f32⟩
  | .local _ .vmem, ⟨5, _⟩ => ⟨S128x4608, .bf16⟩
  | .local _ .vmem, ⟨6, _⟩ => ⟨S128x4608, .bf16⟩
  | _, _ => ⟨S768x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4608 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4608 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalRefIdeal.lean ====
abbrev S768x4608 : Shape := ⟨2, ![768, 4608]⟩
abbrev S4608 : Shape := ⟨1, ![4608]⟩
abbrev S1x4608 : Shape := ⟨2, ![1, 4608]⟩
abbrev S_ : Shape := ⟨0, ![]⟩
abbrev S768 : Shape := ⟨1, ![768]⟩
abbrev S768x1 : Shape := ⟨2, ![768, 1]⟩

abbrev nBuf : Space → Nat
  | .hbm => 24
  | .vmem => 0
  | .smem => 0
  | _ => 0

abbrev bufTy : (tb : Table) → Fin (tcTables nBuf tb) → BufTy
  | .hbm, ⟨0, _⟩ => ⟨S768x4608, .f32⟩
  | .hbm, ⟨1, _⟩ => ⟨S768x4608, .f32⟩
  | .hbm, ⟨2, _⟩ => ⟨S4608, .f32⟩
  | .hbm, ⟨3, _⟩ => ⟨S1x4608, .f32⟩
  | .hbm, ⟨4, _⟩ => ⟨S768x4608, .f32⟩
  | .hbm, ⟨5, _⟩ => ⟨S_, .f32⟩
  | .hbm, ⟨6, _⟩ => ⟨S768, .f32⟩
  | .hbm, ⟨7, _⟩ => ⟨S768x1, .f32⟩
  | .hbm, ⟨8, _⟩ => ⟨S_, .f32⟩
  | .hbm, ⟨9, _⟩ => ⟨S768x1, .f32⟩
  | .hbm, ⟨10, _⟩ => ⟨S768x1, .f32⟩
  | .hbm, ⟨11, _⟩ => ⟨S_, .f32⟩
  | .hbm, ⟨12, _⟩ => ⟨S768x1, .f32⟩
  | .hbm, ⟨13, _⟩ => ⟨S768x1, .f32⟩
  | .hbm, ⟨14, _⟩ => ⟨S768x1, .f32⟩
  | .hbm, ⟨15, _⟩ => ⟨S768x4608, .f32⟩
  | .hbm, ⟨16, _⟩ => ⟨S768x4608, .f32⟩
  | .hbm, ⟨17, _⟩ => ⟨S_, .f32⟩
  | .hbm, ⟨18, _⟩ => ⟨S1x4608, .f32⟩
  | .hbm, ⟨19, _⟩ => ⟨S1x4608, .f32⟩
  | .hbm, ⟨20, _⟩ => ⟨S768x4608, .f32⟩
  | .hbm, ⟨21, _⟩ => ⟨S768x4608, .f32⟩
  | .hbm, ⟨22, _⟩ => ⟨S768x4608, .f32⟩
  | .hbm, ⟨23, _⟩ => ⟨S768x4608, .bf16⟩
  | _, _ => ⟨S768x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Qkv.lean ====
abbrev S768x4608 : Shape := ⟨2, ![768, 4608]⟩
abbrev S768x64 : Shape := ⟨2, ![768, 64]⟩
abbrev S4608 : Shape := ⟨1, ![4608]⟩
abbrev S4608x2048 : Shape := ⟨2, ![4608, 2048]⟩
abbrev S2048 : Shape := ⟨1, ![2048]⟩
abbrev S4 : Shape := ⟨1, ![4]⟩
abbrev S1x4608 : Shape := ⟨2, ![1, 4608]⟩
abbrev S1x2048 : Shape := ⟨2, ![1, 2048]⟩
abbrev S1x4 : Shape := ⟨2, ![1, 4]⟩
abbrev S768x1 : Shape := ⟨2, ![768, 1]⟩
abbrev S768x1024 : Shape := ⟨2, ![768, 1024]⟩
abbrev S768x512 : Shape := ⟨2, ![768, 512]⟩
abbrev S256x4608 : Shape := ⟨2, ![256, 4608]⟩
abbrev S256x64 : Shape := ⟨2, ![256, 64]⟩
abbrev S256x1 : Shape := ⟨2, ![256, 1]⟩
abbrev S256x1024 : Shape := ⟨2, ![256, 1024]⟩
abbrev S256x512 : Shape := ⟨2, ![256, 512]⟩
abbrev S256 : Shape := ⟨1, ![256]⟩
abbrev S256x128 : Shape := ⟨2, ![256, 128]⟩
abbrev S4608x512 : Shape := ⟨2, ![4608, 512]⟩
abbrev S1x512 : Shape := ⟨2, ![1, 512]⟩
abbrev S1x1 : Shape := ⟨2, ![1, 1]⟩

abbrev nBuf : Space → Nat
  | .hbm => 17
  | .vmem => 19
  | .smem => 2
  | _ => 0

abbrev bufTy : (tb : Table) → Fin (tcTables nBuf tb) → BufTy
  | .hbm, ⟨0, _⟩ => ⟨S768x4608, .bf16⟩
  | .hbm, ⟨1, _⟩ => ⟨S768x64, .f32⟩
  | .hbm, ⟨2, _⟩ => ⟨S768x64, .f32⟩
  | .hbm, ⟨3, _⟩ => ⟨S4608, .f32⟩
  | .hbm, ⟨4, _⟩ => ⟨S4608x2048, .i8⟩
  | .hbm, ⟨5, _⟩ => ⟨S2048, .f32⟩
  | .hbm, ⟨6, _⟩ => ⟨S4, .f32⟩
  | .hbm, ⟨7, _⟩ => ⟨S4, .f32⟩
  | .hbm, ⟨8, _⟩ => ⟨S1x4608, .f32⟩
  | .hbm, ⟨9, _⟩ => ⟨S1x2048, .f32⟩
  | .hbm, ⟨10, _⟩ => ⟨S1x4, .f32⟩
  | .hbm, ⟨11, _⟩ => ⟨S1x4, .f32⟩
  | .hbm, ⟨12, _⟩ => ⟨S768x4608, .i8⟩
  | .hbm, ⟨13, _⟩ => ⟨S768x1, .f32⟩
  | .hbm, ⟨14, _⟩ => ⟨S768x1024, .bf16⟩
  | .hbm, ⟨15, _⟩ => ⟨S768x512, .fp8e4m3⟩
  | .hbm, ⟨16, _⟩ => ⟨S768x512, .fp8e4m3⟩
  | .local _ .vmem, ⟨0, _⟩ => ⟨S256x4608, .bf16⟩
  | .local _ .vmem, ⟨1, _⟩ => ⟨S256x4608, .bf16⟩
  | .local _ .vmem, ⟨2, _⟩ => ⟨S1x4608, .f32⟩
  | .local _ .vmem, ⟨3, _⟩ => ⟨S4608x2048, .i8⟩
  | .local _ .vmem, ⟨4, _⟩ => ⟨S1x2048, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x4608, .i8⟩
  | .local _ .vmem, ⟨10, _⟩ => ⟨S256x4608, .i8⟩
  | .local _ .vmem, ⟨11, _⟩ => ⟨S256x1, .f32⟩
  | .local _ .vmem, ⟨12, _⟩ => ⟨S256x1, .f32⟩
  | .local _ .vmem, ⟨13, _⟩ => ⟨S256x1024, .bf16⟩
  | .local _ .vmem, ⟨14, _⟩ => ⟨S256x1024, .bf16⟩
  | .local _ .vmem, ⟨15, _⟩ => ⟨S256x512, .fp8e4m3⟩
  | .local _ .vmem, ⟨16, _⟩ => ⟨S256x512, .fp8e4m3⟩
  | .local _ .vmem, ⟨17, _⟩ => ⟨S256x512, .fp8e4m3⟩
  | .local _ .vmem, ⟨18, _⟩ => ⟨S256x512, .fp8e4m3⟩
  | .local _ .smem, ⟨0, _⟩ => ⟨S1x4, .f32⟩
  | .local _ .smem, ⟨1, _⟩ => ⟨S1x4, .f32⟩
  | _, _ => ⟨S768x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4608 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4608x2048 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4608 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== QkvRefIdeal.lean ====
abbrev S768x4608 : Shape := ⟨2, ![768, 4608]⟩
abbrev S768x64 : Shape := ⟨2, ![768, 64]⟩
abbrev S4608 : Shape := ⟨1, ![4608]⟩
abbrev S4608x2048 : Shape := ⟨2, ![4608, 2048]⟩
abbrev S2048 : Shape := ⟨1, ![2048]⟩
abbrev S4 : Shape := ⟨1, ![4]⟩
abbrev S1x4608 : Shape := ⟨2, ![1, 4608]⟩
abbrev S1x2048 : Shape := ⟨2, ![1, 2048]⟩
abbrev S1x4 : Shape := ⟨2, ![1, 4]⟩
abbrev S768x1 : Shape := ⟨2, ![768, 1]⟩
abbrev S768x1024 : Shape := ⟨2, ![768, 1024]⟩
abbrev S768x512 : Shape := ⟨2, ![768, 512]⟩
abbrev S768 : Shape := ⟨1, ![768]⟩
abbrev S768x2048 : Shape := ⟨2, ![768, 2048]⟩
abbrev S768x128 : Shape := ⟨2, ![768, 128]⟩
abbrev S1x1 : Shape := ⟨2, ![1, 1]⟩

abbrev nBuf : Space → Nat
  | .hbm => 17
  | .vmem => 13
  | .smem => 0
  | _ => 0

abbrev bufTy : (tb : Table) → Fin (tcTables nBuf tb) → BufTy
  | .hbm, ⟨0, _⟩ => ⟨S768x4608, .bf16⟩
  | .hbm, ⟨1, _⟩ => ⟨S768x64, .f32⟩
  | .hbm, ⟨2, _⟩ => ⟨S768x64, .f32⟩
  | .hbm, ⟨3, _⟩ => ⟨S4608, .f32⟩
  | .hbm, ⟨4, _⟩ => ⟨S4608x2048, .i8⟩
  | .hbm, ⟨5, _⟩ => ⟨S2048, .f32⟩
  | .hbm, ⟨6, _⟩ => ⟨S4, .f32⟩
  | .hbm, ⟨7, _⟩ => ⟨S4, .f32⟩
  | .hbm, ⟨8, _⟩ => ⟨S1x4608, .f32⟩
  | .hbm, ⟨9, _⟩ => ⟨S1x2048, .f32⟩
  | .hbm, ⟨10, _⟩ => ⟨S1x4, .f32⟩
  | .hbm, ⟨11, _⟩ => ⟨S1x4, .f32⟩
  | .hbm, ⟨12, _⟩ => ⟨S768x4608, .i8⟩
  | .hbm, ⟨13, _⟩ => ⟨S768x1, .f32⟩
  | .hbm, ⟨14, _⟩ => ⟨S768x1024, .bf16⟩
  | .hbm, ⟨15, _⟩ => ⟨S768x512, .fp8e4m3⟩
  | .hbm, ⟨16, _⟩ => ⟨S768x512, .fp8e4m3⟩
  | .local _ .vmem, ⟨0, _⟩ => ⟨S768x4608, .bf16⟩
  | .local _ .vmem, ⟨1, _⟩ => ⟨S768x64, .f32⟩
  | .local _ .vmem, ⟨2, _⟩ => ⟨S768x64, .f32⟩
  | .local _ .vmem, ⟨3, _⟩ => ⟨S1x4608, .f32⟩
  | .local _ .vmem, ⟨4, _⟩ => ⟨S4608x2048, .i8⟩
  | .local _ .vmem, ⟨5, _⟩ => ⟨S1x2048, .f32⟩
  | .local _ .vmem, ⟨6, _⟩ => ⟨S1x4, .f32⟩
  | .local _ .vmem, ⟨7, _⟩ => ⟨S1x4, .f32⟩
  | .local _ .vmem, ⟨8, _⟩ => ⟨S768x4608, .i8⟩
  | .local _ .vmem, ⟨9, _⟩ => ⟨S768x1, .f32⟩
  | .local _ .vmem, ⟨10, _⟩ => ⟨S768x1024, .bf16⟩
  | .local _ .vmem, ⟨11, _⟩ => ⟨S768x512, .fp8e4m3⟩
  | .local _ .vmem, ⟨12, _⟩ => ⟨S768x512, .fp8e4m3⟩
  | _, _ => ⟨S768x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S768x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x2048 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768x4608 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S768x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S768x512 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S768x512 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Strassen.lean ====
module

public import Idealize.ShloMosaic.Lib.MatmulPlain
public import Idealize.ShloMosaic.Lib.ValueIdx
public import Idealize.ShloMosaic.PureOps.Ideal.Laws
public import Mathlib.Tactic.Ring
public import Mathlib.Algebra.BigOperators.Fin

@[expose] public section

set_option maxRecDepth 16384

noncomputable section

/-! The seven products of a two by two block product, and the four sums that give the block product back. Every entry is
    an integer, so the sums are sums of reals and the identity is the one of a ring. -/
namespace Strassen

open scoped BigOperators
open Idealize.ShloMosaic Idealize.ShloMosaic.ValueIdx

/-- A finite sum of reals, taken among the extended reals. -/
theorem coe_sum {ι : Type} [Fintype ι] (f : ι → ℝ) : ∑ k, ((f k : ℝ) : EReal) = ((∑ k, f k : ℝ) : EReal) := by
  classical
  induction (Finset.univ : Finset ι) using Finset.induction_on with
  | empty => simp
  | insert a s h ih => rw [Finset.sum_insert h, Finset.sum_insert h, ih, EReal.coe_add]

/-- The seven products, by number, of one row of the left operand's quadrants (half of the rows, half of the contracted
    axis) with one column of the right operand's (half of the contracted axis, half of the columns). -/
def prod {K : ℕ} (a b : ℕ → ℕ → Fin K → EReal) (p : ℕ) : EReal :=
  match p with
  | 0 => ∑ k, (a 0 0 k + a 1 1 k) * (b 0 0 k + b 1 1 k)
  | 1 => ∑ k, (a 1 0 k + a 1 1 k) * b 0 0 k
  | 2 => ∑ k, a 0 0 k * (b 0 1 k - b 1 1 k)
  | 3 => ∑ k, a 1 1 k * (b 1 0 k - b 0 0 k)
  | 4 => ∑ k, (a 0 0 k + a 0 1 k) * b 1 1 k
  | 5 => ∑ k, (a 1 0 k - a 0 0 k) * (b 0 0 k + b 0 1 k)
  | _ => ∑ k, (a 0 1 k - a 1 1 k) * (b 1 0 k + b 1 1 k)

/-- The four sums of products, by half of the rows and half of the columns. -/
def comb (m : ℕ → EReal) (h n : ℕ) : EReal :=
  match h, n with
  | 0, 0 => m 0 + m 3 - m 4 + m 6
  | 0, _ => m 2 + m 4
  | _, 0 => m 1 + m 3
  | _, _ => m 0 - m 1 + m 2 + m 5

/-- The four sums are the block product, when every entry is a real. -/
theorem comb_prod {K : ℕ} (a b : ℕ → ℕ → Fin K → ℝ) (h n : ℕ) (hh : h < 2) (hn : n < 2) :
    comb (prod (fun i j k => (a i j k : EReal)) (fun i j k => b i j k)) h n
      = ∑ k, (a h 0 k : EReal) * (b 0 n k : EReal) + ∑ k, (a h 1 k : EReal) * (b 1 n k : EReal) := by
  have e : (h = 0 ∨ h = 1) ∧ (n = 0 ∨ n = 1) := by omega
  obtain ⟨rfl | rfl, rfl | rfl⟩ := e <;>
  · simp only [comb, prod, ← EReal.coe_add, ← EReal.coe_sub, ← EReal.coe_mul, coe_sum]
    refine congrArg _ ?_
    simp only [← Finset.sum_add_distrib, ← Finset.sum_sub_distrib]
    exact Finset.sum_congr rfl fun k _ => by ring

/-- A sum over twice a range is the sum over its two halves. -/
theorem sum_halves {M : Type} [AddCommMonoid M] (K : ℕ) (f : Fin (K + K) → M) :
    ∑ k, f k = ∑ k : Fin K, f ⟨k.val, by omega⟩ + ∑ k : Fin K, f ⟨K + k.val, by omega⟩ :=
  Fin.sum_univ_add f

end Strassen
end
-- ==== Proof.Blocks.lean ====
module

public import Idealize.ShloMosaic.Lib.MatmulPlain
public import Idealize.ShloMosaic.Lib.ValueIdx
public import Idealize.ShloMosaic.Lib.Pipeline.Value
public import Idealize.ShloMosaic.PureOps.Ideal.Laws
public import proofs.«01_k».proof.Proof.Strassen

@[expose] public section

set_option maxRecDepth 16384

noncomputable section

/-! Arrays read at natural-number coordinates, and the vector operations the kernels use read at an index. -/
namespace Blocks

open scoped BigOperators
open Idealize.ShloMosaic Idealize.ShloMosaic.ValueIdx

section Read
variable {α : Type}

/-- A matrix read at natural-number coordinates (taken modulo the extents, which never matters below). -/
def at2 {n0 n1 : ℕ} [NeZero n0] [NeZero n1] (X : (⟨2, ![n0, n1]⟩ : Shape).Idx → α) (i j : ℕ) : α :=
  X (ix2 (Fin.ofNat n0 i) (Fin.ofNat n1 j))

/-- A stack of matrices read at natural-number coordinates. -/
def at3 {n0 n1 n2 : ℕ} [NeZero n0] [NeZero n1] [NeZero n2] (X : (⟨3, ![n0, n1, n2]⟩ : Shape).Idx → α) (i j k : ℕ) : α :=
  X (ix3 (Fin.ofNat n0 i) (Fin.ofNat n1 j) (Fin.ofNat n2 k))

/-- An element is the reading at its coordinates. -/
theorem at2_of {n0 n1 : ℕ} [NeZero n0] [NeZero n1] (X : (⟨2, ![n0, n1]⟩ : Shape).Idx → α) (y : (⟨2, ![n0, n1]⟩ : Shape).Idx)
    (i j : ℕ) (hi : (y 0).val = i) (hj : (y 1).val = j) : X y = at2 X i j := by
  subst hi hj
  refine congrArg X (funext fun a => Fin.ext ?_)
  match a with
  | ⟨0, _⟩ => exact (Nat.mod_eq_of_lt (y 0).isLt).symm
  | ⟨1, _⟩ => exact (Nat.mod_eq_of_lt (y 1).isLt).symm

/-- The same for a stack. -/
theorem at3_of {n0 n1 n2 : ℕ} [NeZero n0] [NeZero n1] [NeZero n2] (X : (⟨3, ![n0, n1, n2]⟩ : Shape).Idx → α)
    (y : (⟨3, ![n0, n1, n2]⟩ : Shape).Idx) (i j k : ℕ) (hi : (y 0).val = i) (hj : (y 1).val = j) (hk : (y 2).val = k) :
    X y = at3 X i j k := by
  subst hi hj hk
  refine congrArg X (funext fun a => Fin.ext ?_)
  match a with
  | ⟨0, _⟩ => exact (Nat.mod_eq_of_lt (y 0).isLt).symm
  | ⟨1, _⟩ => exact (Nat.mod_eq_of_lt (y 1).isLt).symm
  | ⟨2, _⟩ => exact (Nat.mod_eq_of_lt (y 2).isLt).symm

/-- A function of the coordinates, read at coordinates in range. -/
theorem at3_fn {n0 n1 n2 : ℕ} [NeZero n0] [NeZero n1] [NeZero n2] (f : ℕ → ℕ → ℕ → α) (i j k : ℕ) (hi : i < n0) (hj : j < n1)
    (hk : k < n2) : at3 (n0 := n0) (n1 := n1) (n2 := n2) (fun y => f (y 0).val (y 1).val (y 2).val) i j k = f i j k := by
  show f (i % n0) (j % n1) (k % n2) = _
  rw [Nat.mod_eq_of_lt hi, Nat.mod_eq_of_lt hj, Nat.mod_eq_of_lt hk]

/-- The same for a matrix. -/
theorem at2_fn {n0 n1 : ℕ} [NeZero n0] [NeZero n1] (f : ℕ → ℕ → α) (i j : ℕ) (hi : i < n0) (hj : j < n1) :
    at2 (n0 := n0) (n1 := n1) (fun y => f (y 0).val (y 1).val) i j = f i j := by
  show f (i % n0) (j % n1) = _
  rw [Nat.mod_eq_of_lt hi, Nat.mod_eq_of_lt hj]

end Read

section Load
variable {Val : EltTy → Type} {e : EltTy}

/-- A load through a rectangle of a matrix reads the element under its offsets. -/
theorem ld2 {n0 n1 : ℕ} [NeZero n0] [NeZero n1] (X : (⟨2, ![n0, n1]⟩ : Shape).Idx → Val e) (o0 o1 : ℕ) (size : Fin 2 → ℕ)
    (inb : ∀ a, (![o0, o1] : Fin 2 → ℕ) a + size a ≤ (⟨2, ![n0, n1]⟩ : Shape).size a)
    (x : (Rect.unit (s := ⟨2, ![n0, n1]⟩) ![o0, o1] size inb).shape.Idx) :
    View.ld X (Rect.unit (s := ⟨2, ![n0, n1]⟩) ![o0, o1] size inb) x = at2 X (o0 + (x 0).val) (o1 + (x 1).val) :=
  at2_of X _ _ _ (show o0 + 1 * (x 0).val = _ by omega) (show o1 + 1 * (x 1).val = _ by omega)

/-- A load through a rectangle of a stack reads the element under its offsets. -/
theorem ld3 {n0 n1 n2 : ℕ} [NeZero n0] [NeZero n1] [NeZero n2] (X : (⟨3, ![n0, n1, n2]⟩ : Shape).Idx → Val e) (o0 o1 o2 : ℕ)
    (size : Fin 3 → ℕ) (inb : ∀ a, (![o0, o1, o2] : Fin 3 → ℕ) a + size a ≤ (⟨3, ![n0, n1, n2]⟩ : Shape).size a)
    (x : (Rect.unit (s := ⟨3, ![n0, n1, n2]⟩) ![o0, o1, o2] size inb).shape.Idx) :
    View.ld X (Rect.unit (s := ⟨3, ![n0, n1, n2]⟩) ![o0, o1, o2] size inb) x
      = at3 X (o0 + (x 0).val) (o1 + (x 1).val) (o2 + (x 2).val) :=
  at3_of X _ _ _ _ (show o0 + 1 * (x 0).val = _ by omega) (show o1 + 1 * (x 1).val = _ by omega) (show o2 + 1 * (x 2).val = _ by omega)

end Load

/-- A matrix product into zeros, stored as a block of one matrix, read at an index. -/
theorem mm_apply {M K N : ℕ} {φ₁ φ₂ : FTy} (l : FVec Ideal ⟨2, ![M, K]⟩ φ₁) (r : FVec Ideal ⟨2, ![K, N]⟩ φ₂)
    (h : (⟨2, ![M, N]⟩ : Shape).ShapeCasts ⟨3, ![1, M, N]⟩) (x : (⟨3, ![1, M, N]⟩ : Shape).Idx) :
    shapeCast ⟨3, ![1, M, N]⟩ (matmul (DotDims.plain M K N) none l r (constant ⟨2, ![M, N]⟩ .f32 0x00000000#32)) h x
      = ∑ k : Fin K, l (ix2 (x 1) k) * r (ix2 k (x 2)) := by
  refine (shapeCast_addUnit_apply ![M, N] _ h x).trans ?_
  refine (congrArg _ (eq_ix2 (fun a : Fin 2 => x a.succ))).trans ?_
  refine (Ideal.matmul_plain_apply none l r _ (x 1) (x 2)).trans ?_
  show Ideal.ofBits .f32 0x00000000#32 + _ = _
  rw [Ideal.ofBits_zero_f32, zero_add]

/-- A matrix product into zeros read at an index. -/
theorem mm2_apply {M K N : ℕ} {φ₁ φ₂ : FTy} (l : FVec Ideal ⟨2, ![M, K]⟩ φ₁) (r : FVec Ideal ⟨2, ![K, N]⟩ φ₂)
    (x : (⟨2, ![M, N]⟩ : Shape).Idx) :
    matmul (DotDims.plain M K N) none l r (constant ⟨2, ![M, N]⟩ .f32 0x00000000#32) x
      = ∑ k : Fin K, l (ix2 (x 0) k) * r (ix2 k (x 1)) := by
  refine (congrArg _ (eq_ix2 x)).trans ?_
  refine (Ideal.matmul_plain_apply none l r _ (x 0) (x 1)).trans ?_
  show Ideal.ofBits .f32 0x00000000#32 + _ = _
  rw [Ideal.ofBits_zero_f32, zero_add]

section Layout
variable {α : Type}

/-- One matrix of a stack, without its unit axis, read at an index. -/
theorem drop_apply {M N : ℕ} (v : (⟨3, ![1, M, N]⟩ : Shape).Idx → α) (h : (⟨3, ![1, M, N]⟩ : Shape).ShapeCasts ⟨2, ![M, N]⟩)
    (x : (⟨2, ![M, N]⟩ : Shape).Idx) : shapeCast ⟨2, ![M, N]⟩ v h x = v (ix3 ⟨0, Nat.one_pos⟩ (x 0) (x 1)) := by
  refine (shapeCast_dropUnit_apply ![M, N] v h x).trans (congrArg v (funext fun a => ?_))
  match a with
  | ⟨0, _⟩ => rfl
  | ⟨1, _⟩ => rfl
  | ⟨2, _⟩ => rfl

/-- A column spread over columns, read at an index. -/
theorem col_apply {M N : ℕ} (hM : M ≠ 1) (v : (⟨2, ![M, 1]⟩ : Shape).Idx → α) (h : (⟨2, ![M, 1]⟩ : Shape).Broadcasts ⟨2, ![M, N]⟩)
    (x : (⟨2, ![M, N]⟩ : Shape).Idx) : broadcastTo ⟨2, ![M, N]⟩ v h x = v (ix2 (x 0) ⟨0, Nat.one_pos⟩) :=
  broadcastTo_apply v h x _ fun a => by
    match a with
    | ⟨0, _⟩ => exact (if_neg hM).symm
    | ⟨1, _⟩ => rfl

/-- A row spread over rows, read at an index. -/
theorem row_apply {M N : ℕ} (hN : N ≠ 1) (v : (⟨2, ![1, N]⟩ : Shape).Idx → α) (h : (⟨2, ![1, N]⟩ : Shape).Broadcasts ⟨2, ![M, N]⟩)
    (x : (⟨2, ![M, N]⟩ : Shape).Idx) : broadcastTo ⟨2, ![M, N]⟩ v h x = v (ix2 ⟨0, Nat.one_pos⟩ (x 1)) :=
  broadcastTo_apply v h x _ fun a => by
    match a with
    | ⟨0, _⟩ => rfl
    | ⟨1, _⟩ => exact (if_neg hN).symm

end Layout

/-- Two zero offsets, however spelt. -/
theorem zero2 : (![0, 0] : Fin 2 → ℕ) = fun _ => 0 := by
  funext a; match a with
  | ⟨0, _⟩ => rfl
  | ⟨1, _⟩ => rfl

/-- A load of a matrix that one whole store left reads the stored matrix. -/
theorem readCov_whole {n0 n1 : ℕ} {sig : RefSig} {κ : Kind} {sp : Space} {Val : EltTy → Type} {e : EltTy} [∀ e, Nonempty (Val e)]
    (v : View sig κ sp ⟨2, ![n0, n1]⟩ e)
    (inb : ∀ a, (![0, 0] : Fin 2 → ℕ) a + (![n0, n1] : Fin 2 → ℕ) a ≤ (⟨2, ![n0, n1]⟩ : Shape).size a)
    (w : (⟨2, ![n0, n1]⟩ : Shape).Idx → Val e) (r : Rect ⟨2, ![n0, n1]⟩) :
    v.readCov [(⟨Rect.unit (s := ⟨2, ![n0, n1]⟩) ![0, 0] ![n0, n1] inb, w⟩ : View.Piece Val ⟨2, ![n0, n1]⟩ e)] r.toLoadRect = View.ld w r := by
  rw [View.readCov_eq_canon_ld _ _ _ (fun y => ⟨_, List.mem_singleton_self _, View.mem_set_unit_zero zero2 inb y⟩)]
  exact congrArg (fun X => View.ld X r) (View.canon_unit_zero zero2 inb w)

/-- Equal factors have equal products … -/
theorem mul_eq {a b c d : EReal} (h : a = c) (h' : b = d) : a * b = c * d := h ▸ h' ▸ rfl
/-- … equal terms equal sums … -/
theorem add_eq {a b c d : EReal} (h : a = c) (h' : b = d) : a + b = c + d := h ▸ h' ▸ rfl
/-- … and equal differences. -/
theorem sub_eq {a b c d : EReal} (h : a = c) (h' : b = d) : a - b = c - d := h ▸ h' ▸ rfl

/-- The four sums read only the first seven products. -/
theorem comb_congr (f g : ℕ → EReal) (h n : ℕ) (e : ∀ p < 7, f p = g p) : Strassen.comb f h n = Strassen.comb g h n := by
  have e0 := e 0 (by omega); have e1 := e 1 (by omega); have e2 := e 2 (by omega); have e3 := e 3 (by omega)
  have e4 := e 4 (by omega); have e5 := e 5 (by omega); have e6 := e 6 (by omega)
  unfold Strassen.comb
  split <;> simp only [e0, e1, e2, e3, e4, e5, e6]

end Blocks
end
-- ==== Proof.Rows.lean ====
module

public import proofs.«01_k».proof.Proof.Blocks
public import Idealize.ShloMosaic.Lib.ValueLayoutCasts
public import Idealize.ShloMosaic.Lib.Pipeline.RowLoads

@[expose] public section

set_option maxRecDepth 16384

noncomputable section

/-! The greatest magnitude of a row, taken whole and taken tile by tile. -/
namespace Rows

open scoped BigOperators
open Idealize.ShloMosaic Idealize.ShloMosaic.ValueIdx

/-- An extended real's magnitude. -/
def mag (x : EReal) : EReal := max x (-x)

/-- The greatest magnitude of the first `n` values. -/
def peak (f : ℕ → EReal) (n : ℕ) : EReal := (Finset.range n).sup fun c => mag (f c)

theorem mag_nonneg (x : EReal) : 0 ≤ mag x := by
  rcases le_total 0 x with h | h
  · exact le_max_of_le_left h
  · exact le_max_of_le_right (EReal.neg_nonneg.mpr h)

/-- The greatest of the first `n` values of a function of naturals. -/
theorem sup_fin (g : ℕ → EReal) (n : ℕ) : (Finset.univ.sup fun k : Fin n => g k.val) = (Finset.range n).sup g :=
  le_antisymm
    (Finset.sup_le fun k _ => Finset.le_sup (f := g) (Finset.mem_range.mpr k.isLt))
    (Finset.sup_le fun c hc => Finset.le_sup (f := fun k : Fin n => g k.val) (Finset.mem_univ ⟨c, Finset.mem_range.mp hc⟩))

/-- The peak of `a + b` values is the greater of the first `a`'s and the next `b`'s. -/
theorem peak_add (f : ℕ → EReal) (a b : ℕ) : peak f (a + b) = max (peak f a) (peak (fun c => f (a + c)) b) := by
  refine le_antisymm (Finset.sup_le fun c hc => ?_) (max_le (Finset.sup_le fun c hc => ?_) (Finset.sup_le fun c hc => ?_))
  · have h := Finset.mem_range.mp hc
    rcases lt_or_ge c a with l | l
    · exact le_max_of_le_left (Finset.le_sup (f := fun c => mag (f c)) (Finset.mem_range.mpr l))
    · refine le_max_of_le_right ?_
      have e : c = a + (c - a) := by omega
      rw [e]
      exact Finset.le_sup (f := fun c => mag (f (a + c))) (Finset.mem_range.mpr (by omega))
  · exact Finset.le_sup (f := fun c => mag (f c)) (Finset.mem_range.mpr (by have := Finset.mem_range.mp hc; omega))
  · exact Finset.le_sup (f := fun c => mag (f c)) (Finset.mem_range.mpr (by have := Finset.mem_range.mp hc; omega))

/-- Only the values in range matter. -/
theorem peak_congr (f g : ℕ → EReal) (n : ℕ) (h : ∀ c < n, f c = g c) : peak f n = peak g n :=
  Finset.sup_congr rfl fun c hc => congrArg mag (h c (Finset.mem_range.mp hc))

theorem peak_zero (f : ℕ → EReal) : peak f 0 = ⊥ := rfl

/-- A peak of at least one value is not negative. -/
theorem peak_nonneg (f : ℕ → EReal) (n : ℕ) (h : 0 < n) : 0 ≤ peak f n :=
  (mag_nonneg (f 0)).trans (Finset.le_sup (f := fun c => mag (f c)) (Finset.mem_range.mpr h))

/-- The peak of zeros. -/
theorem peak_zeros (n : ℕ) : peak (fun _ => 0) n ≤ 0 := Finset.sup_le fun _ _ => by simp [mag]

/-- A row's maximum of magnitudes, kept as a column, read at an index. -/
theorem rowmax_apply {M N : ℕ} (v : FVec Ideal ⟨2, ![M, N]⟩ .f32) (h : (⟨2, ![M, N]⟩ : Shape).Reduces [1] ⟨1, ![M]⟩)
    (hφ : FKind.Formats .f32) (hacc : (0xFF800000#32 : BitVec 32) = FKind.maximumf.neutral .f32 hφ)
    (hc : (⟨1, ![M]⟩ : Shape).ShapeCasts ⟨2, ![M, 1]⟩) (x : (⟨2, ![M, 1]⟩ : Shape).Idx) :
    shapeCast ⟨2, ![M, 1]⟩ (multiReduction .maximumf [1] ⟨1, ![M]⟩ (absf v) 0xFF800000#32 h hφ hacc) hc x
      = Finset.univ.sup fun k : Fin N => mag (v (ix2 (x 0) k)) := by
  refine (congrArg _ (eq_ix2 x)).trans ((shapeCast_a_a1_apply _ hc (x 0) (x 1)).trans ?_)
  refine (Ideal.multiReduction_maximumf_single (absf v) _ h hφ hacc (ix1 (x 0))).trans ?_
  have hb : (FloatOps.ofBits (F := Ideal) .f32 0xFF800000#32 : EReal) = ⊥ := by
    show Ideal.ofBits .f32 0xFF800000#32 = ⊥
    simp [Ideal.ofBits, Ideal.ieee]
  rw [hb]
  show (Finset.univ : Finset (Fin N)).fold max ⊥ (fun k => mag (v (h.lift (ix1 (x 0)) k))) = _
  refine Finset.sup_congr rfl fun k _ => congrArg (fun y => mag (v y)) (funext fun a => ?_)
  match a with
  | ⟨0, _⟩ => rfl
  | ⟨1, _⟩ => rfl

/-- A load of a stack of matrices that one whole store left reads the stored stack. -/
theorem readCov_whole3 {n0 n1 n2 : ℕ} {sig : RefSig} {κ : Kind} {sp : Space} {Val : EltTy → Type} {e : EltTy} [∀ e, Nonempty (Val e)]
    (v : View sig κ sp ⟨3, ![n0, n1, n2]⟩ e)
    (inb : ∀ a, (![0, 0, 0] : Fin 3 → ℕ) a + (![n0, n1, n2] : Fin 3 → ℕ) a ≤ (⟨3, ![n0, n1, n2]⟩ : Shape).size a)
    (w : (⟨3, ![n0, n1, n2]⟩ : Shape).Idx → Val e) (r : Rect ⟨3, ![n0, n1, n2]⟩) :
    v.readCov [(⟨Rect.unit (s := ⟨3, ![n0, n1, n2]⟩) ![0, 0, 0] ![n0, n1, n2] inb, w⟩ : View.Piece Val ⟨3, ![n0, n1, n2]⟩ e)] r.toLoadRect = View.ld w r := by
  have z : (![0, 0, 0] : Fin 3 → ℕ) = fun _ => 0 := by
    funext a; match a with
    | ⟨0, _⟩ => rfl
    | ⟨1, _⟩ => rfl
    | ⟨2, _⟩ => rfl
  rw [View.readCov_eq_canon_ld _ _ _ (fun y => ⟨_, List.mem_singleton_self _, View.mem_set_unit_zero z inb y⟩)]
  exact congrArg (fun X => View.ld X r) (View.canon_unit_zero z inb w)

/-- A load of rows that the last store left alone reads the earlier stores. -/
theorem readCov_skip {m k k' : ℕ} {sig : RefSig} {κ : Kind} {sp : Space} {Val : EltTy → Type} {e : EltTy} [∀ e, Nonempty (Val e)]
    (v : View sig κ sp ⟨2, ![m, 1]⟩ e) (o o' : ℕ)
    (inb : ∀ a, (![o, 0] : Fin 2 → ℕ) a + (![k, 1] : Fin 2 → ℕ) a ≤ (⟨2, ![m, 1]⟩ : Shape).size a)
    (inb' : ∀ a, (![o', 0] : Fin 2 → ℕ) a + (![k', 1] : Fin 2 → ℕ) a ≤ (⟨2, ![m, 1]⟩ : Shape).size a)
    (x : (Rect.unit (s := ⟨2, ![m, 1]⟩) ![o, 0] ![k, 1] inb).shape.Idx → Val e) (L : List (View.Piece Val ⟨2, ![m, 1]⟩ e))
    (h : o + k ≤ o' ∨ o' + k' ≤ o) :
    v.readCov ((⟨Rect.unit (s := ⟨2, ![m, 1]⟩) ![o, 0] ![k, 1] inb, x⟩ : View.Piece Val ⟨2, ![m, 1]⟩ e) :: L)
        (Rect.unit (s := ⟨2, ![m, 1]⟩) ![o', 0] ![k', 1] inb').toLoadRect
      = v.readCov L (Rect.unit (s := ⟨2, ![m, 1]⟩) ![o', 0] ![k', 1] inb').toLoadRect :=
  View.readCov_cons_of_rows_disjoint (n := 1) v o o' h x L inb inb'

end Rows
end
-- ==== Proof.FfnTile.lean ====
module

public import proofs.«01_k».proof.Proof.Gen.FfnIdeal.Value
public import proofs.«01_k».proof.Proof.Rows
public import Idealize.ShloMosaic.Lib.Pipeline.CanonAppend

@[expose] public section

set_option maxRecDepth 16384

noncomputable section

/-! What one step of the gate and up projections leaves: in the scratch the seven products of its two tiles, in the activation
    block the gated activations of the products it found, in the column of magnitudes the greatest so far. -/
namespace Cert.FfnIdeal.Tile

open scoped BigOperators
open Cert.FfnIdeal Cert.FfnIdeal.Gen Idealize.ShloMosaic Idealize.ShloMosaic.TcCoe Idealize.ShloMosaic.Tactic Idealize.SL.Sem
open Idealize.ShloMosaic.ValueIdx Blocks Rows

/-- The left operand's quadrants at row `r`: half `i` of the rows, half `j` of the contracted axis. -/
def aQ (X : Vec Ideal S768x4608 .bf16) (r : ℕ) (i j : ℕ) (k : Fin 2304) : EReal := at2 X (384 * i + r) (2304 * j + k.val)

/-- The weight tiles' quadrants at column `c`: half `i` of the contracted axis, of the gate's tile or of the up tile. -/
def bQ (G U : Vec Ideal S4608x512 .i8) (c : ℕ) (i j : ℕ) (k : Fin 2304) : EReal :=
  (((at2 (if j = 0 then G else U) (2304 * i + k.val) c).toInt : ℝ) : EReal)

/-- The seven products of a pair of tiles, as one array. -/
def prods (X : Vec Ideal S768x4608 .bf16) (G U : Vec Ideal S4608x512 .i8) : Vec Ideal S7x384x512 .f32 :=
  fun y => (fun p r c => Strassen.prod (aQ X r) (bQ G U c) p) (y 0).val (y 1).val (y 2).val

/-- Piece `p` of the products' store restricts `prods`. -/
theorem piece (X : Vec Ideal S768x4608 .bf16) (G U : Vec Ideal S4608x512 .i8) (p : ℕ) (size : Fin 3 → ℕ) (hs : size = ![1, 384, 512])
    (inb : ∀ a, (![p, 0, 0] : Fin 3 → ℕ) a + size a ≤ S7x384x512.size a)
    (x : (Rect.unit (s := S7x384x512) ![p, 0, 0] size inb).shape.Idx) (v : EReal)
    (h : v = Strassen.prod (aQ X (x 1).val) (bQ G U (x 2).val) p) :
    v = prods X G U ((Rect.unit (s := S7x384x512) ![p, 0, 0] size inb).emb x) := by
  subst hs
  have h0 : (x 0).val < 1 := (x 0).isLt
  have e0 : p + 1 * (x 0).val = p := by omega
  have e1 : 0 + 1 * (x 1).val = (x 1).val := by omega
  have e2 : 0 + 1 * (x 2).val = (x 2).val := by omega
  refine h.trans ?_
  show _ = Strassen.prod (aQ X (0 + 1 * (x 1).val)) (bQ G U (0 + 1 * (x 2).val)) (p + 1 * (x 0).val)
  rw [e0, e1, e2]

/-- A load of the left operand's quadrant. -/
theorem aLd (X : Vec Ideal S768x4608 .bf16) (i j o0 o1 : ℕ) (h0 : o0 = 384 * i) (h1 : o1 = 2304 * j)
    (inb : ∀ a, (![o0, o1] : Fin 2 → ℕ) a + (![384, 2304] : Fin 2 → ℕ) a ≤ S768x4608.size a) (r : Fin 384) (k : Fin 2304) :
    View.ld X (Rect.unit (s := S768x4608) ![o0, o1] ![384, 2304] inb) (ix2 r k) = aQ X r.val i j k := by
  subst h0 h1; exact ld2 X _ _ _ inb _

/-- A load of half of the gate's weight tile, converted. -/
theorem bLdG (G U : Vec Ideal S4608x512 .i8) (i o0 : ℕ) (h0 : o0 = 2304 * i)
    (inb : ∀ a, (![o0, 0] : Fin 2 → ℕ) a + (![2304, 512] : Fin 2 → ℕ) a ≤ S4608x512.size a) (k : Fin 2304) (c : Fin 512) :
    (FloatOps.sitofp (F := Ideal) .bf16 (View.ld (Val := Elt Ideal) (e' := .i8) G (Rect.unit (s := S4608x512) ![o0, 0] ![2304, 512] inb) (ix2 k c)) : EReal)
      = bQ G U c.val i 0 k := by
  subst h0
  refine congrArg (fun z : BitVec 8 => (((z.toInt : ℝ) : EReal))) ((ld2 (Val := Elt Ideal) (e := .i8) G _ _ _ inb _).trans ?_)
  exact congrArg (at2 G (2304 * i + k.val)) (Nat.zero_add c.val)

/-- The same of the up tile. -/
theorem bLdU (G U : Vec Ideal S4608x512 .i8) (i o0 : ℕ) (h0 : o0 = 2304 * i)
    (inb : ∀ a, (![o0, 0] : Fin 2 → ℕ) a + (![2304, 512] : Fin 2 → ℕ) a ≤ S4608x512.size a) (k : Fin 2304) (c : Fin 512) :
    (FloatOps.sitofp (F := Ideal) .bf16 (View.ld (Val := Elt Ideal) (e' := .i8) U (Rect.unit (s := S4608x512) ![o0, 0] ![2304, 512] inb) (ix2 k c)) : EReal)
      = bQ G U c.val i 1 k := bLdG U U i o0 h0 inb k c

/-- The stores of the seven products, last first. -/
def stores (X : Vec Ideal S768x4608 .bf16) (G U : Vec Ideal S4608x512 .i8) : List (View.Piece (Elt Ideal) S7x384x512 .f32) :=
  [⟨Rect.unit ![6, 0, 0] ![1, 384, 512] inb_S7x384x512_S1x384x512_6_0_0,
      k0_pay2 (View.ld X (Rect.unit ![0, 2304] ![384, 2304] inb_S768x4608_S384x2304_0_2304))
      (View.ld X (Rect.unit ![384, 2304] ![384, 2304] inb_S768x4608_S384x2304_384_2304))
      (View.ld G (Rect.unit ![2304, 0] ![2304, 512] inb_S4608x512_S2304x512_2304_0))
      (View.ld U (Rect.unit ![2304, 0] ![2304, 512] inb_S4608x512_S2304x512_2304_0))⟩,
      ⟨Rect.unit ![5, 0, 0] ![1, 384, 512] inb_S7x384x512_S1x384x512_5_0_0,
      k0_pay1
      (k0_pay184 (View.ld X (Rect.unit ![384, 0] ![384, 2304] inb_S768x4608_S384x2304_384_0))
      (View.ld X (Rect.unit ![0, 0] ![384, 2304] inb_S768x4608_S384x2304_0_0))
      (View.ld G (Rect.unit ![0, 0] ![2304, 512] inb_S4608x512_S2304x512_0_0))
      (View.ld U (Rect.unit ![0, 0] ![2304, 512] inb_S4608x512_S2304x512_0_0)))⟩,
      ⟨Rect.unit ![4, 0, 0] ![1, 384, 512] inb_S7x384x512_S1x384x512_4_0_0,
      k0_pay183
      (k0_pay182 (View.ld X (Rect.unit ![0, 0] ![384, 2304] inb_S768x4608_S384x2304_0_0))
      (View.ld X (Rect.unit ![0, 2304] ![384, 2304] inb_S768x4608_S384x2304_0_2304))
      (View.ld U (Rect.unit ![2304, 0] ![2304, 512] inb_S4608x512_S2304x512_2304_0)))⟩,
      ⟨Rect.unit ![3, 0, 0] ![1, 384, 512] inb_S7x384x512_S1x384x512_3_0_0,
      k0_pay181 (View.ld X (Rect.unit ![384, 2304] ![384, 2304] inb_S768x4608_S384x2304_384_2304))
      (View.ld G (Rect.unit ![2304, 0] ![2304, 512] inb_S4608x512_S2304x512_2304_0))
      (View.ld G (Rect.unit ![0, 0] ![2304, 512] inb_S4608x512_S2304x512_0_0))⟩,
      ⟨Rect.unit ![2, 0, 0] ![1, 384, 512] inb_S7x384x512_S1x384x512_2_0_0,
      k0_pay180 (View.ld X (Rect.unit ![0, 0] ![384, 2304] inb_S768x4608_S384x2304_0_0))
      (View.ld U (Rect.unit ![0, 0] ![2304, 512] inb_S4608x512_S2304x512_0_0))
      (View.ld U (Rect.unit ![2304, 0] ![2304, 512] inb_S4608x512_S2304x512_2304_0))⟩,
      ⟨Rect.unit ![1, 0, 0] ![1, 384, 512] inb_S7x384x512_S1x384x512_1_0_0,
      k0_pay179
      (k0_pay178 (View.ld X (Rect.unit ![384, 0] ![384, 2304] inb_S768x4608_S384x2304_384_0))
      (View.ld X (Rect.unit ![384, 2304] ![384, 2304] inb_S768x4608_S384x2304_384_2304))
      (View.ld G (Rect.unit ![0, 0] ![2304, 512] inb_S4608x512_S2304x512_0_0)))⟩,
      ⟨Rect.unit ![0, 0, 0] ![1, 384, 512] inb_S7x384x512_S1x384x512_0_0_0,
      k0_pay177 (View.ld X (Rect.unit ![0, 0] ![384, 2304] inb_S768x4608_S384x2304_0_0))
      (View.ld X (Rect.unit ![384, 2304] ![384, 2304] inb_S768x4608_S384x2304_384_2304))
      (View.ld G (Rect.unit ![0, 0] ![2304, 512] inb_S4608x512_S2304x512_0_0))
      (View.ld U (Rect.unit ![2304, 0] ![2304, 512] inb_S4608x512_S2304x512_2304_0))⟩]

/-- They all restrict `prods`. -/
theorem stores_eq (X : Vec Ideal S768x4608 .bf16) (G U : Vec Ideal S4608x512 .i8) :
    ∀ p ∈ stores X G U, ∀ x : p.1.shape.Idx, p.2 x = prods X G U (p.1.emb x) := by
  unfold stores
  intro p hp
  simp only [List.mem_cons, List.not_mem_nil, or_false] at hp
  rcases hp with rfl | rfl | rfl | rfl | rfl | rfl | rfl
  · dsimp only
    intro x
    refine piece X G U 6 _ rfl inb_S7x384x512_S1x384x512_6_0_0 x _ ?_
    refine (mm_apply (subf _ _) (addf (sitofp _ _) (sitofp _ _)) _ x).trans (Finset.sum_congr rfl fun k _ => ?_)
    exact mul_eq (sub_eq (aLd X 0 1 _ _ rfl rfl _ _ _) (aLd X 1 1 _ _ rfl rfl _ _ _)) (add_eq (bLdG G U 1 _ rfl _ _ _) (bLdU G U 1 _ rfl _ _ _))
  · dsimp only
    intro x
    refine piece X G U 5 _ rfl inb_S7x384x512_S1x384x512_5_0_0 x _ ?_
    refine (mm_apply (subf _ _) (addf (sitofp _ _) (sitofp _ _)) _ x).trans (Finset.sum_congr rfl fun k _ => ?_)
    exact mul_eq (sub_eq (aLd X 1 0 _ _ rfl rfl _ _ _) (aLd X 0 0 _ _ rfl rfl _ _ _)) (add_eq (bLdG G U 0 _ rfl _ _ _) (bLdU G U 0 _ rfl _ _ _))
  · dsimp only
    intro x
    refine piece X G U 4 _ rfl inb_S7x384x512_S1x384x512_4_0_0 x _ ?_
    refine (mm_apply (addf _ _) (sitofp _ _) _ x).trans (Finset.sum_congr rfl fun k _ => ?_)
    exact mul_eq (add_eq (aLd X 0 0 _ _ rfl rfl _ _ _) (aLd X 0 1 _ _ rfl rfl _ _ _)) (bLdU G U 1 _ rfl _ _ _)
  · dsimp only
    intro x
    refine piece X G U 3 _ rfl inb_S7x384x512_S1x384x512_3_0_0 x _ ?_
    refine (mm_apply _ (subf (sitofp _ _) (sitofp _ _)) _ x).trans (Finset.sum_congr rfl fun k _ => ?_)
    exact mul_eq (aLd X 1 1 _ _ rfl rfl _ _ _) (sub_eq (bLdG G U 1 _ rfl _ _ _) (bLdG G U 0 _ rfl _ _ _))
  · dsimp only
    intro x
    refine piece X G U 2 _ rfl inb_S7x384x512_S1x384x512_2_0_0 x _ ?_
    refine (mm_apply _ (subf (sitofp _ _) (sitofp _ _)) _ x).trans (Finset.sum_congr rfl fun k _ => ?_)
    exact mul_eq (aLd X 0 0 _ _ rfl rfl _ _ _) (sub_eq (bLdU G U 0 _ rfl _ _ _) (bLdU G U 1 _ rfl _ _ _))
  · dsimp only
    intro x
    refine piece X G U 1 _ rfl inb_S7x384x512_S1x384x512_1_0_0 x _ ?_
    refine (mm_apply (addf _ _) (sitofp _ _) _ x).trans (Finset.sum_congr rfl fun k _ => ?_)
    exact mul_eq (add_eq (aLd X 1 0 _ _ rfl rfl _ _ _) (aLd X 1 1 _ _ rfl rfl _ _ _)) (bLdG G U 0 _ rfl _ _ _)
  · dsimp only
    intro x
    refine piece X G U 0 _ rfl inb_S7x384x512_S1x384x512_0_0_0 x _ ?_
    refine (mm_apply (addf _ _) (addf (sitofp _ _) (sitofp _ _)) _ x).trans (Finset.sum_congr rfl fun k _ => ?_)
    exact mul_eq (add_eq (aLd X 0 0 _ _ rfl rfl _ _ _) (aLd X 1 1 _ _ rfl rfl _ _ _)) (add_eq (bLdG G U 0 _ rfl _ _ _) (bLdU G U 1 _ rfl _ _ _))

/-- They cover the scratch. -/
theorem stores_cover (X : Vec Ideal S768x4608 .bf16) (G U : Vec Ideal S4608x512 .i8) (y : S7x384x512.Idx) : ∃ p ∈ stores X G U, y ∈ p.1.set :=
  View.cover_of_tiledL (stores X G U) S1x384x512.size (by sl_kernel_rfl) y

/-- What the products' scratch holds after a later step. -/
theorem scratch_B (c : Dev nD) (i arg1 harg1 arg2 harg2 arg3 harg3 arg4 harg4 arg5 harg5 arg6 harg6 arg7 harg7 arg8 harg8 arg9 harg9 arg10 harg10 hc0 x0 x1 x2 x3 x4 x5 xo7 xs0 xs1) :
    sout0_B_1 (F := Ideal) c i arg1 harg1 arg2 harg2 arg3 harg3 arg4 harg4 arg5 harg5 arg6 harg6 arg7 harg7 arg8 harg8 arg9 harg9 arg10 harg10 hc0 x0 x1 x2 x3 x4 x5 xo7 xs0 xs1 = prods xs0 x2 x4 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 x0 x1 x2 x3 x4 x5 xo7 xs0 xs1)]
  unfold kernelRun0_B; dsimp only; sl_unfold_words
  simp only [View.readAt_eq_ld, harg3.read_unread, harg5.read_unread, harg9.read_unread]
  funext y
  exact View.canon_apply_of_pieces (prods xs0 x2 x4) (stores xs0 x2 x4) (stores_eq xs0 x2 x4) y (stores_cover xs0 x2 x4 y)

/-- The same over an older store. -/
theorem canon_stores (X : Vec Ideal S768x4608 .bf16) (G U : Vec Ideal S4608x512 .i8) (q : View.Piece (Elt Ideal) S7x384x512 .f32) :
    View.canon (stores X G U ++ [q]) = prods X G U :=
  funext fun y => View.canon_append_of_pieces (prods X G U) [q] (stores X G U) (stores_eq X G U) y (stores_cover X G U y)

/-- The left operand as reals: each code's integer. -/
def wide (C : Vec Ideal S768x4608 .i8) : Vec Ideal S768x4608 .bf16 := fun y => (((C y).toInt : ℝ) : EReal)

/-- Its printed form. -/
theorem pay3_eq (C : Vec Ideal S768x4608 .i8) :
    k0_pay3 (View.ld C (Rect.unit ![0, 0] ![768, 4608] inb_S768x4608_S768x4608_0_0)) = wide C :=
  (shapeCast_self _ _).trans (congrArg wide (View.ld_unit_zero zero2 _ C))

/-- What the first step leaves in the left operand's scratch. -/
theorem scratch0_A (c : Dev nD) (i arg1 harg1 arg2 harg2 arg3 harg3 arg4 harg4 arg5 harg5 arg6 harg6 arg7 harg7 arg8 harg8 arg9 harg9 arg10 harg10 hc0 x0 x1 x2 x3 x4 x5) :
    sout0_A_0 (F := Ideal) c i arg1 harg1 arg2 harg2 arg3 harg3 arg4 harg4 arg5 harg5 arg6 harg6 arg7 harg7 arg8 harg8 arg9 harg9 arg10 harg10 hc0 x0 x1 x2 x3 x4 x5 = wide x0 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5)]
  unfold kernelRun0_A; dsimp only; sl_unfold_words
  simp only [View.readAt_eq_ld, harg1.read_unread]
  exact (View.canon_unit_zero zero2 _ _).trans (pay3_eq x0)

/-- What the first step leaves in the products' scratch. -/
theorem scratch_A (c : Dev nD) (i arg1 harg1 arg2 harg2 arg3 harg3 arg4 harg4 arg5 harg5 arg6 harg6 arg7 harg7 arg8 harg8 arg9 harg9 arg10 harg10 hc0 x0 x1 x2 x3 x4 x5) :
    sout0_A_1 (F := Ideal) c i arg1 harg1 arg2 harg2 arg3 harg3 arg4 harg4 arg5 harg5 arg6 harg6 arg7 harg7 arg8 harg8 arg9 harg9 arg10 harg10 hc0 x0 x1 x2 x3 x4 x5 = prods (wide x0) x2 x4 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 x0 x1 x2 x3 x4 x5)]
  unfold kernelRun0_A; dsimp only; sl_unfold_words
  simp only [View.readAt_eq_ld, harg1.read_unread, harg3.read_unread, harg5.read_unread]
  simp only [readCov_whole, pay3_eq]
  generalize wide x0 = X
  refine Eq.trans ?_ (canon_stores X x2 x4 ⟨Rect.unit ![0, 0, 0] ![7, 384, 512] inb_S7x384x512_S7x384x512_0_0_0, k0_pay4 (F := Ideal)⟩)
  simp only [stores, List.cons_append, List.nil_append]

/-! ## The activation block -/

/-- The tanh approximation of the gaussian error linear unit. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- One activation: the gate's sum `g` and the up sum `u`, under the token's scale and the channels' two. -/
def act (g u s a b : EReal) : EReal := gelu (g * s * a) * (u * s * b)

/-- The activation at row `r` and column `c` of a step that found the products `M`. -/
def cell (s : Vec Ideal S768x1 .f32) (a b : Vec Ideal S1x512 .f32) (M : Vec Ideal S7x384x512 .f32) (r c : ℕ) : EReal :=
  act (Strassen.comb (fun p => at3 M p (r % 384) c) (r / 384) 0) (Strassen.comb (fun p => at3 M p (r % 384) c) (r / 384) 1)
    (at2 s r 0) (at2 a 0 c) (at2 b 0 c)

/-- The activation block. -/
def block (s : Vec Ideal S768x1 .f32) (a b : Vec Ideal S1x512 .f32) (M : Vec Ideal S7x384x512 .f32) : Vec Ideal S768x512 .f32 := fun y => (fun r c => cell s a b M r c) (y 0).val (y 1).val

/-- The column of magnitudes, over what it held before. -/
def maxBlock (s : Vec Ideal S768x1 .f32) (a b : Vec Ideal S1x512 .f32) (M : Vec Ideal S7x384x512 .f32) (xo : Vec Ideal S768x1 .f32) : Vec Ideal S768x1 .f32 :=
  fun y => (fun r => max (at2 xo r 0) (peak (cell s a b M r) 512)) (y 0).val

theorem cell_at (s : Vec Ideal S768x1 .f32) (a b : Vec Ideal S1x512 .f32) (M : Vec Ideal S7x384x512 .f32) (r c r' c' : ℕ) (hr : r = r') (hc : c = c') : cell s a b M r c = cell s a b M r' c' := by
  rw [hr, hc]

/-- A block of 32 rows of activations, from the sums and the scales. -/
def chunk (U G : FVec Ideal S32x512 .f32) (sv : Vec Ideal S32x1 .f32) (av bv : Vec Ideal S1x512 .f32) : FVec Ideal S32x512 .f32 :=
  k0_pay16 U sv (mulf G (broadcastTo S32x512 sv broadcasts_S32x1_S32x512)) (k0_pay15 av) bv

/-- The sums and the scales at an index. -/
theorem chunk_act (U G : FVec Ideal S32x512 .f32) (sv : Vec Ideal S32x1 .f32) (av bv : Vec Ideal S1x512 .f32) (x : S32x512.Idx) :
    chunk U G sv av bv x = act (G x) (U x) (sv (ix2 (x 0) ⟨0, Nat.one_pos⟩)) (av (ix2 ⟨0, Nat.one_pos⟩ (x 1))) (bv (ix2 ⟨0, Nat.one_pos⟩ (x 1))) := by
  have es : broadcastTo S32x512 sv broadcasts_S32x1_S32x512 x = sv (ix2 (x 0) ⟨0, Nat.one_pos⟩) := col_apply (by decide) sv _ x
  have ea : broadcastTo S32x512 (shapeCast S1x512 av shapeCasts_S1x512_S1x512) broadcasts_S1x512_S32x512 x = av (ix2 ⟨0, Nat.one_pos⟩ (x 1)) :=
    (row_apply (by decide) _ _ x).trans (congrFun (shapeCast_self (s := S1x512) av _) _)
  have eb : broadcastTo S32x512 (shapeCast S1x512 bv shapeCasts_S1x512_S1x512) broadcasts_S1x512_S32x512 x = bv (ix2 ⟨0, Nat.one_pos⟩ (x 1)) :=
    (row_apply (by decide) _ _ x).trans (congrFun (shapeCast_self (s := S1x512) bv _) _)
  rw [← es, ← ea, ← eb]
  rfl

/-- The same where the scales are loaded and the sums are those of the products. -/
theorem chunk_apply (s : Vec Ideal S768x1 .f32) (a b : Vec Ideal S1x512 .f32) (M : Vec Ideal S7x384x512 .f32) (h o r0 : ℕ) (hr : r0 = 384 * h + o) (ho : o + 32 ≤ 384)
    (i1 : ∀ a, (![r0, 0] : Fin 2 → ℕ) a + (![32, 1] : Fin 2 → ℕ) a ≤ S768x1.size a)
    (i2 i3 : ∀ a, (![0, 0] : Fin 2 → ℕ) a + (![1, 512] : Fin 2 → ℕ) a ≤ S1x512.size a)
    (U G : FVec Ideal S32x512 .f32) (x : S32x512.Idx)
    (hG : G x = Strassen.comb (fun p => at3 M p (o + (x 0).val) (x 1).val) h 0)
    (hU : U x = Strassen.comb (fun p => at3 M p (o + (x 0).val) (x 1).val) h 1) :
    chunk U G (View.ld (Val := Elt Ideal) (e' := .f32) s (Rect.unit (s := S768x1) ![r0, 0] ![32, 1] i1)) (View.ld (Val := Elt Ideal) (e' := .f32) a (Rect.unit (s := S1x512) ![0, 0] ![1, 512] i2)) (View.ld (Val := Elt Ideal) (e' := .f32) b (Rect.unit (s := S1x512) ![0, 0] ![1, 512] i3)) x = cell s a b M (r0 + (x 0).val) (x 1).val := by
  have h0 : (x 0).val < 32 := (x 0).isLt
  have a1 : (r0 + (x 0).val) % 384 = o + (x 0).val := by omega
  have a2 : (r0 + (x 0).val) / 384 = h := by omega
  rw [chunk_act, cell, a1, a2, ← hG, ← hU]
  have e1 : View.ld (Val := Elt Ideal) (e' := .f32) s (Rect.unit (s := S768x1) ![r0, 0] ![32, 1] i1) (ix2 (x 0) ⟨0, Nat.one_pos⟩) = at2 s (r0 + (x 0).val) 0 :=
    ld2 s r0 0 _ i1 _
  have e2 : ∀ (w : Vec Ideal S1x512 .f32) i, View.ld (Val := Elt Ideal) (e' := .f32) w (Rect.unit (s := S1x512) ![0, 0] ![1, 512] i) (ix2 ⟨0, Nat.one_pos⟩ (x 1)) = at2 w 0 (x 1).val :=
    fun w i => (ld2 w 0 0 _ i _).trans (congrArg (at2 w 0) (Nat.zero_add _))
  rw [e1, e2, e2]

/-- One product's rows at an index. -/
theorem part (M : Vec Ideal S7x384x512 .f32) (p o : ℕ) (i : ∀ a, (![p, o, 0] : Fin 3 → ℕ) a + (![1, 32, 512] : Fin 3 → ℕ) a ≤ S7x384x512.size a)
    (x : S32x512.Idx) : (shapeCast S32x512 (View.ld (Val := Elt Ideal) (e' := .f32) M (Rect.unit (s := S7x384x512) ![p, o, 0] ![1, 32, 512] i)) shapeCasts_S1x32x512_S32x512) x = at3 M p (o + (x 0).val) (x 1).val :=
  (drop_apply _ _ x).trans ((ld3 (Val := Elt Ideal) (e := .f32) M p o 0 _ i _).trans (congrArg (at3 M p (o + (x 0).val)) (Nat.zero_add _)))

/-- The rows' greatest magnitudes, over what the column held. -/
theorem maxes (s : Vec Ideal S768x1 .f32) (a b : Vec Ideal S1x512 .f32) (M : Vec Ideal S7x384x512 .f32) (xo : Vec Ideal S768x1 .f32) (r0 : ℕ)
    (i0 i4 : ∀ a, (![r0, 0] : Fin 2 → ℕ) a + (![32, 1] : Fin 2 → ℕ) a ≤ S768x1.size a) (C : FVec Ideal S32x512 .f32) (x : S32x1.Idx)
    (hC : ∀ x, C x = cell s a b M (r0 + (x 0).val) (x 1).val) :
    maximumf (shapeCast S32x1 (View.ld (Val := Elt Ideal) (e' := .f32) xo (Rect.unit (s := S768x1) ![r0, 0] ![32, 1] i4)) shapeCasts_S32x1_S32x1)
        (shapeCast S32x1 (multiReduction .maximumf [1] S32 (absf C) 0xFF800000#32 reduces_S32x512_S32 (.inl rfl) rfl) shapeCasts_S32_S32x1) x
      = maxBlock s a b M xo ((Rect.unit (s := S768x1) ![r0, 0] ![32, 1] i0).emb x) := by
  have h1 : (x 1).val < 1 := (x 1).isLt
  have e1 : shapeCast S32x1 (View.ld (Val := Elt Ideal) (e' := .f32) xo (Rect.unit (s := S768x1) ![r0, 0] ![32, 1] i4)) shapeCasts_S32x1_S32x1 x = at2 xo (r0 + (x 0).val) 0 :=
    (congrFun (shapeCast_self (s := S32x1) _ _) _).trans ((ld2 xo r0 0 _ i4 _).trans (congrArg (at2 xo (r0 + (x 0).val)) (by omega)))
  have e2 : (Finset.univ.sup fun k : Fin 512 => mag (C (ix2 (x 0) k))) = peak (cell s a b M (r0 + (x 0).val)) 512 :=
    (Finset.sup_congr rfl fun k _ => congrArg mag (hC (ix2 (x 0) k))).trans (sup_fin (fun c => mag (cell s a b M (r0 + (x 0).val) c)) 512)
  have e3 : r0 + (x 0).val = r0 + 1 * (x 0).val := by omega
  show max (shapeCast S32x1 (View.ld (Val := Elt Ideal) (e' := .f32) xo (Rect.unit (s := S768x1) ![r0, 0] ![32, 1] i4)) shapeCasts_S32x1_S32x1 x) (shapeCast S32x1 (multiReduction .maximumf [1] S32 (absf C) 0xFF800000#32 reduces_S32x512_S32 (.inl rfl) rfl) shapeCasts_S32_S32x1 x) = max (at2 xo (r0 + 1 * (x 0).val) 0) (peak (cell s a b M (r0 + 1 * (x 0).val)) 512)
  refine (congr (congrArg max e1) ((rowmax_apply C _ _ _ _ x).trans e2)).trans ?_
  rw [e3]

/-- A block of 32 rows of half 0 restricts the block. -/
theorem act0 (s : Vec Ideal S768x1 .f32) (a b : Vec Ideal S1x512 .f32) (M : Vec Ideal S7x384x512 .f32) (o r0 : ℕ) (hr : r0 = 384 * 0 + o) (ho : o + 32 ≤ 384)
    (i0 : ∀ a, (![r0, 0] : Fin 2 → ℕ) a + (![32, 512] : Fin 2 → ℕ) a ≤ S768x512.size a)
    (i1 : ∀ a, (![r0, 0] : Fin 2 → ℕ) a + (![32, 1] : Fin 2 → ℕ) a ≤ S768x1.size a)
    (i2 i3 : ∀ a, (![0, 0] : Fin 2 → ℕ) a + (![1, 512] : Fin 2 → ℕ) a ≤ S1x512.size a)
    (j0 : ∀ a, (![0, o, 0] : Fin 3 → ℕ) a + (![1, 32, 512] : Fin 3 → ℕ) a ≤ S7x384x512.size a)
    (j1 : ∀ a, (![3, o, 0] : Fin 3 → ℕ) a + (![1, 32, 512] : Fin 3 → ℕ) a ≤ S7x384x512.size a)
    (j2 : ∀ a, (![4, o, 0] : Fin 3 → ℕ) a + (![1, 32, 512] : Fin 3 → ℕ) a ≤ S7x384x512.size a)
    (j3 : ∀ a, (![6, o, 0] : Fin 3 → ℕ) a + (![1, 32, 512] : Fin 3 → ℕ) a ≤ S7x384x512.size a)
    (j4 : ∀ a, (![2, o, 0] : Fin 3 → ℕ) a + (![1, 32, 512] : Fin 3 → ℕ) a ≤ S7x384x512.size a) (x : S32x512.Idx) :
    chunk (addf (shapeCast S32x512 (View.ld (Val := Elt Ideal) (e' := .f32) M (Rect.unit (s := S7x384x512) ![2, o, 0] ![1, 32, 512] j4)) shapeCasts_S1x32x512_S32x512) (shapeCast S32x512 (View.ld (Val := Elt Ideal) (e' := .f32) M (Rect.unit (s := S7x384x512) ![4, o, 0] ![1, 32, 512] j2)) shapeCasts_S1x32x512_S32x512)) (addf (subf (addf (shapeCast S32x512 (View.ld (Val := Elt Ideal) (e' := .f32) M (Rect.unit (s := S7x384x512) ![0, o, 0] ![1, 32, 512] j0)) shapeCasts_S1x32x512_S32x512) (shapeCast S32x512 (View.ld (Val := Elt Ideal) (e' := .f32) M (Rect.unit (s := S7x384x512) ![3, o, 0] ![1, 32, 512] j1)) shapeCasts_S1x32x512_S32x512)) (shapeCast S32x512 (View.ld (Val := Elt Ideal) (e' := .f32) M (Rect.unit (s := S7x384x512) ![4, o, 0] ![1, 32, 512] j2)) shapeCasts_S1x32x512_S32x512)) (shapeCast S32x512 (View.ld (Val := Elt Ideal) (e' := .f32) M (Rect.unit (s := S7x384x512) ![6, o, 0] ![1, 32, 512] j3)) shapeCasts_S1x32x512_S32x512))
        (View.ld (Val := Elt Ideal) (e' := .f32) s (Rect.unit (s := S768x1) ![r0, 0] ![32, 1] i1)) (View.ld (Val := Elt Ideal) (e' := .f32) a (Rect.unit (s := S1x512) ![0, 0] ![1, 512] i2)) (View.ld (Val := Elt Ideal) (e' := .f32) b (Rect.unit (s := S1x512) ![0, 0] ![1, 512] i3)) x
      = block s a b M ((Rect.unit (s := S768x512) ![r0, 0] ![32, 512] i0).emb x) :=
  (chunk_apply s a b M 0 o r0 hr ho i1 i2 i3 _ _ x (add_eq (sub_eq (add_eq (part M 0 o j0 x) (part M 3 o j1 x)) (part M 4 o j2 x)) (part M 6 o j3 x)) (add_eq (part M 2 o j4 x) (part M 4 o j2 x))).trans
    (cell_at s a b M _ _ _ _ (show r0 + (x 0).val = r0 + 1 * (x 0).val by omega) (show (x 1).val = 0 + 1 * (x 1).val by omega))

/-- A block of 32 rows of half 0 of the magnitudes restricts the column of magnitudes. -/
theorem max0 (s : Vec Ideal S768x1 .f32) (a b : Vec Ideal S1x512 .f32) (M : Vec Ideal S7x384x512 .f32) (xo : Vec Ideal S768x1 .f32) (o r0 : ℕ) (hr : r0 = 384 * 0 + o) (ho : o + 32 ≤ 384)
    (i0 : ∀ a, (![r0, 0] : Fin 2 → ℕ) a + (![32, 1] : Fin 2 → ℕ) a ≤ S768x1.size a)
    (i1 : ∀ a, (![r0, 0] : Fin 2 → ℕ) a + (![32, 1] : Fin 2 → ℕ) a ≤ S768x1.size a)
    (i2 i3 : ∀ a, (![0, 0] : Fin 2 → ℕ) a + (![1, 512] : Fin 2 → ℕ) a ≤ S1x512.size a)
    (j0 : ∀ a, (![0, o, 0] : Fin 3 → ℕ) a + (![1, 32, 512] : Fin 3 → ℕ) a ≤ S7x384x512.size a)
    (j1 : ∀ a, (![3, o, 0] : Fin 3 → ℕ) a + (![1, 32, 512] : Fin 3 → ℕ) a ≤ S7x384x512.size a)
    (j2 : ∀ a, (![4, o, 0] : Fin 3 → ℕ) a + (![1, 32, 512] : Fin 3 → ℕ) a ≤ S7x384x512.size a)
    (j3 : ∀ a, (![6, o, 0] : Fin 3 → ℕ) a + (![1, 32, 512] : Fin 3 → ℕ) a ≤ S7x384x512.size a)
    (j4 : ∀ a, (![2, o, 0] : Fin 3 → ℕ) a + (![1, 32, 512] : Fin 3 → ℕ) a ≤ S7x384x512.size a) (i4 : ∀ a, (![r0, 0] : Fin 2 → ℕ) a + (![32, 1] : Fin 2 → ℕ) a ≤ S768x1.size a) (x : S32x1.Idx) :
    maximumf (shapeCast S32x1 (View.ld (Val := Elt Ideal) (e' := .f32) xo (Rect.unit (s := S768x1) ![r0, 0] ![32, 1] i4)) shapeCasts_S32x1_S32x1)
        (shapeCast S32x1 (multiReduction .maximumf [1] S32 (absf (chunk (addf (shapeCast S32x512 (View.ld (Val := Elt Ideal) (e' := .f32) M (Rect.unit (s := S7x384x512) ![2, o, 0] ![1, 32, 512] j4)) shapeCasts_S1x32x512_S32x512) (shapeCast S32x512 (View.ld (Val := Elt Ideal) (e' := .f32) M (Rect.unit (s := S7x384x512) ![4, o, 0] ![1, 32, 512] j2)) shapeCasts_S1x32x512_S32x512)) (addf (subf (addf (shapeCast S32x512 (View.ld (Val := Elt Ideal) (e' := .f32) M (Rect.unit (s := S7x384x512) ![0, o, 0] ![1, 32, 512] j0)) shapeCasts_S1x32x512_S32x512) (shapeCast S32x512 (View.ld (Val := Elt Ideal) (e' := .f32) M (Rect.unit (s := S7x384x512) ![3, o, 0] ![1, 32, 512] j1)) shapeCasts_S1x32x512_S32x512)) (shapeCast S32x512 (View.ld (Val := Elt Ideal) (e' := .f32) M (Rect.unit (s := S7x384x512) ![4, o, 0] ![1, 32, 512] j2)) shapeCasts_S1x32x512_S32x512)) (shapeCast S32x512 (View.ld (Val := Elt Ideal) (e' := .f32) M (Rect.unit (s := S7x384x512) ![6, o, 0] ![1, 32, 512] j3)) shapeCasts_S1x32x512_S32x512))
          (View.ld (Val := Elt Ideal) (e' := .f32) s (Rect.unit (s := S768x1) ![r0, 0] ![32, 1] i1)) (View.ld (Val := Elt Ideal) (e' := .f32) a (Rect.unit (s := S1x512) ![0, 0] ![1, 512] i2)) (View.ld (Val := Elt Ideal) (e' := .f32) b (Rect.unit (s := S1x512) ![0, 0] ![1, 512] i3))))
          0xFF800000#32 reduces_S32x512_S32 (.inl rfl) rfl) shapeCasts_S32_S32x1) x
      = maxBlock s a b M xo ((Rect.unit (s := S768x1) ![r0, 0] ![32, 1] i0).emb x) :=
  maxes s a b M xo r0 i0 i4 _ x fun x => chunk_apply s a b M 0 o r0 hr ho i1 i2 i3 _ _ x (add_eq (sub_eq (add_eq (part M 0 o j0 x) (part M 3 o j1 x)) (part M 4 o j2 x)) (part M 6 o j3 x)) (add_eq (part M 2 o j4 x) (part M 4 o j2 x))

/-- A block of 32 rows of half 1 restricts the block. -/
theorem act1 (s : Vec Ideal S768x1 .f32) (a b : Vec Ideal S1x512 .f32) (M : Vec Ideal S7x384x512 .f32) (o r0 : ℕ) (hr : r0 = 384 * 1 + o) (ho : o + 32 ≤ 384)
    (i0 : ∀ a, (![r0, 0] : Fin 2 → ℕ) a + (![32, 512] : Fin 2 → ℕ) a ≤ S768x512.size a)
    (i1 : ∀ a, (![r0, 0] : Fin 2 → ℕ) a + (![32, 1] : Fin 2 → ℕ) a ≤ S768x1.size a)
    (i2 i3 : ∀ a, (![0, 0] : Fin 2 → ℕ) a + (![1, 512] : Fin 2 → ℕ) a ≤ S1x512.size a)
    (j0 : ∀ a, (![1, o, 0] : Fin 3 → ℕ) a + (![1, 32, 512] : Fin 3 → ℕ) a ≤ S7x384x512.size a)
    (j1 : ∀ a, (![3, o, 0] : Fin 3 → ℕ) a + (![1, 32, 512] : Fin 3 → ℕ) a ≤ S7x384x512.size a)
    (j2 : ∀ a, (![0, o, 0] : Fin 3 → ℕ) a + (![1, 32, 512] : Fin 3 → ℕ) a ≤ S7x384x512.size a)
    (j3 : ∀ a, (![2, o, 0] : Fin 3 → ℕ) a + (![1, 32, 512] : Fin 3 → ℕ) a ≤ S7x384x512.size a)
    (j4 : ∀ a, (![5, o, 0] : Fin 3 → ℕ) a + (![1, 32, 512] : Fin 3 → ℕ) a ≤ S7x384x512.size a) (x : S32x512.Idx) :
    chunk (addf (addf (subf (shapeCast S32x512 (View.ld (Val := Elt Ideal) (e' := .f32) M (Rect.unit (s := S7x384x512) ![0, o, 0] ![1, 32, 512] j2)) shapeCasts_S1x32x512_S32x512) (shapeCast S32x512 (View.ld (Val := Elt Ideal) (e' := .f32) M (Rect.unit (s := S7x384x512) ![1, o, 0] ![1, 32, 512] j0)) shapeCasts_S1x32x512_S32x512)) (shapeCast S32x512 (View.ld (Val := Elt Ideal) (e' := .f32) M (Rect.unit (s := S7x384x512) ![2, o, 0] ![1, 32, 512] j3)) shapeCasts_S1x32x512_S32x512)) (shapeCast S32x512 (View.ld (Val := Elt Ideal) (e' := .f32) M (Rect.unit (s := S7x384x512) ![5, o, 0] ![1, 32, 512] j4)) shapeCasts_S1x32x512_S32x512)) (addf (shapeCast S32x512 (View.ld (Val := Elt Ideal) (e' := .f32) M (Rect.unit (s := S7x384x512) ![1, o, 0] ![1, 32, 512] j0)) shapeCasts_S1x32x512_S32x512) (shapeCast S32x512 (View.ld (Val := Elt Ideal) (e' := .f32) M (Rect.unit (s := S7x384x512) ![3, o, 0] ![1, 32, 512] j1)) shapeCasts_S1x32x512_S32x512))
        (View.ld (Val := Elt Ideal) (e' := .f32) s (Rect.unit (s := S768x1) ![r0, 0] ![32, 1] i1)) (View.ld (Val := Elt Ideal) (e' := .f32) a (Rect.unit (s := S1x512) ![0, 0] ![1, 512] i2)) (View.ld (Val := Elt Ideal) (e' := .f32) b (Rect.unit (s := S1x512) ![0, 0] ![1, 512] i3)) x
      = block s a b M ((Rect.unit (s := S768x512) ![r0, 0] ![32, 512] i0).emb x) :=
  (chunk_apply s a b M 1 o r0 hr ho i1 i2 i3 _ _ x (add_eq (part M 1 o j0 x) (part M 3 o j1 x)) (add_eq (add_eq (sub_eq (part M 0 o j2 x) (part M 1 o j0 x)) (part M 2 o j3 x)) (part M 5 o j4 x))).trans
    (cell_at s a b M _ _ _ _ (show r0 + (x 0).val = r0 + 1 * (x 0).val by omega) (show (x 1).val = 0 + 1 * (x 1).val by omega))

/-- A block of 32 rows of half 1 of the magnitudes restricts the column of magnitudes. -/
theorem max1 (s : Vec Ideal S768x1 .f32) (a b : Vec Ideal S1x512 .f32) (M : Vec Ideal S7x384x512 .f32) (xo : Vec Ideal S768x1 .f32) (o r0 : ℕ) (hr : r0 = 384 * 1 + o) (ho : o + 32 ≤ 384)
    (i0 : ∀ a, (![r0, 0] : Fin 2 → ℕ) a + (![32, 1] : Fin 2 → ℕ) a ≤ S768x1.size a)
    (i1 : ∀ a, (![r0, 0] : Fin 2 → ℕ) a + (![32, 1] : Fin 2 → ℕ) a ≤ S768x1.size a)
    (i2 i3 : ∀ a, (![0, 0] : Fin 2 → ℕ) a + (![1, 512] : Fin 2 → ℕ) a ≤ S1x512.size a)
    (j0 : ∀ a, (![1, o, 0] : Fin 3 → ℕ) a + (![1, 32, 512] : Fin 3 → ℕ) a ≤ S7x384x512.size a)
    (j1 : ∀ a, (![3, o, 0] : Fin 3 → ℕ) a + (![1, 32, 512] : Fin 3 → ℕ) a ≤ S7x384x512.size a)
    (j2 : ∀ a, (![0, o, 0] : Fin 3 → ℕ) a + (![1, 32, 512] : Fin 3 → ℕ) a ≤ S7x384x512.size a)
    (j3 : ∀ a, (![2, o, 0] : Fin 3 → ℕ) a + (![1, 32, 512] : Fin 3 → ℕ) a ≤ S7x384x512.size a)
    (j4 : ∀ a, (![5, o, 0] : Fin 3 → ℕ) a + (![1, 32, 512] : Fin 3 → ℕ) a ≤ S7x384x512.size a) (i4 : ∀ a, (![r0, 0] : Fin 2 → ℕ) a + (![32, 1] : Fin 2 → ℕ) a ≤ S768x1.size a) (x : S32x1.Idx) :
    maximumf (shapeCast S32x1 (View.ld (Val := Elt Ideal) (e' := .f32) xo (Rect.unit (s := S768x1) ![r0, 0] ![32, 1] i4)) shapeCasts_S32x1_S32x1)
        (shapeCast S32x1 (multiReduction .maximumf [1] S32 (absf (chunk (addf (addf (subf (shapeCast S32x512 (View.ld (Val := Elt Ideal) (e' := .f32) M (Rect.unit (s := S7x384x512) ![0, o, 0] ![1, 32, 512] j2)) shapeCasts_S1x32x512_S32x512) (shapeCast S32x512 (View.ld (Val := Elt Ideal) (e' := .f32) M (Rect.unit (s := S7x384x512) ![1, o, 0] ![1, 32, 512] j0)) shapeCasts_S1x32x512_S32x512)) (shapeCast S32x512 (View.ld (Val := Elt Ideal) (e' := .f32) M (Rect.unit (s := S7x384x512) ![2, o, 0] ![1, 32, 512] j3)) shapeCasts_S1x32x512_S32x512)) (shapeCast S32x512 (View.ld (Val := Elt Ideal) (e' := .f32) M (Rect.unit (s := S7x384x512) ![5, o, 0] ![1, 32, 512] j4)) shapeCasts_S1x32x512_S32x512)) (addf (shapeCast S32x512 (View.ld (Val := Elt Ideal) (e' := .f32) M (Rect.unit (s := S7x384x512) ![1, o, 0] ![1, 32, 512] j0)) shapeCasts_S1x32x512_S32x512) (shapeCast S32x512 (View.ld (Val := Elt Ideal) (e' := .f32) M (Rect.unit (s := S7x384x512) ![3, o, 0] ![1, 32, 512] j1)) shapeCasts_S1x32x512_S32x512))
          (View.ld (Val := Elt Ideal) (e' := .f32) s (Rect.unit (s := S768x1) ![r0, 0] ![32, 1] i1)) (View.ld (Val := Elt Ideal) (e' := .f32) a (Rect.unit (s := S1x512) ![0, 0] ![1, 512] i2)) (View.ld (Val := Elt Ideal) (e' := .f32) b (Rect.unit (s := S1x512) ![0, 0] ![1, 512] i3))))
          0xFF800000#32 reduces_S32x512_S32 (.inl rfl) rfl) shapeCasts_S32_S32x1) x
      = maxBlock s a b M xo ((Rect.unit (s := S768x1) ![r0, 0] ![32, 1] i0).emb x) :=
  maxes s a b M xo r0 i0 i4 _ x fun x => chunk_apply s a b M 1 o r0 hr ho i1 i2 i3 _ _ x (add_eq (part M 1 o j0 x) (part M 3 o j1 x)) (add_eq (add_eq (sub_eq (part M 0 o j2 x) (part M 1 o j0 x)) (part M 2 o j3 x)) (part M 5 o j4 x))

/-- The activation block a later step leaves. -/
theorem act_B (c : Dev nD) (i arg1 harg1 arg2 harg2 arg3 harg3 arg4 harg4 arg5 harg5 arg6 harg6 arg7 harg7 arg8 harg8 arg9 harg9 arg10 harg10 hc0 x0 x1 x2 x3 x4 x5 xo7 xs0 xs1) :
    out0_B_6 (F := Ideal) c i arg1 harg1 arg2 harg2 arg3 harg3 arg4 harg4 arg5 harg5 arg6 harg6 arg7 harg7 arg8 harg8 arg9 harg9 arg10 harg10 hc0 x0 x1 x2 x3 x4 x5 xo7 xs0 xs1 = block x1 x3 x5 xs1 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 x4 x5 xo7 xs0 xs1)]
  have hcov := cover0_B_6 (F := Ideal) c i arg1 harg1 arg2 harg2 arg3 harg3 arg4 harg4 arg5 harg5 arg6 harg6 arg7 harg7 arg8 harg8 arg9 harg9 arg10 harg10 hc0 x0 x1 x2 x3 x4 x5 xo7 xs0 xs1
  revert hcov
  unfold kernelRun0_B; dsimp only; sl_unfold_words
  simp only [View.readAt_eq_ld, harg2.read_unread, harg4.read_unread, harg6.read_unread, harg10.read_unread]
  intro hcov
  funext y
  refine View.canon_apply_of_pieces (block x1 x3 x5 xs1) _ ?_ y (hcov y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl
  · exact fun x => act1 _ _ _ _ 352 736 rfl (by decide) inb_S768x512_S32x512_736_0 inb_S768x1_S32x1_736_0 inb_S1x512_S1x512_0_0 inb_S1x512_S1x512_0_0 inb_S7x384x512_S1x32x512_1_352_0 inb_S7x384x512_S1x32x512_3_352_0 inb_S7x384x512_S1x32x512_0_352_0 inb_S7x384x512_S1x32x512_2_352_0 inb_S7x384x512_S1x32x512_5_352_0 x
  · exact fun x => act0 _ _ _ _ 352 352 rfl (by decide) inb_S768x512_S32x512_352_0 inb_S768x1_S32x1_352_0 inb_S1x512_S1x512_0_0 inb_S1x512_S1x512_0_0 inb_S7x384x512_S1x32x512_0_352_0 inb_S7x384x512_S1x32x512_3_352_0 inb_S7x384x512_S1x32x512_4_352_0 inb_S7x384x512_S1x32x512_6_352_0 inb_S7x384x512_S1x32x512_2_352_0 x
  · exact fun x => act1 _ _ _ _ 320 704 rfl (by decide) inb_S768x512_S32x512_704_0 inb_S768x1_S32x1_704_0 inb_S1x512_S1x512_0_0 inb_S1x512_S1x512_0_0 inb_S7x384x512_S1x32x512_1_320_0 inb_S7x384x512_S1x32x512_3_320_0 inb_S7x384x512_S1x32x512_0_320_0 inb_S7x384x512_S1x32x512_2_320_0 inb_S7x384x512_S1x32x512_5_320_0 x
  · exact fun x => act0 _ _ _ _ 320 320 rfl (by decide) inb_S768x512_S32x512_320_0 inb_S768x1_S32x1_320_0 inb_S1x512_S1x512_0_0 inb_S1x512_S1x512_0_0 inb_S7x384x512_S1x32x512_0_320_0 inb_S7x384x512_S1x32x512_3_320_0 inb_S7x384x512_S1x32x512_4_320_0 inb_S7x384x512_S1x32x512_6_320_0 inb_S7x384x512_S1x32x512_2_320_0 x
  · exact fun x => act1 _ _ _ _ 288 672 rfl (by decide) inb_S768x512_S32x512_672_0 inb_S768x1_S32x1_672_0 inb_S1x512_S1x512_0_0 inb_S1x512_S1x512_0_0 inb_S7x384x512_S1x32x512_1_288_0 inb_S7x384x512_S1x32x512_3_288_0 inb_S7x384x512_S1x32x512_0_288_0 inb_S7x384x512_S1x32x512_2_288_0 inb_S7x384x512_S1x32x512_5_288_0 x
  · exact fun x => act0 _ _ _ _ 288 288 rfl (by decide) inb_S768x512_S32x512_288_0 inb_S768x1_S32x1_288_0 inb_S1x512_S1x512_0_0 inb_S1x512_S1x512_0_0 inb_S7x384x512_S1x32x512_0_288_0 inb_S7x384x512_S1x32x512_3_288_0 inb_S7x384x512_S1x32x512_4_288_0 inb_S7x384x512_S1x32x512_6_288_0 inb_S7x384x512_S1x32x512_2_288_0 x
  · exact fun x => act1 _ _ _ _ 256 640 rfl (by decide) inb_S768x512_S32x512_640_0 inb_S768x1_S32x1_640_0 inb_S1x512_S1x512_0_0 inb_S1x512_S1x512_0_0 inb_S7x384x512_S1x32x512_1_256_0 inb_S7x384x512_S1x32x512_3_256_0 inb_S7x384x512_S1x32x512_0_256_0 inb_S7x384x512_S1x32x512_2_256_0 inb_S7x384x512_S1x32x512_5_256_0 x
  · exact fun x => act0 _ _ _ _ 256 256 rfl (by decide) inb_S768x512_S32x512_256_0 inb_S768x1_S32x1_256_0 inb_S1x512_S1x512_0_0 inb_S1x512_S1x512_0_0 inb_S7x384x512_S1x32x512_0_256_0 inb_S7x384x512_S1x32x512_3_256_0 inb_S7x384x512_S1x32x512_4_256_0 inb_S7x384x512_S1x32x512_6_256_0 inb_S7x384x512_S1x32x512_2_256_0 x
  · exact fun x => act1 _ _ _ _ 224 608 rfl (by decide) inb_S768x512_S32x512_608_0 inb_S768x1_S32x1_608_0 inb_S1x512_S1x512_0_0 inb_S1x512_S1x512_0_0 inb_S7x384x512_S1x32x512_1_224_0 inb_S7x384x512_S1x32x512_3_224_0 inb_S7x384x512_S1x32x512_0_224_0 inb_S7x384x512_S1x32x512_2_224_0 inb_S7x384x512_S1x32x512_5_224_0 x
  · exact fun x => act0 _ _ _ _ 224 224 rfl (by decide) inb_S768x512_S32x512_224_0 inb_S768x1_S32x1_224_0 inb_S1x512_S1x512_0_0 inb_S1x512_S1x512_0_0 inb_S7x384x512_S1x32x512_0_224_0 inb_S7x384x512_S1x32x512_3_224_0 inb_S7x384x512_S1x32x512_4_224_0 inb_S7x384x512_S1x32x512_6_224_0 inb_S7x384x512_S1x32x512_2_224_0 x
  · exact fun x => act1 _ _ _ _ 192 576 rfl (by decide) inb_S768x512_S32x512_576_0 inb_S768x1_S32x1_576_0 inb_S1x512_S1x512_0_0 inb_S1x512_S1x512_0_0 inb_S7x384x512_S1x32x512_1_192_0 inb_S7x384x512_S1x32x512_3_192_0 inb_S7x384x512_S1x32x512_0_192_0 inb_S7x384x512_S1x32x512_2_192_0 inb_S7x384x512_S1x32x512_5_192_0 x
  · exact fun x => act0 _ _ _ _ 192 192 rfl (by decide) inb_S768x512_S32x512_192_0 inb_S768x1_S32x1_192_0 inb_S1x512_S1x512_0_0 inb_S1x512_S1x512_0_0 inb_S7x384x512_S1x32x512_0_192_0 inb_S7x384x512_S1x32x512_3_192_0 inb_S7x384x512_S1x32x512_4_192_0 inb_S7x384x512_S1x32x512_6_192_0 inb_S7x384x512_S1x32x512_2_192_0 x
  · exact fun x => act1 _ _ _ _ 160 544 rfl (by decide) inb_S768x512_S32x512_544_0 inb_S768x1_S32x1_544_0 inb_S1x512_S1x512_0_0 inb_S1x512_S1x512_0_0 inb_S7x384x512_S1x32x512_1_160_0 inb_S7x384x512_S1x32x512_3_160_0 inb_S7x384x512_S1x32x512_0_160_0 inb_S7x384x512_S1x32x512_2_160_0 inb_S7x384x512_S1x32x512_5_160_0 x
  · exact fun x => act0 _ _ _ _ 160 160 rfl (by decide) inb_S768x512_S32x512_160_0 inb_S768x1_S32x1_160_0 inb_S1x512_S1x512_0_0 inb_S1x512_S1x512_0_0 inb_S7x384x512_S1x32x512_0_160_0 inb_S7x384x512_S1x32x512_3_160_0 inb_S7x384x512_S1x32x512_4_160_0 inb_S7x384x512_S1x32x512_6_160_0 inb_S7x384x512_S1x32x512_2_160_0 x
  · exact fun x => act1 _ _ _ _ 128 512 rfl (by decide) inb_S768x512_S32x512_512_0 inb_S768x1_S32x1_512_0 inb_S1x512_S1x512_0_0 inb_S1x512_S1x512_0_0 inb_S7x384x512_S1x32x512_1_128_0 inb_S7x384x512_S1x32x512_3_128_0 inb_S7x384x512_S1x32x512_0_128_0 inb_S7x384x512_S1x32x512_2_128_0 inb_S7x384x512_S1x32x512_5_128_0 x
  · exact fun x => act0 _ _ _ _ 128 128 rfl (by decide) inb_S768x512_S32x512_128_0 inb_S768x1_S32x1_128_0 inb_S1x512_S1x512_0_0 inb_S1x512_S1x512_0_0 inb_S7x384x512_S1x32x512_0_128_0 inb_S7x384x512_S1x32x512_3_128_0 inb_S7x384x512_S1x32x512_4_128_0 inb_S7x384x512_S1x32x512_6_128_0 inb_S7x384x512_S1x32x512_2_128_0 x
  · exact fun x => act1 _ _ _ _ 96 480 rfl (by decide) inb_S768x512_S32x512_480_0 inb_S768x1_S32x1_480_0 inb_S1x512_S1x512_0_0 inb_S1x512_S1x512_0_0 inb_S7x384x512_S1x32x512_1_96_0 inb_S7x384x512_S1x32x512_3_96_0 inb_S7x384x512_S1x32x512_0_96_0 inb_S7x384x512_S1x32x512_2_96_0 inb_S7x384x512_S1x32x512_5_96_0 x
  · exact fun x => act0 _ _ _ _ 96 96 rfl (by decide) inb_S768x512_S32x512_96_0 inb_S768x1_S32x1_96_0 inb_S1x512_S1x512_0_0 inb_S1x512_S1x512_0_0 inb_S7x384x512_S1x32x512_0_96_0 inb_S7x384x512_S1x32x512_3_96_0 inb_S7x384x512_S1x32x512_4_96_0 inb_S7x384x512_S1x32x512_6_96_0 inb_S7x384x512_S1x32x512_2_96_0 x
  · exact fun x => act1 _ _ _ _ 64 448 rfl (by decide) inb_S768x512_S32x512_448_0 inb_S768x1_S32x1_448_0 inb_S1x512_S1x512_0_0 inb_S1x512_S1x512_0_0 inb_S7x384x512_S1x32x512_1_64_0 inb_S7x384x512_S1x32x512_3_64_0 inb_S7x384x512_S1x32x512_0_64_0 inb_S7x384x512_S1x32x512_2_64_0 inb_S7x384x512_S1x32x512_5_64_0 x
  · exact fun x => act0 _ _ _ _ 64 64 rfl (by decide) inb_S768x512_S32x512_64_0 inb_S768x1_S32x1_64_0 inb_S1x512_S1x512_0_0 inb_S1x512_S1x512_0_0 inb_S7x384x512_S1x32x512_0_64_0 inb_S7x384x512_S1x32x512_3_64_0 inb_S7x384x512_S1x32x512_4_64_0 inb_S7x384x512_S1x32x512_6_64_0 inb_S7x384x512_S1x32x512_2_64_0 x
  · exact fun x => act1 _ _ _ _ 32 416 rfl (by decide) inb_S768x512_S32x512_416_0 inb_S768x1_S32x1_416_0 inb_S1x512_S1x512_0_0 inb_S1x512_S1x512_0_0 inb_S7x384x512_S1x32x512_1_32_0 inb_S7x384x512_S1x32x512_3_32_0 inb_S7x384x512_S1x32x512_0_32_0 inb_S7x384x512_S1x32x512_2_32_0 inb_S7x384x512_S1x32x512_5_32_0 x
  · exact fun x => act0 _ _ _ _ 32 32 rfl (by decide) inb_S768x512_S32x512_32_0 inb_S768x1_S32x1_32_0 inb_S1x512_S1x512_0_0 inb_S1x512_S1x512_0_0 inb_S7x384x512_S1x32x512_0_32_0 inb_S7x384x512_S1x32x512_3_32_0 inb_S7x384x512_S1x32x512_4_32_0 inb_S7x384x512_S1x32x512_6_32_0 inb_S7x384x512_S1x32x512_2_32_0 x
  · exact fun x => act1 _ _ _ _ 0 384 rfl (by decide) inb_S768x512_S32x512_384_0 inb_S768x1_S32x1_384_0 inb_S1x512_S1x512_0_0 inb_S1x512_S1x512_0_0 inb_S7x384x512_S1x32x512_1_0_0 inb_S7x384x512_S1x32x512_3_0_0 inb_S7x384x512_S1x32x512_0_0_0 inb_S7x384x512_S1x32x512_2_0_0 inb_S7x384x512_S1x32x512_5_0_0 x
  · exact fun x => act0 _ _ _ _ 0 0 rfl (by decide) inb_S768x512_S32x512_0_0 inb_S768x1_S32x1_0_0 inb_S1x512_S1x512_0_0 inb_S1x512_S1x512_0_0 inb_S7x384x512_S1x32x512_0_0_0 inb_S7x384x512_S1x32x512_3_0_0 inb_S7x384x512_S1x32x512_4_0_0 inb_S7x384x512_S1x32x512_6_0_0 inb_S7x384x512_S1x32x512_2_0_0 x

/-- The column of magnitudes a later step leaves. -/
theorem max_B (c : Dev nD) (i arg1 harg1 arg2 harg2 arg3 harg3 arg4 harg4 arg5 harg5 arg6 harg6 arg7 harg7 arg8 harg8 arg9 harg9 arg10 harg10 hc0 x0 x1 x2 x3 x4 x5 xo7 xs0 xs1) :
    out0_B_7 (F := Ideal) c i arg1 harg1 arg2 harg2 arg3 harg3 arg4 harg4 arg5 harg5 arg6 harg6 arg7 harg7 arg8 harg8 arg9 harg9 arg10 harg10 hc0 x0 x1 x2 x3 x4 x5 xo7 xs0 xs1 = maxBlock x1 x3 x5 xs1 xo7 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 xo7 xs0 xs1)]
  have hcov := cover0_B_7 (F := Ideal) c i arg1 harg1 arg2 harg2 arg3 harg3 arg4 harg4 arg5 harg5 arg6 harg6 arg7 harg7 arg8 harg8 arg9 harg9 arg10 harg10 hc0 x0 x1 x2 x3 x4 x5 xo7 xs0 xs1
  revert hcov
  unfold kernelRun0_B; dsimp only; sl_unfold_words
  simp only [View.readAt_eq_ld, harg2.read_unread, harg4.read_unread, harg6.read_unread, harg8.read_unread, harg10.read_unread]
  intro hcov
  funext y
  refine View.canon_apply_of_pieces (maxBlock x1 x3 x5 xs1 xo7) _ ?_ y (hcov y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl
  · exact fun x => max1 _ _ _ _ _ 352 736 rfl (by decide) inb_S768x1_S32x1_736_0 inb_S768x1_S32x1_736_0 inb_S1x512_S1x512_0_0 inb_S1x512_S1x512_0_0 inb_S7x384x512_S1x32x512_1_352_0 inb_S7x384x512_S1x32x512_3_352_0 inb_S7x384x512_S1x32x512_0_352_0 inb_S7x384x512_S1x32x512_2_352_0 inb_S7x384x512_S1x32x512_5_352_0 inb_S768x1_S32x1_736_0 x
  · exact fun x => max0 _ _ _ _ _ 352 352 rfl (by decide) inb_S768x1_S32x1_352_0 inb_S768x1_S32x1_352_0 inb_S1x512_S1x512_0_0 inb_S1x512_S1x512_0_0 inb_S7x384x512_S1x32x512_0_352_0 inb_S7x384x512_S1x32x512_3_352_0 inb_S7x384x512_S1x32x512_4_352_0 inb_S7x384x512_S1x32x512_6_352_0 inb_S7x384x512_S1x32x512_2_352_0 inb_S768x1_S32x1_352_0 x
  · exact fun x => max1 _ _ _ _ _ 320 704 rfl (by decide) inb_S768x1_S32x1_704_0 inb_S768x1_S32x1_704_0 inb_S1x512_S1x512_0_0 inb_S1x512_S1x512_0_0 inb_S7x384x512_S1x32x512_1_320_0 inb_S7x384x512_S1x32x512_3_320_0 inb_S7x384x512_S1x32x512_0_320_0 inb_S7x384x512_S1x32x512_2_320_0 inb_S7x384x512_S1x32x512_5_320_0 inb_S768x1_S32x1_704_0 x
  · exact fun x => max0 _ _ _ _ _ 320 320 rfl (by decide) inb_S768x1_S32x1_320_0 inb_S768x1_S32x1_320_0 inb_S1x512_S1x512_0_0 inb_S1x512_S1x512_0_0 inb_S7x384x512_S1x32x512_0_320_0 inb_S7x384x512_S1x32x512_3_320_0 inb_S7x384x512_S1x32x512_4_320_0 inb_S7x384x512_S1x32x512_6_320_0 inb_S7x384x512_S1x32x512_2_320_0 inb_S768x1_S32x1_320_0 x
  · exact fun x => max1 _ _ _ _ _ 288 672 rfl (by decide) inb_S768x1_S32x1_672_0 inb_S768x1_S32x1_672_0 inb_S1x512_S1x512_0_0 inb_S1x512_S1x512_0_0 inb_S7x384x512_S1x32x512_1_288_0 inb_S7x384x512_S1x32x512_3_288_0 inb_S7x384x512_S1x32x512_0_288_0 inb_S7x384x512_S1x32x512_2_288_0 inb_S7x384x512_S1x32x512_5_288_0 inb_S768x1_S32x1_672_0 x
  · exact fun x => max0 _ _ _ _ _ 288 288 rfl (by decide) inb_S768x1_S32x1_288_0 inb_S768x1_S32x1_288_0 inb_S1x512_S1x512_0_0 inb_S1x512_S1x512_0_0 inb_S7x384x512_S1x32x512_0_288_0 inb_S7x384x512_S1x32x512_3_288_0 inb_S7x384x512_S1x32x512_4_288_0 inb_S7x384x512_S1x32x512_6_288_0 inb_S7x384x512_S1x32x512_2_288_0 inb_S768x1_S32x1_288_0 x
  · exact fun x => max1 _ _ _ _ _ 256 640 rfl (by decide) inb_S768x1_S32x1_640_0 inb_S768x1_S32x1_640_0 inb_S1x512_S1x512_0_0 inb_S1x512_S1x512_0_0 inb_S7x384x512_S1x32x512_1_256_0 inb_S7x384x512_S1x32x512_3_256_0 inb_S7x384x512_S1x32x512_0_256_0 inb_S7x384x512_S1x32x512_2_256_0 inb_S7x384x512_S1x32x512_5_256_0 inb_S768x1_S32x1_640_0 x
  · exact fun x => max0 _ _ _ _ _ 256 256 rfl (by decide) inb_S768x1_S32x1_256_0 inb_S768x1_S32x1_256_0 inb_S1x512_S1x512_0_0 inb_S1x512_S1x512_0_0 inb_S7x384x512_S1x32x512_0_256_0 inb_S7x384x512_S1x32x512_3_256_0 inb_S7x384x512_S1x32x512_4_256_0 inb_S7x384x512_S1x32x512_6_256_0 inb_S7x384x512_S1x32x512_2_256_0 inb_S768x1_S32x1_256_0 x
  · exact fun x => max1 _ _ _ _ _ 224 608 rfl (by decide) inb_S768x1_S32x1_608_0 inb_S768x1_S32x1_608_0 inb_S1x512_S1x512_0_0 inb_S1x512_S1x512_0_0 inb_S7x384x512_S1x32x512_1_224_0 inb_S7x384x512_S1x32x512_3_224_0 inb_S7x384x512_S1x32x512_0_224_0 inb_S7x384x512_S1x32x512_2_224_0 inb_S7x384x512_S1x32x512_5_224_0 inb_S768x1_S32x1_608_0 x
  · exact fun x => max0 _ _ _ _ _ 224 224 rfl (by decide) inb_S768x1_S32x1_224_0 inb_S768x1_S32x1_224_0 inb_S1x512_S1x512_0_0 inb_S1x512_S1x512_0_0 inb_S7x384x512_S1x32x512_0_224_0 inb_S7x384x512_S1x32x512_3_224_0 inb_S7x384x512_S1x32x512_4_224_0 inb_S7x384x512_S1x32x512_6_224_0 inb_S7x384x512_S1x32x512_2_224_0 inb_S768x1_S32x1_224_0 x
  · exact fun x => max1 _ _ _ _ _ 192 576 rfl (by decide) inb_S768x1_S32x1_576_0 inb_S768x1_S32x1_576_0 inb_S1x512_S1x512_0_0 inb_S1x512_S1x512_0_0 inb_S7x384x512_S1x32x512_1_192_0 inb_S7x384x512_S1x32x512_3_192_0 inb_S7x384x512_S1x32x512_0_192_0 inb_S7x384x512_S1x32x512_2_192_0 inb_S7x384x512_S1x32x512_5_192_0 inb_S768x1_S32x1_576_0 x
  · exact fun x => max0 _ _ _ _ _ 192 192 rfl (by decide) inb_S768x1_S32x1_192_0 inb_S768x1_S32x1_192_0 inb_S1x512_S1x512_0_0 inb_S1x512_S1x512_0_0 inb_S7x384x512_S1x32x512_0_192_0 inb_S7x384x512_S1x32x512_3_192_0 inb_S7x384x512_S1x32x512_4_192_0 inb_S7x384x512_S1x32x512_6_192_0 inb_S7x384x512_S1x32x512_2_192_0 inb_S768x1_S32x1_192_0 x
  · exact fun x => max1 _ _ _ _ _ 160 544 rfl (by decide) inb_S768x1_S32x1_544_0 inb_S768x1_S32x1_544_0 inb_S1x512_S1x512_0_0 inb_S1x512_S1x512_0_0 inb_S7x384x512_S1x32x512_1_160_0 inb_S7x384x512_S1x32x512_3_160_0 inb_S7x384x512_S1x32x512_0_160_0 inb_S7x384x512_S1x32x512_2_160_0 inb_S7x384x512_S1x32x512_5_160_0 inb_S768x1_S32x1_544_0 x
  · exact fun x => max0 _ _ _ _ _ 160 160 rfl (by decide) inb_S768x1_S32x1_160_0 inb_S768x1_S32x1_160_0 inb_S1x512_S1x512_0_0 inb_S1x512_S1x512_0_0 inb_S7x384x512_S1x32x512_0_160_0 inb_S7x384x512_S1x32x512_3_160_0 inb_S7x384x512_S1x32x512_4_160_0 inb_S7x384x512_S1x32x512_6_160_0 inb_S7x384x512_S1x32x512_2_160_0 inb_S768x1_S32x1_160_0 x
  · exact fun x => max1 _ _ _ _ _ 128 512 rfl (by decide) inb_S768x1_S32x1_512_0 inb_S768x1_S32x1_512_0 inb_S1x512_S1x512_0_0 inb_S1x512_S1x512_0_0 inb_S7x384x512_S1x32x512_1_128_0 inb_S7x384x512_S1x32x512_3_128_0 inb_S7x384x512_S1x32x512_0_128_0 inb_S7x384x512_S1x32x512_2_128_0 inb_S7x384x512_S1x32x512_5_128_0 inb_S768x1_S32x1_512_0 x
  · exact fun x => max0 _ _ _ _ _ 128 128 rfl (by decide) inb_S768x1_S32x1_128_0 inb_S768x1_S32x1_128_0 inb_S1x512_S1x512_0_0 inb_S1x512_S1x512_0_0 inb_S7x384x512_S1x32x512_0_128_0 inb_S7x384x512_S1x32x512_3_128_0 inb_S7x384x512_S1x32x512_4_128_0 inb_S7x384x512_S1x32x512_6_128_0 inb_S7x384x512_S1x32x512_2_128_0 inb_S768x1_S32x1_128_0 x
  · exact fun x => max1 _ _ _ _ _ 96 480 rfl (by decide) inb_S768x1_S32x1_480_0 inb_S768x1_S32x1_480_0 inb_S1x512_S1x512_0_0 inb_S1x512_S1x512_0_0 inb_S7x384x512_S1x32x512_1_96_0 inb_S7x384x512_S1x32x512_3_96_0 inb_S7x384x512_S1x32x512_0_96_0 inb_S7x384x512_S1x32x512_2_96_0 inb_S7x384x512_S1x32x512_5_96_0 inb_S768x1_S32x1_480_0 x
  · exact fun x => max0 _ _ _ _ _ 96 96 rfl (by decide) inb_S768x1_S32x1_96_0 inb_S768x1_S32x1_96_0 inb_S1x512_S1x512_0_0 inb_S1x512_S1x512_0_0 inb_S7x384x512_S1x32x512_0_96_0 inb_S7x384x512_S1x32x512_3_96_0 inb_S7x384x512_S1x32x512_4_96_0 inb_S7x384x512_S1x32x512_6_96_0 inb_S7x384x512_S1x32x512_2_96_0 inb_S768x1_S32x1_96_0 x
  · exact fun x => max1 _ _ _ _ _ 64 448 rfl (by decide) inb_S768x1_S32x1_448_0 inb_S768x1_S32x1_448_0 inb_S1x512_S1x512_0_0 inb_S1x512_S1x512_0_0 inb_S7x384x512_S1x32x512_1_64_0 inb_S7x384x512_S1x32x512_3_64_0 inb_S7x384x512_S1x32x512_0_64_0 inb_S7x384x512_S1x32x512_2_64_0 inb_S7x384x512_S1x32x512_5_64_0 inb_S768x1_S32x1_448_0 x
  · exact fun x => max0 _ _ _ _ _ 64 64 rfl (by decide) inb_S768x1_S32x1_64_0 inb_S768x1_S32x1_64_0 inb_S1x512_S1x512_0_0 inb_S1x512_S1x512_0_0 inb_S7x384x512_S1x32x512_0_64_0 inb_S7x384x512_S1x32x512_3_64_0 inb_S7x384x512_S1x32x512_4_64_0 inb_S7x384x512_S1x32x512_6_64_0 inb_S7x384x512_S1x32x512_2_64_0 inb_S768x1_S32x1_64_0 x
  · exact fun x => max1 _ _ _ _ _ 32 416 rfl (by decide) inb_S768x1_S32x1_416_0 inb_S768x1_S32x1_416_0 inb_S1x512_S1x512_0_0 inb_S1x512_S1x512_0_0 inb_S7x384x512_S1x32x512_1_32_0 inb_S7x384x512_S1x32x512_3_32_0 inb_S7x384x512_S1x32x512_0_32_0 inb_S7x384x512_S1x32x512_2_32_0 inb_S7x384x512_S1x32x512_5_32_0 inb_S768x1_S32x1_416_0 x
  · exact fun x => max0 _ _ _ _ _ 32 32 rfl (by decide) inb_S768x1_S32x1_32_0 inb_S768x1_S32x1_32_0 inb_S1x512_S1x512_0_0 inb_S1x512_S1x512_0_0 inb_S7x384x512_S1x32x512_0_32_0 inb_S7x384x512_S1x32x512_3_32_0 inb_S7x384x512_S1x32x512_4_32_0 inb_S7x384x512_S1x32x512_6_32_0 inb_S7x384x512_S1x32x512_2_32_0 inb_S768x1_S32x1_32_0 x
  · exact fun x => max1 _ _ _ _ _ 0 384 rfl (by decide) inb_S768x1_S32x1_384_0 inb_S768x1_S32x1_384_0 inb_S1x512_S1x512_0_0 inb_S1x512_S1x512_0_0 inb_S7x384x512_S1x32x512_1_0_0 inb_S7x384x512_S1x32x512_3_0_0 inb_S7x384x512_S1x32x512_0_0_0 inb_S7x384x512_S1x32x512_2_0_0 inb_S7x384x512_S1x32x512_5_0_0 inb_S768x1_S32x1_384_0 x
  · exact fun x => max0 _ _ _ _ _ 0 0 rfl (by decide) inb_S768x1_S32x1_0_0 inb_S768x1_S32x1_0_0 inb_S1x512_S1x512_0_0 inb_S1x512_S1x512_0_0 inb_S7x384x512_S1x32x512_0_0_0 inb_S7x384x512_S1x32x512_3_0_0 inb_S7x384x512_S1x32x512_4_0_0 inb_S7x384x512_S1x32x512_6_0_0 inb_S7x384x512_S1x32x512_2_0_0 inb_S768x1_S32x1_0_0 x

/-- No products, no activation. -/
theorem cell_zero (s : Vec Ideal S768x1 .f32) (a b : Vec Ideal S1x512 .f32) (r c : ℕ) : cell s a b (fun _ => 0) r c = 0 := by
  have e : ∀ h n, Strassen.comb (fun p => at3 (n0 := 7) (n1 := 384) (n2 := 512) (fun _ => (0 : EReal)) p (r % 384) c) h n = 0 := by
    intro h n
    unfold Strassen.comb at3
    split <;> simp
  unfold cell
  rw [e, e]
  simp [act, gelu]

/-- The zeros the first step stores. -/
theorem pay4_eq : k0_pay4 (F := Ideal) = fun _ => (0 : EReal) :=
  (shapeCast_self _ _).trans (funext fun _ => Ideal.ofBits_zero_f32)

theorem pay5_eq : k0_pay5 (F := Ideal) = fun _ => (0 : EReal) := funext fun _ => Ideal.ofBits_zero_f32

/-- The first step's column of magnitudes is zero. -/
theorem maxBlock_zero (s : Vec Ideal S768x1 .f32) (a b : Vec Ideal S1x512 .f32) (y : S768x1.Idx) :
    maxBlock s a b (k0_pay4 (F := Ideal)) (k0_pay5 (F := Ideal)) y = 0 := by
  rw [pay4_eq, pay5_eq]
  refine (max_eq_left ?_).trans rfl
  refine (peak_congr _ (fun _ => 0) 512 fun c _ => cell_zero s a b _ c).trans_le ?_
  exact peak_zeros 512

/-- The column of magnitudes the first step leaves. -/
theorem max_A (c : Dev nD) (i arg1 harg1 arg2 harg2 arg3 harg3 arg4 harg4 arg5 harg5 arg6 harg6 arg7 harg7 arg8 harg8 arg9 harg9 arg10 harg10 hc0 x0 x1 x2 x3 x4 x5) :
    out0_A_7 (F := Ideal) c i arg1 harg1 arg2 harg2 arg3 harg3 arg4 harg4 arg5 harg5 arg6 harg6 arg7 harg7 arg8 harg8 arg9 harg9 arg10 harg10 hc0 x0 x1 x2 x3 x4 x5 = fun _ => (0 : EReal) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5)]
  have hcov := cover0_A_7 (F := Ideal) c i arg1 harg1 arg2 harg2 arg3 harg3 arg4 harg4 arg5 harg5 arg6 harg6 arg7 harg7 arg8 harg8 arg9 harg9 arg10 harg10 hc0 x0 x1 x2 x3 x4 x5
  revert hcov
  unfold kernelRun0_A; dsimp only; sl_unfold_words
  simp only [View.readAt_eq_ld, harg2.read_unread, harg4.read_unread, harg6.read_unread]
  simp only [↓readCov_skip, readCov_whole, readCov_whole3, Nat.reduceAdd, Nat.reduceLeDiff, or_true, true_or, or_false, false_or]
  intro hcov
  funext y
  refine View.canon_apply_of_pieces (fun _ => (0 : EReal)) _ ?_ y (hcov y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl
  · exact fun x => (max1 _ _ _ _ _ 352 736 rfl (by decide) inb_S768x1_S32x1_736_0 inb_S768x1_S32x1_736_0 inb_S1x512_S1x512_0_0 inb_S1x512_S1x512_0_0 inb_S7x384x512_S1x32x512_1_352_0 inb_S7x384x512_S1x32x512_3_352_0 inb_S7x384x512_S1x32x512_0_352_0 inb_S7x384x512_S1x32x512_2_352_0 inb_S7x384x512_S1x32x512_5_352_0 inb_S768x1_S32x1_736_0 x).trans (maxBlock_zero _ _ _ _)
  · exact fun x => (max0 _ _ _ _ _ 352 352 rfl (by decide) inb_S768x1_S32x1_352_0 inb_S768x1_S32x1_352_0 inb_S1x512_S1x512_0_0 inb_S1x512_S1x512_0_0 inb_S7x384x512_S1x32x512_0_352_0 inb_S7x384x512_S1x32x512_3_352_0 inb_S7x384x512_S1x32x512_4_352_0 inb_S7x384x512_S1x32x512_6_352_0 inb_S7x384x512_S1x32x512_2_352_0 inb_S768x1_S32x1_352_0 x).trans (maxBlock_zero _ _ _ _)
  · exact fun x => (max1 _ _ _ _ _ 320 704 rfl (by decide) inb_S768x1_S32x1_704_0 inb_S768x1_S32x1_704_0 inb_S1x512_S1x512_0_0 inb_S1x512_S1x512_0_0 inb_S7x384x512_S1x32x512_1_320_0 inb_S7x384x512_S1x32x512_3_320_0 inb_S7x384x512_S1x32x512_0_320_0 inb_S7x384x512_S1x32x512_2_320_0 inb_S7x384x512_S1x32x512_5_320_0 inb_S768x1_S32x1_704_0 x).trans (maxBlock_zero _ _ _ _)
  · exact fun x => (max0 _ _ _ _ _ 320 320 rfl (by decide) inb_S768x1_S32x1_320_0 inb_S768x1_S32x1_320_0 inb_S1x512_S1x512_0_0 inb_S1x512_S1x512_0_0 inb_S7x384x512_S1x32x512_0_320_0 inb_S7x384x512_S1x32x512_3_320_0 inb_S7x384x512_S1x32x512_4_320_0 inb_S7x384x512_S1x32x512_6_320_0 inb_S7x384x512_S1x32x512_2_320_0 inb_S768x1_S32x1_320_0 x).trans (maxBlock_zero _ _ _ _)
  · exact fun x => (max1 _ _ _ _ _ 288 672 rfl (by decide) inb_S768x1_S32x1_672_0 inb_S768x1_S32x1_672_0 inb_S1x512_S1x512_0_0 inb_S1x512_S1x512_0_0 inb_S7x384x512_S1x32x512_1_288_0 inb_S7x384x512_S1x32x512_3_288_0 inb_S7x384x512_S1x32x512_0_288_0 inb_S7x384x512_S1x32x512_2_288_0 inb_S7x384x512_S1x32x512_5_288_0 inb_S768x1_S32x1_672_0 x).trans (maxBlock_zero _ _ _ _)
  · exact fun x => (max0 _ _ _ _ _ 288 288 rfl (by decide) inb_S768x1_S32x1_288_0 inb_S768x1_S32x1_288_0 inb_S1x512_S1x512_0_0 inb_S1x512_S1x512_0_0 inb_S7x384x512_S1x32x512_0_288_0 inb_S7x384x512_S1x32x512_3_288_0 inb_S7x384x512_S1x32x512_4_288_0 inb_S7x384x512_S1x32x512_6_288_0 inb_S7x384x512_S1x32x512_2_288_0 inb_S768x1_S32x1_288_0 x).trans (maxBlock_zero _ _ _ _)
  · exact fun x => (max1 _ _ _ _ _ 256 640 rfl (by decide) inb_S768x1_S32x1_640_0 inb_S768x1_S32x1_640_0 inb_S1x512_S1x512_0_0 inb_S1x512_S1x512_0_0 inb_S7x384x512_S1x32x512_1_256_0 inb_S7x384x512_S1x32x512_3_256_0 inb_S7x384x512_S1x32x512_0_256_0 inb_S7x384x512_S1x32x512_2_256_0 inb_S7x384x512_S1x32x512_5_256_0 inb_S768x1_S32x1_640_0 x).trans (maxBlock_zero _ _ _ _)
  · exact fun x => (max0 _ _ _ _ _ 256 256 rfl (by decide) inb_S768x1_S32x1_256_0 inb_S768x1_S32x1_256_0 inb_S1x512_S1x512_0_0 inb_S1x512_S1x512_0_0 inb_S7x384x512_S1x32x512_0_256_0 inb_S7x384x512_S1x32x512_3_256_0 inb_S7x384x512_S1x32x512_4_256_0 inb_S7x384x512_S1x32x512_6_256_0 inb_S7x384x512_S1x32x512_2_256_0 inb_S768x1_S32x1_256_0 x).trans (maxBlock_zero _ _ _ _)
  · exact fun x => (max1 _ _ _ _ _ 224 608 rfl (by decide) inb_S768x1_S32x1_608_0 inb_S768x1_S32x1_608_0 inb_S1x512_S1x512_0_0 inb_S1x512_S1x512_0_0 inb_S7x384x512_S1x32x512_1_224_0 inb_S7x384x512_S1x32x512_3_224_0 inb_S7x384x512_S1x32x512_0_224_0 inb_S7x384x512_S1x32x512_2_224_0 inb_S7x384x512_S1x32x512_5_224_0 inb_S768x1_S32x1_608_0 x).trans (maxBlock_zero _ _ _ _)
  · exact fun x => (max0 _ _ _ _ _ 224 224 rfl (by decide) inb_S768x1_S32x1_224_0 inb_S768x1_S32x1_224_0 inb_S1x512_S1x512_0_0 inb_S1x512_S1x512_0_0 inb_S7x384x512_S1x32x512_0_224_0 inb_S7x384x512_S1x32x512_3_224_0 inb_S7x384x512_S1x32x512_4_224_0 inb_S7x384x512_S1x32x512_6_224_0 inb_S7x384x512_S1x32x512_2_224_0 inb_S768x1_S32x1_224_0 x).trans (maxBlock_zero _ _ _ _)
  · exact fun x => (max1 _ _ _ _ _ 192 576 rfl (by decide) inb_S768x1_S32x1_576_0 inb_S768x1_S32x1_576_0 inb_S1x512_S1x512_0_0 inb_S1x512_S1x512_0_0 inb_S7x384x512_S1x32x512_1_192_0 inb_S7x384x512_S1x32x512_3_192_0 inb_S7x384x512_S1x32x512_0_192_0 inb_S7x384x512_S1x32x512_2_192_0 inb_S7x384x512_S1x32x512_5_192_0 inb_S768x1_S32x1_576_0 x).trans (maxBlock_zero _ _ _ _)
  · exact fun x => (max0 _ _ _ _ _ 192 192 rfl (by decide) inb_S768x1_S32x1_192_0 inb_S768x1_S32x1_192_0 inb_S1x512_S1x512_0_0 inb_S1x512_S1x512_0_0 inb_S7x384x512_S1x32x512_0_192_0 inb_S7x384x512_S1x32x512_3_192_0 inb_S7x384x512_S1x32x512_4_192_0 inb_S7x384x512_S1x32x512_6_192_0 inb_S7x384x512_S1x32x512_2_192_0 inb_S768x1_S32x1_192_0 x).trans (maxBlock_zero _ _ _ _)
  · exact fun x => (max1 _ _ _ _ _ 160 544 rfl (by decide) inb_S768x1_S32x1_544_0 inb_S768x1_S32x1_544_0 inb_S1x512_S1x512_0_0 inb_S1x512_S1x512_0_0 inb_S7x384x512_S1x32x512_1_160_0 inb_S7x384x512_S1x32x512_3_160_0 inb_S7x384x512_S1x32x512_0_160_0 inb_S7x384x512_S1x32x512_2_160_0 inb_S7x384x512_S1x32x512_5_160_0 inb_S768x1_S32x1_544_0 x).trans (maxBlock_zero _ _ _ _)
  · exact fun x => (max0 _ _ _ _ _ 160 160 rfl (by decide) inb_S768x1_S32x1_160_0 inb_S768x1_S32x1_160_0 inb_S1x512_S1x512_0_0 inb_S1x512_S1x512_0_0 inb_S7x384x512_S1x32x512_0_160_0 inb_S7x384x512_S1x32x512_3_160_0 inb_S7x384x512_S1x32x512_4_160_0 inb_S7x384x512_S1x32x512_6_160_0 inb_S7x384x512_S1x32x512_2_160_0 inb_S768x1_S32x1_160_0 x).trans (maxBlock_zero _ _ _ _)
  · exact fun x => (max1 _ _ _ _ _ 128 512 rfl (by decide) inb_S768x1_S32x1_512_0 inb_S768x1_S32x1_512_0 inb_S1x512_S1x512_0_0 inb_S1x512_S1x512_0_0 inb_S7x384x512_S1x32x512_1_128_0 inb_S7x384x512_S1x32x512_3_128_0 inb_S7x384x512_S1x32x512_0_128_0 inb_S7x384x512_S1x32x512_2_128_0 inb_S7x384x512_S1x32x512_5_128_0 inb_S768x1_S32x1_512_0 x).trans (maxBlock_zero _ _ _ _)
  · exact fun x => (max0 _ _ _ _ _ 128 128 rfl (by decide) inb_S768x1_S32x1_128_0 inb_S768x1_S32x1_128_0 inb_S1x512_S1x512_0_0 inb_S1x512_S1x512_0_0 inb_S7x384x512_S1x32x512_0_128_0 inb_S7x384x512_S1x32x512_3_128_0 inb_S7x384x512_S1x32x512_4_128_0 inb_S7x384x512_S1x32x512_6_128_0 inb_S7x384x512_S1x32x512_2_128_0 inb_S768x1_S32x1_128_0 x).trans (maxBlock_zero _ _ _ _)
  · exact fun x => (max1 _ _ _ _ _ 96 480 rfl (by decide) inb_S768x1_S32x1_480_0 inb_S768x1_S32x1_480_0 inb_S1x512_S1x512_0_0 inb_S1x512_S1x512_0_0 inb_S7x384x512_S1x32x512_1_96_0 inb_S7x384x512_S1x32x512_3_96_0 inb_S7x384x512_S1x32x512_0_96_0 inb_S7x384x512_S1x32x512_2_96_0 inb_S7x384x512_S1x32x512_5_96_0 inb_S768x1_S32x1_480_0 x).trans (maxBlock_zero _ _ _ _)
  · exact fun x => (max0 _ _ _ _ _ 96 96 rfl (by decide) inb_S768x1_S32x1_96_0 inb_S768x1_S32x1_96_0 inb_S1x512_S1x512_0_0 inb_S1x512_S1x512_0_0 inb_S7x384x512_S1x32x512_0_96_0 inb_S7x384x512_S1x32x512_3_96_0 inb_S7x384x512_S1x32x512_4_96_0 inb_S7x384x512_S1x32x512_6_96_0 inb_S7x384x512_S1x32x512_2_96_0 inb_S768x1_S32x1_96_0 x).trans (maxBlock_zero _ _ _ _)
  · exact fun x => (max1 _ _ _ _ _ 64 448 rfl (by decide) inb_S768x1_S32x1_448_0 inb_S768x1_S32x1_448_0 inb_S1x512_S1x512_0_0 inb_S1x512_S1x512_0_0 inb_S7x384x512_S1x32x512_1_64_0 inb_S7x384x512_S1x32x512_3_64_0 inb_S7x384x512_S1x32x512_0_64_0 inb_S7x384x512_S1x32x512_2_64_0 inb_S7x384x512_S1x32x512_5_64_0 inb_S768x1_S32x1_448_0 x).trans (maxBlock_zero _ _ _ _)
  · exact fun x => (max0 _ _ _ _ _ 64 64 rfl (by decide) inb_S768x1_S32x1_64_0 inb_S768x1_S32x1_64_0 inb_S1x512_S1x512_0_0 inb_S1x512_S1x512_0_0 inb_S7x384x512_S1x32x512_0_64_0 inb_S7x384x512_S1x32x512_3_64_0 inb_S7x384x512_S1x32x512_4_64_0 inb_S7x384x512_S1x32x512_6_64_0 inb_S7x384x512_S1x32x512_2_64_0 inb_S768x1_S32x1_64_0 x).trans (maxBlock_zero _ _ _ _)
  · exact fun x => (max1 _ _ _ _ _ 32 416 rfl (by decide) inb_S768x1_S32x1_416_0 inb_S768x1_S32x1_416_0 inb_S1x512_S1x512_0_0 inb_S1x512_S1x512_0_0 inb_S7x384x512_S1x32x512_1_32_0 inb_S7x384x512_S1x32x512_3_32_0 inb_S7x384x512_S1x32x512_0_32_0 inb_S7x384x512_S1x32x512_2_32_0 inb_S7x384x512_S1x32x512_5_32_0 inb_S768x1_S32x1_416_0 x).trans (maxBlock_zero _ _ _ _)
  · exact fun x => (max0 _ _ _ _ _ 32 32 rfl (by decide) inb_S768x1_S32x1_32_0 inb_S768x1_S32x1_32_0 inb_S1x512_S1x512_0_0 inb_S1x512_S1x512_0_0 inb_S7x384x512_S1x32x512_0_32_0 inb_S7x384x512_S1x32x512_3_32_0 inb_S7x384x512_S1x32x512_4_32_0 inb_S7x384x512_S1x32x512_6_32_0 inb_S7x384x512_S1x32x512_2_32_0 inb_S768x1_S32x1_32_0 x).trans (maxBlock_zero _ _ _ _)
  · exact fun x => (max1 _ _ _ _ _ 0 384 rfl (by decide) inb_S768x1_S32x1_384_0 inb_S768x1_S32x1_384_0 inb_S1x512_S1x512_0_0 inb_S1x512_S1x512_0_0 inb_S7x384x512_S1x32x512_1_0_0 inb_S7x384x512_S1x32x512_3_0_0 inb_S7x384x512_S1x32x512_0_0_0 inb_S7x384x512_S1x32x512_2_0_0 inb_S7x384x512_S1x32x512_5_0_0 inb_S768x1_S32x1_384_0 x).trans (maxBlock_zero _ _ _ _)
  · exact fun x => (max0 _ _ _ _ _ 0 0 rfl (by decide) inb_S768x1_S32x1_0_0 inb_S768x1_S32x1_0_0 inb_S1x512_S1x512_0_0 inb_S1x512_S1x512_0_0 inb_S7x384x512_S1x32x512_0_0_0 inb_S7x384x512_S1x32x512_3_0_0 inb_S7x384x512_S1x32x512_4_0_0 inb_S7x384x512_S1x32x512_6_0_0 inb_S7x384x512_S1x32x512_2_0_0 inb_S768x1_S32x1_0_0 x).trans (maxBlock_zero _ _ _ _)
  · exact fun x => congrFun pay5_eq x

end Cert.FfnIdeal.Tile
end
-- ==== Proof.FfnValue.lean ====
module

public import proofs.«01_k».proof.Proof.FfnTile
public import Idealize.ShloMosaic.Lib.Pipeline.ValueKit

@[expose] public section

set_option maxRecDepth 16384

noncomputable section

/-! The kernel's two result arrays: every tile's activations are the whole products' gated activations, and the column of
    magnitudes is their rows' greatest. -/
namespace Cert.FfnIdeal.Tile

open scoped BigOperators
open Cert.FfnIdeal Cert.FfnIdeal.Gen Idealize.ShloMosaic Idealize.ShloMosaic.TcCoe Idealize.ShloMosaic.Tactic Idealize.SL.Sem
open Idealize.ShloMosaic.ValueIdx Blocks Rows
open Idealize.ShloMosaic.Pipeline (Dat)

/-- The codes' integer product. -/
def dot (C : Vec Ideal S768x4608 .i8) (W : Vec Ideal S4608x9216 .i8) (r c : ℕ) : EReal :=
  ∑ k : Fin 4608, (((at2 C r k.val).toInt : ℝ) : EReal) * (((at2 W k.val c).toInt : ℝ) : EReal)

/-- The gated activation of row `r` and column `c`. -/
def ffn (C : Vec Ideal S768x4608 .i8) (s : Vec Ideal S768x1 .f32) (G : Vec Ideal S4608x9216 .i8) (a : Vec Ideal S1x9216 .f32) (U : Vec Ideal S4608x9216 .i8) (b : Vec Ideal S1x9216 .f32) (r c : ℕ) : EReal := act (dot C G r c) (dot C U r c) (at2 s r 0) (at2 a 0 c) (at2 b 0 c)

/-- The four sums of two tiles' products are the tiles of the whole products. -/
theorem comb_tile (C : Vec Ideal S768x4608 .i8) (G U : Vec Ideal S4608x9216 .i8) (T T' : Vec Ideal S4608x512 .i8) (q h n r c : ℕ)
    (hT : ∀ k c', k < 4608 → c' < 512 → at2 T k c' = at2 G k (512 * q + c'))
    (hT' : ∀ k c', k < 4608 → c' < 512 → at2 T' k c' = at2 U k (512 * q + c')) (hh : h < 2) (hn : n < 2) (hr : r < 384) (hc : c < 512) :
    Strassen.comb (fun p => at3 (prods (wide C) T T') p r c) h n = dot C (if n = 0 then G else U) (384 * h + r) (512 * q + c) := by
  have e1 : Strassen.comb (fun p => at3 (prods (wide C) T T') p r c) h n
      = Strassen.comb (Strassen.prod (fun i j (k : Fin 2304) => (((at2 C (384 * i + r) (2304 * j + k.val)).toInt : ℝ) : EReal))
          (fun i j k => (((at2 (if j = 0 then T else T') (2304 * i + k.val) c).toInt : ℝ) : EReal))) h n :=
    comb_congr _ _ h n fun p hp => at3_fn (fun p r c => Strassen.prod (aQ (wide C) r) (bQ T T' c) p) p r c hp hr hc
  refine e1.trans ((Strassen.comb_prod (fun i j (k : Fin 2304) => ((at2 C (384 * i + r) (2304 * j + k.val)).toInt : ℝ))
    (fun i j k => ((at2 (if j = 0 then T else T') (2304 * i + k.val) c).toInt : ℝ)) h n hh hn).trans ?_)
  refine Eq.trans ?_ (Strassen.sum_halves 2304 fun k : Fin (2304 + 2304) =>
    (((at2 C (384 * h + r) k.val).toInt : ℝ) : EReal) * (((at2 (if n = 0 then G else U) k.val (512 * q + c)).toInt : ℝ) : EReal)).symm
  have t : ∀ k, k < 4608 → at2 (if n = 0 then T else T') k c = at2 (if n = 0 then G else U) k (512 * q + c) := by
    intro k hk
    split
    · exact hT k c hk hc
    · exact hT' k c hk hc
  refine add_eq (Finset.sum_congr rfl fun k _ => ?_) (Finset.sum_congr rfl fun k _ => ?_)
  · have z : 2304 * 0 + k.val = k.val := by omega
    rw [z, t k.val (by omega)]
  · dsimp only
    rw [Nat.mul_one, t (2304 + k.val) (by omega)]

/-- A tile's activations are the whole's. -/
theorem cell_eq (C : Vec Ideal S768x4608 .i8) (s : Vec Ideal S768x1 .f32) (G : Vec Ideal S4608x9216 .i8) (a : Vec Ideal S1x9216 .f32) (U : Vec Ideal S4608x9216 .i8) (b : Vec Ideal S1x9216 .f32) (T T' : Vec Ideal S4608x512 .i8) (v v' : Vec Ideal S1x512 .f32) (q : ℕ)
    (hT : ∀ k c', k < 4608 → c' < 512 → at2 T k c' = at2 G k (512 * q + c'))
    (hT' : ∀ k c', k < 4608 → c' < 512 → at2 T' k c' = at2 U k (512 * q + c'))
    (hv : ∀ c', c' < 512 → at2 v 0 c' = at2 a 0 (512 * q + c')) (hv' : ∀ c', c' < 512 → at2 v' 0 c' = at2 b 0 (512 * q + c'))
    (r c : ℕ) (hr : r < 768) (hc : c < 512) :
    cell s v v' (prods (wide C) T T') r c = ffn C s G a U b r (512 * q + c) := by
  have a0 : 384 * (r / 384) + r % 384 = r := by omega
  unfold cell
  rw [comb_tile C G U T T' q _ 0 _ _ hT hT' (by omega) (by omega) (by omega) hc, comb_tile C G U T T' q _ 1 _ _ hT hT' (by omega) (by omega) (by omega) hc,
    hv c hc, hv' c hc, a0]
  rfl

variable (m : (ℓ : Loc nD τ sig) → Buf (Elt Ideal) ℓ)

/-- What the two scratches hold after point `n`. -/
theorem scratches (c : Dev nD) (n : ℕ) (hn : n < cfg0.N) :
    (outsAt0 m c n hn).2.2.1 = wide (iblk m c 0 ⟨0, Nat.lt_of_le_of_lt (Nat.zero_le _) hn⟩)
      ∧ (outsAt0 m c n hn).2.2.2 = prods (wide (iblk m c 0 ⟨0, Nat.lt_of_le_of_lt (Nat.zero_le _) hn⟩)) (iblk m c 2 ⟨n, hn⟩) (iblk m c 4 ⟨n, hn⟩) := by
  induction n with
  | zero =>
    have e := outsAt0_A m c ⟨0, hn⟩ rfl
    rw [scratch0_A, scratch_A] at e
    exact ⟨congrArg (fun z => z.2.2.1) e, congrArg (fun z => z.2.2.2) e⟩
  | succ n ih =>
    have hN := lt_of_lt_of_eq hn (show cfg0.N = 19 from N_0)
    obtain ⟨i0, i1⟩ := ih (Nat.lt_of_succ_lt hn)
    have e := outsAt0_B m c ⟨n + 1, hn⟩ (by show ¬(n + 1) % 19 = 0; omega)
    rw [scratch_B] at e
    exact ⟨(congrArg (fun z => z.2.2.1) e).trans i0,
      (congrArg (fun z => z.2.2.2) e).trans (congrArg (fun X => prods X (iblk m c 2 ⟨n + 1, hn⟩) (iblk m c 4 ⟨n + 1, hn⟩)) i0)⟩

/-- The block indices of the windows at a point. -/
theorem idx_out : ∀ t : Fin grid0.N, win0_6.index t 0 = 0 ∧ win0_6.index t 1 = t.val - 1 := by decide +kernel
theorem idx_max : ∀ t : Fin grid0.N, win0_7.index t 0 = 0 ∧ win0_7.index t 1 = 0 := by decide +kernel
theorem idx_g : ∀ t : Fin grid0.N, win0_2.index t 0 = 0 ∧ (t.val < 18 → win0_2.index t 1 = t.val) := by decide +kernel
theorem idx_u : ∀ t : Fin grid0.N, win0_4.index t 0 = 0 ∧ (t.val < 18 → win0_4.index t 1 = t.val) := by decide +kernel
theorem idx_a : ∀ t : Fin grid0.N, win0_3.index t 0 = 0 ∧ win0_3.index t 1 = t.val - 1 := by decide +kernel
theorem idx_b : ∀ t : Fin grid0.N, win0_5.index t 0 = 0 ∧ win0_5.index t 1 = t.val - 1 := by decide +kernel
theorem idx_c : ∀ t : Fin grid0.N, ∀ a, win0_0.index t a = 0 := by decide +kernel
theorem idx_r : ∀ t : Fin grid0.N, ∀ a, win0_1.index t a = 0 := by decide +kernel
theorem flush_pos : ∀ t : Fin grid0.N, win0_6.flush t = true → ¬t.val = 0 := by decide +kernel
theorem flush_last : ∀ t : Fin grid0.N, win0_7.flush t = true → t.val = 18 := by decide +kernel

/-- The argument blocks at coordinates. -/
theorem blk_c (c : Dev nD) (t : Fin cfg0.N) : (iblk m c 0 t : Vec Ideal S768x4608 .i8) = V m c main_arg0 :=
  funext fun y => congrArg (V m c main_arg0) (funext fun a => Fin.ext (Pipeline.Window.rect_emb_val_of_index_zero win0_0 t a (idx_c t a) y))

theorem blk_r (c : Dev nD) (t : Fin cfg0.N) : (iblk m c 1 t : Vec Ideal S768x1 .f32) = V m c main_arg1 :=
  funext fun y => congrArg (V m c main_arg1) (funext fun a => Fin.ext (Pipeline.Window.rect_emb_val_of_index_zero win0_1 t a (idx_r t a) y))

theorem blk_g (c : Dev nD) (t : Fin cfg0.N) (ht : t.val < 18) (k c' : ℕ) (hk : k < 4608) (hc : c' < 512) :
    at2 (iblk m c 2 t : Vec Ideal S4608x512 .i8) k c' = at2 (V m c main_arg2 : Vec Ideal S4608x9216 .i8) k (512 * t.val + c') := by
  have e := idx_g t
  refine at2_of (V m c main_arg2 : Vec Ideal S4608x9216 .i8) ((win0_2.rect t).emb (ValueIdx.ix2 (Fin.ofNat 4608 k) (Fin.ofNat 512 c'))) _ _ ?_ ?_
  · refine (Pipeline.Window.rect_emb_val_of_index_zero win0_2 t ⟨0, by decide⟩ e.1 _).trans (Nat.mod_eq_of_lt hk)
  · refine (Pipeline.Window.rect_emb_val win0_2 t _ ⟨1, by decide⟩).trans ?_
    show win0_2.index t 1 * 512 + c' % 512 = _
    rw [e.2 ht, Nat.mod_eq_of_lt hc, Nat.mul_comm]

theorem blk_u (c : Dev nD) (t : Fin cfg0.N) (ht : t.val < 18) (k c' : ℕ) (hk : k < 4608) (hc : c' < 512) :
    at2 (iblk m c 4 t : Vec Ideal S4608x512 .i8) k c' = at2 (V m c main_arg4 : Vec Ideal S4608x9216 .i8) k (512 * t.val + c') := by
  have e := idx_u t
  refine at2_of (V m c main_arg4 : Vec Ideal S4608x9216 .i8) ((win0_4.rect t).emb (ValueIdx.ix2 (Fin.ofNat 4608 k) (Fin.ofNat 512 c'))) _ _ ?_ ?_
  · refine (Pipeline.Window.rect_emb_val_of_index_zero win0_4 t ⟨0, by decide⟩ e.1 _).trans (Nat.mod_eq_of_lt hk)
  · refine (Pipeline.Window.rect_emb_val win0_4 t _ ⟨1, by decide⟩).trans ?_
    show win0_4.index t 1 * 512 + c' % 512 = _
    rw [e.2 ht, Nat.mod_eq_of_lt hc, Nat.mul_comm]

theorem blk_a (c : Dev nD) (t : Fin cfg0.N) (c' : ℕ) (hc : c' < 512) :
    at2 (iblk m c 3 t : Vec Ideal S1x512 .f32) 0 c' = at2 (V m c main_v0 : Vec Ideal S1x9216 .f32) 0 (512 * (t.val - 1) + c') := by
  have e := idx_a t
  refine at2_of (V m c main_v0 : Vec Ideal S1x9216 .f32) ((win0_3.rect t).emb (ValueIdx.ix2 (Fin.ofNat 1 0) (Fin.ofNat 512 c'))) _ _ ?_ ?_
  · refine (Pipeline.Window.rect_emb_val_of_index_zero win0_3 t ⟨0, by decide⟩ e.1 _).trans rfl
  · refine (Pipeline.Window.rect_emb_val win0_3 t _ ⟨1, by decide⟩).trans ?_
    show win0_3.index t 1 * 512 + c' % 512 = _
    rw [e.2, Nat.mod_eq_of_lt hc, Nat.mul_comm]

theorem blk_b (c : Dev nD) (t : Fin cfg0.N) (c' : ℕ) (hc : c' < 512) :
    at2 (iblk m c 5 t : Vec Ideal S1x512 .f32) 0 c' = at2 (V m c main_v1 : Vec Ideal S1x9216 .f32) 0 (512 * (t.val - 1) + c') := by
  have e := idx_b t
  refine at2_of (V m c main_v1 : Vec Ideal S1x9216 .f32) ((win0_5.rect t).emb (ValueIdx.ix2 (Fin.ofNat 1 0) (Fin.ofNat 512 c'))) _ _ ?_ ?_
  · refine (Pipeline.Window.rect_emb_val_of_index_zero win0_5 t ⟨0, by decide⟩ e.1 _).trans rfl
  · refine (Pipeline.Window.rect_emb_val win0_5 t _ ⟨1, by decide⟩).trans ?_
    show win0_5.index t 1 * 512 + c' % 512 = _
    rw [e.2, Nat.mod_eq_of_lt hc, Nat.mul_comm]

/-- The activations of a point after the first. -/
theorem cells (c : Dev nD) (t : Fin cfg0.N) (ht : ¬t.val = 0) (hp : t.val - 1 < cfg0.N) (r k : ℕ) (hr : r < 768) (hk : k < 512) :
    cell (V m c main_arg1) (iblk m c 3 t) (iblk m c 5 t) (prods (wide (V m c main_arg0)) (iblk m c 2 ⟨t.val - 1, hp⟩) (iblk m c 4 ⟨t.val - 1, hp⟩)) r k
      = ffn (V m c main_arg0) (V m c main_arg1) (V m c main_arg2) (V m c main_v0) (V m c main_arg4) (V m c main_v1) r (512 * (t.val - 1) + k) := by
  have hN := lt_of_lt_of_eq t.isLt (show cfg0.N = 19 from N_0)
  exact cell_eq (V m c main_arg0) (V m c main_arg1) (V m c main_arg2) (V m c main_v0) (V m c main_arg4) (V m c main_v1) _ _ _ _ (t.val - 1)
    (fun k c' hk hc => blk_g m c ⟨t.val - 1, hp⟩ (by show t.val - 1 < 18; omega) k c' hk hc)
    (fun k c' hk hc => blk_u m c ⟨t.val - 1, hp⟩ (by show t.val - 1 < 18; omega) k c' hk hc)
    (fun c' hc => blk_a m c t c' hc) (fun c' hc => blk_b m c t c' hc) r k hr hk

/-- What a point after the first leaves in the activation block. -/
theorem left (c : Dev nD) (t : Fin cfg0.N) (ht : ¬t.val = 0) (y : S768x512.Idx) :
    (outsAt0 m c t.val t.isLt).1 y = ffn (V m c main_arg0) (V m c main_arg1) (V m c main_arg2) (V m c main_v0) (V m c main_arg4) (V m c main_v1) (y 0).val (512 * (t.val - 1) + (y 1).val) := by
  have hN := lt_of_lt_of_eq t.isLt (show cfg0.N = 19 from N_0)
  have hp : t.val - 1 < cfg0.N := Nat.lt_of_le_of_lt (Nat.sub_le _ _) t.isLt
  obtain ⟨-, i1⟩ := scratches m c (t.val - 1) hp
  rw [outsAt0_B m c t (by omega)]
  dsimp only
  rw [act_B, i1, blk_c, blk_r]
  exact cells m c t ht hp _ _ (y 0).isLt (y 1).isLt

/-- What a point leaves in the column of magnitudes: the greatest over the tiles before it, and zero. -/
theorem maxLeft (c : Dev nD) (n : ℕ) (hn : n < cfg0.N) (y : S768x1.Idx) :
    (outsAt0 m c n hn).2.1 y = max 0 (peak (ffn (V m c main_arg0) (V m c main_arg1) (V m c main_arg2) (V m c main_v0) (V m c main_arg4) (V m c main_v1) (y 0).val) (512 * n)) := by
  induction n generalizing y with
  | zero =>
    have e := outsAt0_A m c ⟨0, hn⟩ rfl
    rw [max_A] at e
    refine (congrFun (congrArg (fun z => z.2.1) e) y).trans ?_
    rw [Nat.mul_zero, peak_zero]
    exact (max_eq_left bot_le).symm
  | succ n ih =>
    have hN := lt_of_lt_of_eq hn (show cfg0.N = 19 from N_0)
    have e := outsAt0_B m c ⟨n + 1, hn⟩ (by show ¬(n + 1) % 19 = 0; omega)
    obtain ⟨-, i1⟩ := scratches m c n (Nat.lt_of_succ_lt hn)
    rw [max_B] at e
    refine (congrFun (congrArg (fun z => z.2.1) e) y).trans ?_
    show maxBlock _ _ _ (outsAt0 m c n (Nat.lt_of_succ_lt hn)).2.2.2 (outsAt0 m c n (Nat.lt_of_succ_lt hn)).2.1 y = _
    rw [i1, blk_c, blk_r]
    have y0 : (y 0).val < 768 := (y 0).isLt
    have e1 : at2 (outsAt0 m c n (Nat.lt_of_succ_lt hn)).2.1 (y 0).val 0 = max 0 (peak (ffn (V m c main_arg0) (V m c main_arg1) (V m c main_arg2) (V m c main_v0) (V m c main_arg4) (V m c main_v1) (y 0).val) (512 * n)) := by
      refine (ih (Nat.lt_of_succ_lt hn) (ValueIdx.ix2 (Fin.ofNat 768 (y 0).val) (Fin.ofNat 1 0))).trans ?_
      show max 0 (peak (ffn (V m c main_arg0) (V m c main_arg1) (V m c main_arg2) (V m c main_v0) (V m c main_arg4) (V m c main_v1) ((y 0).val % 768)) (512 * n)) = _
      rw [Nat.mod_eq_of_lt y0]
    have e2 : peak (cell (V m c main_arg1) (iblk m c 3 ⟨n + 1, hn⟩) (iblk m c 5 ⟨n + 1, hn⟩)
          (prods (wide (V m c main_arg0)) (iblk m c 2 ⟨n, Nat.lt_of_succ_lt hn⟩) (iblk m c 4 ⟨n, Nat.lt_of_succ_lt hn⟩)) (y 0).val) 512
        = peak (fun k => ffn (V m c main_arg0) (V m c main_arg1) (V m c main_arg2) (V m c main_v0) (V m c main_arg4) (V m c main_v1) (y 0).val (512 * n + k)) 512 :=
      peak_congr _ _ 512 fun k hk => cells m c ⟨n + 1, hn⟩ (Nat.succ_ne_zero n) (Nat.lt_of_succ_lt hn) _ k y0 hk
    refine (congrArg₂ max e1 e2).trans ?_
    rw [max_assoc, ← peak_add]
    rfl

/-- The activations' array. -/
theorem array (c : Dev nD) : (dats m 0 c).arrAt 6 cfg0.N
    = (fun y => ffn (V m c main_arg0) (V m c main_arg1) (V m c main_arg2) (V m c main_v0) (V m c main_arg4) (V m c main_v1) (y 0).val (y 1).val : Vec Ideal S768x9216 .f32) := by
  refine (dats m 0 c).arrAt_eq_of_covers 6 _ (by decide +kernel) fun t hf y => ?_
  have e := idx_out t
  have b0 : ((win0_6.rect t).emb y 0 : ℕ) = y 0 := Pipeline.Window.rect_emb_val_of_index_zero win0_6 t ⟨0, by decide⟩ e.1 y
  have b1 : ((win0_6.rect t).emb y 1 : ℕ) = 512 * (t.val - 1) + y 1 :=
    (Pipeline.Window.rect_emb_val win0_6 t y ⟨1, by decide⟩).trans (by
      show win0_6.index t 1 * 512 + _ = _
      rw [e.2, Nat.mul_comm]; rfl)
  have l := left m c t (flush_pos t hf) y
  rw [← after0_6] at l
  refine l.trans ?_
  show _ = ffn _ _ _ _ _ _ ((win0_6.rect t).emb y 0).val ((win0_6.rect t).emb y 1).val
  exact (congrArg₂ (ffn _ _ _ _ _ _) b0 b1).symm

/-- The magnitudes' array. -/
theorem maxArray (c : Dev nD) : (dats m 0 c).arrAt 7 cfg0.N
    = (fun y => peak (ffn (V m c main_arg0) (V m c main_arg1) (V m c main_arg2) (V m c main_v0) (V m c main_arg4) (V m c main_v1) (y 0).val) 9216 : Vec Ideal S768x1 .f32) := by
  refine (dats m 0 c).arrAt_eq_of_covers 7 _ (by decide +kernel) fun t hf y => ?_
  have b0 : ((win0_7.rect t).emb y 0 : ℕ) = y 0 := Pipeline.Window.rect_emb_val_of_index_zero win0_7 t ⟨0, by decide⟩ (idx_max t).1 y
  have l := maxLeft m c t.val t.isLt y
  rw [← after0_7] at l
  refine l.trans ?_
  rw [flush_last t hf]
  refine (max_eq_right (peak_nonneg _ _ (by decide))).trans ?_
  show _ = peak (ffn _ _ _ _ _ _ ((win0_7.rect t).emb y 0).val) 9216
  exact (congrArg (fun r => peak (ffn _ _ _ _ _ _ r) 9216) b0).symm

end Cert.FfnIdeal.Tile
end
-- ==== Proof.FfnRefValue.lean ====
module

public import proofs.«01_k».proof.Proof.FfnValue
public import proofs.«01_k».proof.Proof.Gen.FfnRefIdeal.Frame

@[expose] public section

set_option maxRecDepth 16384

noncomputable section

/-! The reference's result arrays: the same functions of the arguments. -/
namespace Cert.FfnRefIdeal.Tile

open scoped BigOperators
open Cert.FfnRefIdeal Cert.FfnRefIdeal.Gen Idealize.ShloMosaic Idealize.ShloMosaic.TcCoe Idealize.ShloMosaic.Tactic Idealize.SL.Sem
open Idealize.ShloMosaic.ValueIdx Blocks Rows
open Idealize.ShloMosaic.Pipeline (Dat)
open Cert.FfnIdeal.Tile (ffn dot act gelu)

variable (m : (ℓ : Loc nD τ sig) → Buf (Elt Ideal) ℓ) (ρ : Dev nD → PrngReg)

/-- Every window's block is its whole array. -/
theorem idx0 : ∀ t : Fin grid0.N, ∀ a, win0_0.index t a = 0 := by decide +kernel
theorem idx1 : ∀ t : Fin grid0.N, ∀ a, win0_1.index t a = 0 := by decide +kernel
theorem idx2 : ∀ t : Fin grid0.N, ∀ a, win0_2.index t a = 0 := by decide +kernel
theorem idx3 : ∀ t : Fin grid0.N, ∀ a, win0_3.index t a = 0 := by decide +kernel
theorem idx4 : ∀ t : Fin grid0.N, ∀ a, win0_4.index t a = 0 := by decide +kernel
theorem idx5 : ∀ t : Fin grid0.N, ∀ a, win0_5.index t a = 0 := by decide +kernel
theorem idx6 : ∀ t : Fin grid0.N, ∀ a, win0_6.index t a = 0 := by decide +kernel
theorem idx7 : ∀ t : Fin grid0.N, ∀ a, win0_7.index t a = 0 := by decide +kernel

theorem blk0 (c : Dev nD) (t : Fin cfg0.N) : (iblk m c 0 t : Vec Ideal S768x4608 .i8) = V m c main_arg0 :=
  funext fun y => congrArg (V m c main_arg0) (funext fun a => Fin.ext (Pipeline.Window.rect_emb_val_of_index_zero win0_0 t a (idx0 t a) y))
theorem blk1 (c : Dev nD) (t : Fin cfg0.N) : (iblk m c 1 t : Vec Ideal S768x1 .f32) = V m c main_arg1 :=
  funext fun y => congrArg (V m c main_arg1) (funext fun a => Fin.ext (Pipeline.Window.rect_emb_val_of_index_zero win0_1 t a (idx1 t a) y))
theorem blk2 (c : Dev nD) (t : Fin cfg0.N) : (iblk m c 2 t : Vec Ideal S4608x9216 .i8) = V m c main_arg2 :=
  funext fun y => congrArg (V m c main_arg2) (funext fun a => Fin.ext (Pipeline.Window.rect_emb_val_of_index_zero win0_2 t a (idx2 t a) y))
theorem blk3 (c : Dev nD) (t : Fin cfg0.N) : (iblk m c 3 t : Vec Ideal S1x9216 .f32) = V m c main_v0 :=
  funext fun y => congrArg (V m c main_v0) (funext fun a => Fin.ext (Pipeline.Window.rect_emb_val_of_index_zero win0_3 t a (idx3 t a) y))
theorem blk4 (c : Dev nD) (t : Fin cfg0.N) : (iblk m c 4 t : Vec Ideal S4608x9216 .i8) = V m c main_arg4 :=
  funext fun y => congrArg (V m c main_arg4) (funext fun a => Fin.ext (Pipeline.Window.rect_emb_val_of_index_zero win0_4 t a (idx4 t a) y))
theorem blk5 (c : Dev nD) (t : Fin cfg0.N) : (iblk m c 5 t : Vec Ideal S1x9216 .f32) = V m c main_v1 :=
  funext fun y => congrArg (V m c main_v1) (funext fun a => Fin.ext (Pipeline.Window.rect_emb_val_of_index_zero win0_5 t a (idx5 t a) y))

/-- The product at an index. -/
theorem mm (C : Vec Ideal S768x4608 .i8) (W : Vec Ideal S4608x9216 .i8) (y : S768x9216.Idx) :
    matmul (F := Ideal) (DotDims.plain 768 4608 9216) none (sitofp (F := Ideal) .bf16 C) (sitofp (F := Ideal) .bf16 W)
      (constant (F := Ideal) S768x9216 .f32 0x00000000#32) y = dot C W (y 0).val (y 1).val := by
  refine (mm2_apply _ _ y).trans (Finset.sum_congr rfl fun k _ => ?_)
  exact mul_eq (congrArg (fun z : BitVec 8 => (((z.toInt : ℝ) : EReal))) (at2_of C _ _ _ rfl rfl))
    (congrArg (fun z : BitVec 8 => (((z.toInt : ℝ) : EReal))) (at2_of W _ _ _ rfl rfl))

/-- A column of scales at an index … -/
theorem colS (s : Vec Ideal S768x1 .f32) (y : S768x9216.Idx) : broadcastTo S768x9216 s broadcasts_S768x1_S768x9216 y = at2 s (y 0).val 0 :=
  (col_apply (by omega) s _ y).trans (at2_of s _ _ _ rfl rfl)

/-- … and a row. -/
theorem rowS (a : Vec Ideal S1x9216 .f32) (y : S768x9216.Idx) :
    broadcastTo S768x9216 (shapeCast S1x9216 a shapeCasts_S1x9216_S1x9216) broadcasts_S1x9216_S768x9216 y = at2 a 0 (y 1).val := by
  refine (row_apply (by omega) _ _ y).trans ?_
  exact (congrFun (shapeCast_self (s := S1x9216) a _) _).trans (at2_of a _ _ _ rfl rfl)

/-- The gated activations of whole arrays: the two sums and the spread scales. -/
def body (G U S A B : FVec Ideal S768x9216 .f32) : FVec Ideal S768x9216 .f32 :=
  have x := mulf (mulf G S) A
  mulf (mulf x (mulf (broadcast S768x9216 (Scalar.ofBits .f32 0x3F000000#32)) (addf (broadcast S768x9216 (Scalar.ofBits .f32 0x3F800000#32))
    (tanh (mulf (broadcast S768x9216 (Scalar.ofBits .f32 0x3F4C422A#32)) (addf x (mulf (broadcast S768x9216 (Scalar.ofBits .f32 0x3D372713#32))
      (mulf x (mulf x x))))))))) (mulf (mulf U S) B)

theorem body_apply (G U S A B : FVec Ideal S768x9216 .f32) (y : S768x9216.Idx) : body G U S A B y = act (G y) (U y) (S y) (A y) (B y) := rfl

/-- The printed body is that. -/
theorem pay2_body (C : Vec Ideal S768x4608 .i8) (s : Vec Ideal S768x1 .f32) (G : Vec Ideal S4608x9216 .i8) (a : Vec Ideal S1x9216 .f32) (U : Vec Ideal S4608x9216 .i8) (b : Vec Ideal S1x9216 .f32) : k0_pay2 C s G a C s U b
    = body (matmul (F := Ideal) (DotDims.plain 768 4608 9216) none (sitofp (F := Ideal) .bf16 C) (sitofp (F := Ideal) .bf16 G) (constant (F := Ideal) S768x9216 .f32 0x00000000#32))
        (matmul (F := Ideal) (DotDims.plain 768 4608 9216) none (sitofp (F := Ideal) .bf16 C) (sitofp (F := Ideal) .bf16 U) (constant (F := Ideal) S768x9216 .f32 0x00000000#32))
        (broadcastTo S768x9216 s broadcasts_S768x1_S768x9216)
        (broadcastTo S768x9216 (shapeCast S1x9216 a shapeCasts_S1x9216_S1x9216) broadcasts_S1x9216_S768x9216)
        (broadcastTo S768x9216 (shapeCast S1x9216 b shapeCasts_S1x9216_S1x9216) broadcasts_S1x9216_S768x9216) := rfl

/-- The body's activations at an index. -/
theorem pay2 (C : Vec Ideal S768x4608 .i8) (s : Vec Ideal S768x1 .f32) (G : Vec Ideal S4608x9216 .i8) (a : Vec Ideal S1x9216 .f32) (U : Vec Ideal S4608x9216 .i8) (b : Vec Ideal S1x9216 .f32) (y : S768x9216.Idx) : k0_pay2 C s G a C s U b y = ffn C s G a U b (y 0).val (y 1).val := by
  rw [pay2_body, body_apply, colS s y, rowS a y, rowS b y]
  rw [mm C G y, mm C U y]
  rfl

theorem pay1_max (v : FVec Ideal S768x9216 .f32) (y : S768x1.Idx) :
    k0_pay1 v y = Finset.univ.sup fun k : Fin 9216 => mag (v (ValueIdx.ix2 (y 0) k)) :=
  rowmax_apply v reduces_S768x9216_S768 (.inl rfl) rfl shapeCasts_S768_S768x1 y

/-- The body's magnitudes at an index. -/
theorem pay1 (C : Vec Ideal S768x4608 .i8) (s : Vec Ideal S768x1 .f32) (G : Vec Ideal S4608x9216 .i8) (a : Vec Ideal S1x9216 .f32) (U : Vec Ideal S4608x9216 .i8) (b : Vec Ideal S1x9216 .f32) (y : S768x1.Idx) : k0_pay1 (k0_pay2 C s G a C s U b) y = peak (ffn C s G a U b (y 0).val) 9216 := by
  refine (pay1_max _ y).trans ?_
  exact (Finset.sup_congr rfl fun k _ => congrArg mag (pay2 C s G a U b (ValueIdx.ix2 (y 0) k))).trans
    (sup_fin (fun c => mag (ffn C s G a U b (y 0).val c)) 9216)

/-- The activations' array. -/
theorem array (c : Dev nD) : (dats m 0 c).arrAt 6 cfg0.N
    = (fun y => ffn (V m c main_arg0) (V m c main_arg1) (V m c main_arg2) (V m c main_v0) (V m c main_arg4) (V m c main_v1) (y 0).val (y 1).val : Vec Ideal S768x9216 .f32) := by
  refine (dats m 0 c).arrAt_eq_of_covers 6 _ (by decide +kernel) fun t hf y => ?_
  have b : ∀ a, ((win0_6.rect t).emb y a : ℕ) = y a := fun a => Pipeline.Window.rect_emb_val_of_index_zero win0_6 t a (idx6 t a) y
  have l : (dats m 0 c).after 6 t = out0_6 (iblk m c 0 t) (iblk m c 1 t) (iblk m c 2 t) (iblk m c 3 t) (iblk m c 4 t) (iblk m c 5 t) := after0_6 m c t
  have e : out0_6 (iblk m c 0 t) (iblk m c 1 t) (iblk m c 2 t) (iblk m c 3 t) (iblk m c 4 t) (iblk m c 5 t) = k0_pay2 (V m c main_arg0) (V m c main_arg1) (V m c main_arg2) (V m c main_v0) (V m c main_arg0) (V m c main_arg1) (V m c main_arg4) (V m c main_v1) := by
    rw [blk0, blk1, blk2, blk3, blk4, blk5]
    refine (View.canon_unit_zero zero2 _ _).trans ?_
    unfold k0_pay3
    rw [View.ld_unit_zero zero2, View.ld_unit_zero zero2, View.ld_unit_zero zero2, View.ld_unit_zero zero2, View.ld_unit_zero zero2, View.ld_unit_zero zero2]
  refine (congrFun (l.trans e) y).trans ((pay2 _ _ _ _ _ _ y).trans ?_)
  exact (congrArg₂ (ffn _ _ _ _ _ _) (b 0) (b 1)).symm

/-- The magnitudes' array. -/
theorem maxArray (c : Dev nD) : (dats m 0 c).arrAt 7 cfg0.N
    = (fun y => peak (ffn (V m c main_arg0) (V m c main_arg1) (V m c main_arg2) (V m c main_v0) (V m c main_arg4) (V m c main_v1) (y 0).val) 9216 : Vec Ideal S768x1 .f32) := by
  refine (dats m 0 c).arrAt_eq_of_covers 7 _ (by decide +kernel) fun t hf y => ?_
  have b : ∀ a, ((win0_7.rect t).emb y a : ℕ) = y a := fun a => Pipeline.Window.rect_emb_val_of_index_zero win0_7 t a (idx7 t a) y
  have l : (dats m 0 c).after 7 t = out0_7 (iblk m c 0 t) (iblk m c 1 t) (iblk m c 2 t) (iblk m c 3 t) (iblk m c 4 t) (iblk m c 5 t) := after0_7 m c t
  have e : out0_7 (iblk m c 0 t) (iblk m c 1 t) (iblk m c 2 t) (iblk m c 3 t) (iblk m c 4 t) (iblk m c 5 t) = k0_pay1 (k0_pay2 (V m c main_arg0) (V m c main_arg1) (V m c main_arg2) (V m c main_v0) (V m c main_arg0) (V m c main_arg1) (V m c main_arg4) (V m c main_v1)) := by
    rw [blk0, blk1, blk2, blk3, blk4, blk5]
    refine (View.canon_unit_zero zero2 _ _).trans ?_
    unfold k0_pay3
    rw [View.ld_unit_zero zero2, View.ld_unit_zero zero2, View.ld_unit_zero zero2, View.ld_unit_zero zero2, View.ld_unit_zero zero2, View.ld_unit_zero zero2]
  refine (congrFun (l.trans e) y).trans ((pay1 _ _ _ _ _ _ y).trans ?_)
  exact (congrArg (fun r => peak (ffn _ _ _ _ _ _ r) 9216) (b 0)).symm

/-! The run with the two arrays named and the arguments unchanged. -/

theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem run_blocks : θ_run defs (onTc (τ := τ) (main (F := Ideal))) ⟨m, fun _ => 0, ρ⟩ fun r => ∀ c : Dev nD,
      r.2.mem ((c : Thread nD τ).loc main_v2_0) = (dats m 0 c).arrAt 6 cfg0.N
      ∧ r.2.mem ((c : Thread nD τ).loc main_v2_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7, kept_main_arg0 m r h c, kept_main_arg1 m r h c, kept_main_arg2 m r h c,
      kept_main_arg3 m r h c, kept_main_arg4 m r h c, kept_main_arg5 m r h c⟩)
    (run_main m ρ)

end Cert.FfnRefIdeal.Tile
end
-- ==== Proof.FfnClaim.lean ====
module

public import proofs.«01_k».proof.Defs
public import proofs.«01_k».proof.Proof.FfnRefValue

@[expose] public section

set_option maxRecDepth 16384

noncomputable section

/-! The kernel's gated activations and their magnitudes are the reference's. -/
namespace Cert.FfnClaim

open Idealize.ShloMosaic Idealize.ShloMosaic.TcCoe Idealize.SL.Sem

/-! The column scales as rows, in the two programs. -/

theorem rowG (m : (ℓ : Loc Cert.FfnIdeal.nD Cert.FfnIdeal.τ Cert.FfnIdeal.sig) → Buf (Elt Ideal) ℓ) (c : Dev Cert.FfnIdeal.nD) :
    (Cert.FfnIdeal.Gen.V m c Cert.FfnIdeal.main_v0 : Vec Ideal Cert.FfnIdeal.S1x9216 .f32)
      = shapeCast Cert.FfnIdeal.S1x9216 (m ((c : Thread Cert.FfnIdeal.nD Cert.FfnIdeal.τ).loc Cert.FfnIdeal.main_arg3) : Vec Ideal Cert.FfnIdeal.S9216 .f32)
          Cert.FfnIdeal.Gen.shapeCasts_S9216_S1x9216 := by
  unfold Cert.FfnIdeal.Gen.V
  simp only [Cert.FfnIdeal.Gen.hostOps0, StableHlo.after_cons, StableHlo.after_nil]
  refine (StableHlo.reshape_result_ne _ _ _ _ _ _ _ (by decide)).trans ((StableHlo.reshape_result _ _ _ _ _ _ _).trans ?_)
  rfl

theorem rowU (m : (ℓ : Loc Cert.FfnIdeal.nD Cert.FfnIdeal.τ Cert.FfnIdeal.sig) → Buf (Elt Ideal) ℓ) (c : Dev Cert.FfnIdeal.nD) :
    (Cert.FfnIdeal.Gen.V m c Cert.FfnIdeal.main_v1 : Vec Ideal Cert.FfnIdeal.S1x9216 .f32)
      = shapeCast Cert.FfnIdeal.S1x9216 (m ((c : Thread Cert.FfnIdeal.nD Cert.FfnIdeal.τ).loc Cert.FfnIdeal.main_arg5) : Vec Ideal Cert.FfnIdeal.S9216 .f32)
          Cert.FfnIdeal.Gen.shapeCasts_S9216_S1x9216 := by
  unfold Cert.FfnIdeal.Gen.V
  simp only [Cert.FfnIdeal.Gen.hostOps0, StableHlo.after_cons, StableHlo.after_nil]
  refine (StableHlo.reshape_result _ _ _ _ _ _ _).trans ?_
  refine Eq.trans (b := shapeCast Cert.FfnIdeal.S1x9216 _ Cert.FfnIdeal.Gen.shapeCasts_S9216_S1x9216) rfl (congrArg (fun z : Vec Ideal Cert.FfnIdeal.S9216 .f32 => shapeCast Cert.FfnIdeal.S1x9216 z Cert.FfnIdeal.Gen.shapeCasts_S9216_S1x9216) ?_)
  refine (StableHlo.reshape_result_ne _ _ _ _ _ _ _ (by decide)).trans ?_
  rfl

theorem rowG' (m : (ℓ : Loc Cert.FfnRefIdeal.nD Cert.FfnRefIdeal.τ Cert.FfnRefIdeal.sig) → Buf (Elt Ideal) ℓ) (c : Dev Cert.FfnRefIdeal.nD) :
    (Cert.FfnRefIdeal.Gen.V m c Cert.FfnRefIdeal.main_v0 : Vec Ideal Cert.FfnRefIdeal.S1x9216 .f32)
      = shapeCast Cert.FfnRefIdeal.S1x9216 (m ((c : Thread Cert.FfnRefIdeal.nD Cert.FfnRefIdeal.τ).loc Cert.FfnRefIdeal.main_arg3) : Vec Ideal Cert.FfnRefIdeal.S9216 .f32)
          Cert.FfnRefIdeal.Gen.shapeCasts_S9216_S1x9216 := by
  unfold Cert.FfnRefIdeal.Gen.V
  simp only [Cert.FfnRefIdeal.Gen.hostOps0, StableHlo.after_cons, StableHlo.after_nil]
  refine (StableHlo.reshape_result_ne _ _ _ _ _ _ _ (by decide)).trans ((StableHlo.reshape_result _ _ _ _ _ _ _).trans ?_)
  rfl

theorem rowU' (m : (ℓ : Loc Cert.FfnRefIdeal.nD Cert.FfnRefIdeal.τ Cert.FfnRefIdeal.sig) → Buf (Elt Ideal) ℓ) (c : Dev Cert.FfnRefIdeal.nD) :
    (Cert.FfnRefIdeal.Gen.V m c Cert.FfnRefIdeal.main_v1 : Vec Ideal Cert.FfnRefIdeal.S1x9216 .f32)
      = shapeCast Cert.FfnRefIdeal.S1x9216 (m ((c : Thread Cert.FfnRefIdeal.nD Cert.FfnRefIdeal.τ).loc Cert.FfnRefIdeal.main_arg5) : Vec Ideal Cert.FfnRefIdeal.S9216 .f32)
          Cert.FfnRefIdeal.Gen.shapeCasts_S9216_S1x9216 := by
  unfold Cert.FfnRefIdeal.Gen.V
  simp only [Cert.FfnRefIdeal.Gen.hostOps0, StableHlo.after_cons, StableHlo.after_nil]
  refine (StableHlo.reshape_result _ _ _ _ _ _ _).trans ?_
  refine Eq.trans (b := shapeCast Cert.FfnRefIdeal.S1x9216 _ Cert.FfnRefIdeal.Gen.shapeCasts_S9216_S1x9216) rfl (congrArg (fun z : Vec Ideal Cert.FfnRefIdeal.S9216 .f32 => shapeCast Cert.FfnRefIdeal.S1x9216 z Cert.FfnRefIdeal.Gen.shapeCasts_S9216_S1x9216) ?_)
  refine (StableHlo.reshape_result_ne _ _ _ _ _ _ _ (by decide)).trans ?_
  rfl

theorem algebraic : Cert.algebraic_FfnIdeal_FfnRefIdeal (hFfnIdeal := Cert.FfnIdeal.Gen.facts) (hFfnRefIdeal := Cert.FfnRefIdeal.Gen.facts) := by
  intro m g m' g' _ hm
  refine ⟨fun c => (Cert.FfnIdeal.Gen.dats m 0 c).arrAt 6 Cert.FfnIdeal.cfg0.N, fun c => (Cert.FfnIdeal.Gen.dats m 0 c).arrAt 7 Cert.FfnIdeal.cfg0.N, Cert.FfnIdeal.Value.run_blocks m g, ?_⟩
  refine (θ_run _ _ _).mono (fun r h c => ⟨(h c).1.trans ?_, (h c).2.1.trans ?_, (h c).2.2⟩) (Cert.FfnRefIdeal.Tile.run_blocks m' g')
  all_goals
    obtain ⟨h0, h1, h2, h3, h4, h5⟩ := hm c
    dsimp only
  · rw [Cert.FfnRefIdeal.Tile.array, Cert.FfnIdeal.Tile.array, rowG, rowG', rowU, rowU', Cert.FfnIdeal.Gen.V_main_arg0, Cert.FfnIdeal.Gen.V_main_arg1, Cert.FfnIdeal.Gen.V_main_arg2, Cert.FfnIdeal.Gen.V_main_arg4,
      Cert.FfnRefIdeal.Gen.V_main_arg0, Cert.FfnRefIdeal.Gen.V_main_arg1, Cert.FfnRefIdeal.Gen.V_main_arg2, Cert.FfnRefIdeal.Gen.V_main_arg4, h0, h1, h2, h3, h4, h5]
  · rw [Cert.FfnRefIdeal.Tile.maxArray, Cert.FfnIdeal.Tile.maxArray, rowG, rowG', rowU, rowU', Cert.FfnIdeal.Gen.V_main_arg0, Cert.FfnIdeal.Gen.V_main_arg1, Cert.FfnIdeal.Gen.V_main_arg2, Cert.FfnIdeal.Gen.V_main_arg4,
      Cert.FfnRefIdeal.Gen.V_main_arg0, Cert.FfnRefIdeal.Gen.V_main_arg1, Cert.FfnRefIdeal.Gen.V_main_arg2, Cert.FfnRefIdeal.Gen.V_main_arg4, h0, h1, h2, h3, h4, h5]

end Cert.FfnClaim
end
-- ==== Proof.DownTile.lean ====
module

public import proofs.«01_k».proof.Proof.Gen.DownIdeal.Value
public import proofs.«01_k».proof.Proof.Blocks
public import Idealize.ShloMosaic.Lib.Pipeline.CanonAppend

@[expose] public section

set_option maxRecDepth 16384

noncomputable section

/-! What one step of the down projection leaves: in the scratch the seven products of its tile, in the output block the
    four sums of the products it found, scaled by the token and the channel scales. -/
namespace Cert.DownIdeal.Tile

open Cert.DownIdeal Cert.DownIdeal.Gen Idealize.ShloMosaic Idealize.ShloMosaic.TcCoe Idealize.ShloMosaic.Tactic Idealize.SL.Sem
open Idealize.ShloMosaic.ValueIdx Blocks

/-- The left operand's quadrants at row `r`: half `i` of the rows, half `j` of the contracted axis. -/
def aQ (X : Vec Ideal S768x9216 .bf16) (r : ℕ) (i j : ℕ) (k : Fin 4608) : EReal := at2 X (384 * i + r) (4608 * j + k.val)

/-- The weight tile's quadrants at column `c`: half `i` of the contracted axis, half `j` of the tile's columns. -/
def bQ (W : Vec Ideal S9216x512 .i8) (c : ℕ) (i j : ℕ) (k : Fin 4608) : EReal :=
  (((at2 W (4608 * i + k.val) (256 * j + c)).toInt : ℝ) : EReal)

/-- The seven products of a tile, as one array. -/
def prods (X : Vec Ideal S768x9216 .bf16) (W : Vec Ideal S9216x512 .i8) : Vec Ideal S7x384x256 .f32 :=
  fun y => (fun p r c => Strassen.prod (aQ X r) (bQ W c) p) (y 0).val (y 1).val (y 2).val

/-- Piece `p` of the products' store restricts `prods`. -/
theorem piece (X : Vec Ideal S768x9216 .bf16) (W : Vec Ideal S9216x512 .i8) (p : ℕ) (size : Fin 3 → ℕ) (hs : size = ![1, 384, 256])
    (inb : ∀ a, (![p, 0, 0] : Fin 3 → ℕ) a + size a ≤ S7x384x256.size a)
    (x : (Rect.unit (s := S7x384x256) ![p, 0, 0] size inb).shape.Idx) (v : EReal)
    (h : v = Strassen.prod (aQ X (x 1).val) (bQ W (x 2).val) p) :
    v = prods X W ((Rect.unit (s := S7x384x256) ![p, 0, 0] size inb).emb x) := by
  subst hs
  have h0 : (x 0).val < 1 := (x 0).isLt
  have e0 : p + 1 * (x 0).val = p := by omega
  have e1 : 0 + 1 * (x 1).val = (x 1).val := by omega
  have e2 : 0 + 1 * (x 2).val = (x 2).val := by omega
  refine h.trans ?_
  show _ = Strassen.prod (aQ X (0 + 1 * (x 1).val)) (bQ W (0 + 1 * (x 2).val)) (p + 1 * (x 0).val)
  rw [e0, e1, e2]

/-- A load of the left operand's quadrant. -/
theorem aLd (X : Vec Ideal S768x9216 .bf16) (i j o0 o1 : ℕ) (h0 : o0 = 384 * i) (h1 : o1 = 4608 * j)
    (inb : ∀ a, (![o0, o1] : Fin 2 → ℕ) a + (![384, 4608] : Fin 2 → ℕ) a ≤ S768x9216.size a) (r : Fin 384) (k : Fin 4608) :
    View.ld X (Rect.unit (s := S768x9216) ![o0, o1] ![384, 4608] inb) (ix2 r k) = aQ X r.val i j k := by
  subst h0 h1; exact ld2 X _ _ _ inb _

/-- A load of the weight tile's quadrant, converted. -/
theorem bLd (W : Vec Ideal S9216x512 .i8) (i j o0 o1 : ℕ) (h0 : o0 = 4608 * i) (h1 : o1 = 256 * j)
    (inb : ∀ a, (![o0, o1] : Fin 2 → ℕ) a + (![4608, 256] : Fin 2 → ℕ) a ≤ S9216x512.size a) (k : Fin 4608) (c : Fin 256) :
    (FloatOps.sitofp (F := Ideal) .bf16 (View.ld (Val := Elt Ideal) (e' := .i8) W (Rect.unit (s := S9216x512) ![o0, o1] ![4608, 256] inb) (ix2 k c)) : EReal)
      = bQ W c.val i j k := by
  subst h0 h1
  exact congrArg (fun z : BitVec 8 => (((z.toInt : ℝ) : EReal))) (ld2 (Val := Elt Ideal) (e := .i8) W _ _ _ inb _)

/-- The stores of the seven products, last first, from the left operand and the weight tile. -/
def stores (X : Vec Ideal S768x9216 .bf16) (W : Vec Ideal S9216x512 .i8) : List (View.Piece (Elt Ideal) S7x384x256 .f32) :=
  [⟨Rect.unit ![6, 0, 0] ![1, 384, 256] inb_S7x384x256_S1x384x256_6_0_0,
      k0_pay1 (k0_pay151 (View.ld X (Rect.unit ![0, 4608] ![384, 4608] inb_S768x9216_S384x4608_0_4608)) (View.ld X (Rect.unit ![384, 4608] ![384, 4608] inb_S768x9216_S384x4608_384_4608))) (k0_pay152 (View.ld W (Rect.unit ![4608, 0] ![4608, 256] inb_S9216x512_S4608x256_4608_0)) (View.ld W (Rect.unit ![4608, 256] ![4608, 256] inb_S9216x512_S4608x256_4608_256))) (constant S384x256 .f32 0x00000000#32)⟩,
    ⟨Rect.unit ![5, 0, 0] ![1, 384, 256] inb_S7x384x256_S1x384x256_5_0_0,
      k0_pay150 (View.ld X (Rect.unit ![384, 0] ![384, 4608] inb_S768x9216_S384x4608_384_0)) (View.ld X (Rect.unit ![0, 0] ![384, 4608] inb_S768x9216_S384x4608_0_0)) (View.ld W (Rect.unit ![0, 0] ![4608, 256] inb_S9216x512_S4608x256_0_0)) (View.ld W (Rect.unit ![0, 256] ![4608, 256] inb_S9216x512_S4608x256_0_256))⟩,
    ⟨Rect.unit ![4, 0, 0] ![1, 384, 256] inb_S7x384x256_S1x384x256_4_0_0,
      k0_pay149 (View.ld X (Rect.unit ![0, 0] ![384, 4608] inb_S768x9216_S384x4608_0_0)) (View.ld X (Rect.unit ![0, 4608] ![384, 4608] inb_S768x9216_S384x4608_0_4608)) (View.ld W (Rect.unit ![4608, 256] ![4608, 256] inb_S9216x512_S4608x256_4608_256))⟩,
    ⟨Rect.unit ![3, 0, 0] ![1, 384, 256] inb_S7x384x256_S1x384x256_3_0_0,
      k0_pay148 (View.ld X (Rect.unit ![384, 4608] ![384, 4608] inb_S768x9216_S384x4608_384_4608)) (View.ld W (Rect.unit ![4608, 0] ![4608, 256] inb_S9216x512_S4608x256_4608_0)) (View.ld W (Rect.unit ![0, 0] ![4608, 256] inb_S9216x512_S4608x256_0_0))⟩,
    ⟨Rect.unit ![2, 0, 0] ![1, 384, 256] inb_S7x384x256_S1x384x256_2_0_0,
      k0_pay147 (View.ld X (Rect.unit ![0, 0] ![384, 4608] inb_S768x9216_S384x4608_0_0)) (View.ld W (Rect.unit ![0, 256] ![4608, 256] inb_S9216x512_S4608x256_0_256)) (View.ld W (Rect.unit ![4608, 256] ![4608, 256] inb_S9216x512_S4608x256_4608_256))⟩,
    ⟨Rect.unit ![1, 0, 0] ![1, 384, 256] inb_S7x384x256_S1x384x256_1_0_0,
      k0_pay146 (View.ld X (Rect.unit ![384, 0] ![384, 4608] inb_S768x9216_S384x4608_384_0)) (View.ld X (Rect.unit ![384, 4608] ![384, 4608] inb_S768x9216_S384x4608_384_4608)) (View.ld W (Rect.unit ![0, 0] ![4608, 256] inb_S9216x512_S4608x256_0_0))⟩,
    ⟨Rect.unit ![0, 0, 0] ![1, 384, 256] inb_S7x384x256_S1x384x256_0_0_0,
      k0_pay145 (View.ld X (Rect.unit ![0, 0] ![384, 4608] inb_S768x9216_S384x4608_0_0)) (View.ld X (Rect.unit ![384, 4608] ![384, 4608] inb_S768x9216_S384x4608_384_4608)) (View.ld W (Rect.unit ![0, 0] ![4608, 256] inb_S9216x512_S4608x256_0_0)) (View.ld W (Rect.unit ![4608, 256] ![4608, 256] inb_S9216x512_S4608x256_4608_256))⟩]

/-- They all restrict `prods`. -/
theorem stores_eq (X : Vec Ideal S768x9216 .bf16) (W : Vec Ideal S9216x512 .i8) :
    ∀ p ∈ stores X W, ∀ x : p.1.shape.Idx, p.2 x = prods X W (p.1.emb x) := by
  unfold stores
  intro p hp
  simp only [List.mem_cons, List.not_mem_nil, or_false] at hp
  rcases hp with rfl | rfl | rfl | rfl | rfl | rfl | rfl
  · dsimp only
    intro x
    refine piece X W 6 _ rfl inb_S7x384x256_S1x384x256_6_0_0 x _ ?_
    refine (mm_apply (subf _ _) (addf (sitofp _ _) (sitofp _ _)) _ x).trans (Finset.sum_congr rfl fun k _ => ?_)
    exact mul_eq (sub_eq (aLd X 0 1 _ _ rfl rfl _ _ _) (aLd X 1 1 _ _ rfl rfl _ _ _)) (add_eq (bLd W 1 0 _ _ rfl rfl _ _ _) (bLd W 1 1 _ _ rfl rfl _ _ _))
  · dsimp only
    intro x
    refine piece X W 5 _ rfl inb_S7x384x256_S1x384x256_5_0_0 x _ ?_
    refine (mm_apply (subf _ _) (addf (sitofp _ _) (sitofp _ _)) _ x).trans (Finset.sum_congr rfl fun k _ => ?_)
    exact mul_eq (sub_eq (aLd X 1 0 _ _ rfl rfl _ _ _) (aLd X 0 0 _ _ rfl rfl _ _ _)) (add_eq (bLd W 0 0 _ _ rfl rfl _ _ _) (bLd W 0 1 _ _ rfl rfl _ _ _))
  · dsimp only
    intro x
    refine piece X W 4 _ rfl inb_S7x384x256_S1x384x256_4_0_0 x _ ?_
    refine (mm_apply (addf _ _) (sitofp _ _) _ x).trans (Finset.sum_congr rfl fun k _ => ?_)
    exact mul_eq (add_eq (aLd X 0 0 _ _ rfl rfl _ _ _) (aLd X 0 1 _ _ rfl rfl _ _ _)) (bLd W 1 1 _ _ rfl rfl _ _ _)
  · dsimp only
    intro x
    refine piece X W 3 _ rfl inb_S7x384x256_S1x384x256_3_0_0 x _ ?_
    refine (mm_apply _ (subf (sitofp _ _) (sitofp _ _)) _ x).trans (Finset.sum_congr rfl fun k _ => ?_)
    exact mul_eq (aLd X 1 1 _ _ rfl rfl _ _ _) (sub_eq (bLd W 1 0 _ _ rfl rfl _ _ _) (bLd W 0 0 _ _ rfl rfl _ _ _))
  · dsimp only
    intro x
    refine piece X W 2 _ rfl inb_S7x384x256_S1x384x256_2_0_0 x _ ?_
    refine (mm_apply _ (subf (sitofp _ _) (sitofp _ _)) _ x).trans (Finset.sum_congr rfl fun k _ => ?_)
    exact mul_eq (aLd X 0 0 _ _ rfl rfl _ _ _) (sub_eq (bLd W 0 1 _ _ rfl rfl _ _ _) (bLd W 1 1 _ _ rfl rfl _ _ _))
  · dsimp only
    intro x
    refine piece X W 1 _ rfl inb_S7x384x256_S1x384x256_1_0_0 x _ ?_
    refine (mm_apply (addf _ _) (sitofp _ _) _ x).trans (Finset.sum_congr rfl fun k _ => ?_)
    exact mul_eq (add_eq (aLd X 1 0 _ _ rfl rfl _ _ _) (aLd X 1 1 _ _ rfl rfl _ _ _)) (bLd W 0 0 _ _ rfl rfl _ _ _)
  · dsimp only
    intro x
    refine piece X W 0 _ rfl inb_S7x384x256_S1x384x256_0_0_0 x _ ?_
    refine (mm_apply (addf _ _) (addf (sitofp _ _) (sitofp _ _)) _ x).trans (Finset.sum_congr rfl fun k _ => ?_)
    exact mul_eq (add_eq (aLd X 0 0 _ _ rfl rfl _ _ _) (aLd X 1 1 _ _ rfl rfl _ _ _)) (add_eq (bLd W 0 0 _ _ rfl rfl _ _ _) (bLd W 1 1 _ _ rfl rfl _ _ _))

/-- They cover the scratch. -/
theorem stores_cover (X : Vec Ideal S768x9216 .bf16) (W : Vec Ideal S9216x512 .i8) (y : S7x384x256.Idx) :
    ∃ p ∈ stores X W, y ∈ p.1.set :=
  View.cover_of_tiledL (stores X W) S1x384x256.size (by sl_kernel_rfl) y

/-- What the products' scratch holds after a later step. -/
theorem scratch_B (c : Dev nD) (i arg1 harg1 arg2 harg2 arg3 harg3 arg4 harg4 arg5 harg5 arg6 harg6 arg7 harg7 hc0 x0 x1 x2 x3 xs0 xs1) :
    sout0_B_1 (F := Ideal) c i arg1 harg1 arg2 harg2 arg3 harg3 arg4 harg4 arg5 harg5 arg6 harg6 arg7 harg7 hc0 x0 x1 x2 x3 xs0 xs1 = prods xs0 x2 := by
  unfold sout0_B_1
  rw [View.read_writes_eq_canon _ _ _ (scover0_B_1 c i arg1 harg1 arg2 harg2 arg3 harg3 arg4 harg4 arg5 harg5 arg6 harg6 arg7 harg7 hc0 x0 x1 x2 x3 xs0 xs1)]
  unfold kernelRun0_B; dsimp only; sl_unfold_words
  simp only [View.readAt_eq_ld, harg6.read_unread, harg3.read_unread]
  funext y
  exact View.canon_apply_of_pieces (prods xs0 x2) (stores xs0 x2) (stores_eq xs0 x2) y (stores_cover xs0 x2 y)

/-- The same over an older store. -/
theorem canon_stores (X : Vec Ideal S768x9216 .bf16) (W : Vec Ideal S9216x512 .i8) (q : View.Piece (Elt Ideal) S7x384x256 .f32) :
    View.canon (stores X W ++ [q]) = prods X W :=
  funext fun y => View.canon_append_of_pieces (prods X W) [q] (stores X W) (stores_eq X W) y (stores_cover X W y)

/-- The left operand as reals: each code's integer. -/
def wide (C : Vec Ideal S768x9216 .i8) : Vec Ideal S768x9216 .bf16 := fun y => (((C y).toInt : ℝ) : EReal)

/-- Its printed form. -/
theorem pay2_eq (C : Vec Ideal S768x9216 .i8) :
    k0_pay2 (View.ld C (Rect.unit ![0, 0] ![768, 9216] inb_S768x9216_S768x9216_0_0)) = wide C :=
  (shapeCast_self _ _).trans (congrArg wide (View.ld_unit_zero zero2 _ C))

/-- What the first step leaves in the left operand's scratch. -/
theorem scratch0_A (c : Dev nD) (i arg1 harg1 arg2 harg2 arg3 harg3 arg4 harg4 arg5 harg5 arg6 harg6 arg7 harg7 hc0 x0 x1 x2 x3) :
    sout0_A_0 (F := Ideal) c i arg1 harg1 arg2 harg2 arg3 harg3 arg4 harg4 arg5 harg5 arg6 harg6 arg7 harg7 hc0 x0 x1 x2 x3 = wide x0 := by
  unfold sout0_A_0
  rw [View.read_writes_eq_canon _ _ _ (scover0_A_0 c i arg1 harg1 arg2 harg2 arg3 harg3 arg4 harg4 arg5 harg5 arg6 harg6 arg7 harg7 hc0 x0 x1 x2 x3)]
  unfold kernelRun0_A; dsimp only; sl_unfold_words
  simp only [View.readAt_eq_ld, harg1.read_unread]
  exact (View.canon_unit_zero zero2 _ _).trans (pay2_eq x0)

/-- What the first step leaves in the products' scratch. -/
theorem scratch_A (c : Dev nD) (i arg1 harg1 arg2 harg2 arg3 harg3 arg4 harg4 arg5 harg5 arg6 harg6 arg7 harg7 hc0 x0 x1 x2 x3) :
    sout0_A_1 (F := Ideal) c i arg1 harg1 arg2 harg2 arg3 harg3 arg4 harg4 arg5 harg5 arg6 harg6 arg7 harg7 hc0 x0 x1 x2 x3 = prods (wide x0) x2 := by
  unfold sout0_A_1
  rw [View.read_writes_eq_canon _ _ _ (scover0_A_1 c i arg1 harg1 arg2 harg2 arg3 harg3 arg4 harg4 arg5 harg5 arg6 harg6 arg7 harg7 hc0 x0 x1 x2 x3)]
  unfold kernelRun0_A; dsimp only; sl_unfold_words
  simp only [View.readAt_eq_ld, harg1.read_unread, harg3.read_unread]
  simp only [readCov_whole, pay2_eq]
  generalize wide x0 = X
  refine Eq.trans ?_ (canon_stores X x2 ⟨Rect.unit ![0, 0, 0] ![7, 384, 256] inb_S7x384x256_S7x384x256_0_0_0, k0_pay3 (F := Ideal)⟩)
  simp only [stores, List.cons_append, List.nil_append]

/-! ## The output block -/

/-- The output block of a step that found the products `M`. -/
def block (s : Vec Ideal S768x1 .f32) (w : Vec Ideal S1x512 .f32) (M : Vec Ideal S7x384x256 .f32) : Vec Ideal S768x512 .f32 :=
  fun y => (fun r c => Strassen.comb (fun p => at3 M p (r % 384) (c % 256)) (r / 384) (c / 256) * at2 s r 0 * at2 w 0 c) (y 0).val (y 1).val

/-- A block of 32 rows of the output is the four sums' rows times the two scales. -/
theorem rows (s : Vec Ideal S768x1 .f32) (w : Vec Ideal S1x512 .f32) (M : Vec Ideal S7x384x256 .f32) (C : FVec Ideal S32x256 .f32)
    (h n o r0 c0 : ℕ) (hr : r0 = 384 * h + o) (hc : c0 = 256 * n) (ho : o + 32 ≤ 384)
    (i0 : ∀ a, (![r0, c0] : Fin 2 → ℕ) a + (![32, 256] : Fin 2 → ℕ) a ≤ S768x512.size a)
    (i1 : ∀ a, (![r0, 0] : Fin 2 → ℕ) a + (![32, 1] : Fin 2 → ℕ) a ≤ S768x1.size a)
    (i2 : ∀ a, (![0, c0] : Fin 2 → ℕ) a + (![1, 256] : Fin 2 → ℕ) a ≤ S1x512.size a) (x : S32x256.Idx)
    (hC : C x = Strassen.comb (fun p => at3 M p (o + (x 0).val) (x 1).val) h n) :
    mulf (mulf C (broadcastTo S32x256 (View.ld (Val := Elt Ideal) (e' := .f32) s (Rect.unit (s := S768x1) ![r0, 0] ![32, 1] i1)) broadcasts_S32x1_S32x256))
        (broadcastTo S32x256 (shapeCast S1x256 (View.ld (Val := Elt Ideal) (e' := .f32) w (Rect.unit (s := S1x512) ![0, c0] ![1, 256] i2)) shapeCasts_S1x256_S1x256)
          broadcasts_S1x256_S32x256) x
      = block s w M ((Rect.unit (s := S768x512) ![r0, c0] ![32, 256] i0).emb x) := by
  have h0 : (x 0).val < 32 := (x 0).isLt
  have h1 : (x 1).val < 256 := (x 1).isLt
  have a1 : (r0 + 1 * (x 0).val) % 384 = o + (x 0).val := by omega
  have a2 : (r0 + 1 * (x 0).val) / 384 = h := by omega
  have a3 : (c0 + 1 * (x 1).val) % 256 = (x 1).val := by omega
  have a4 : (c0 + 1 * (x 1).val) / 256 = n := by omega
  have e : ∀ r c, r = r0 + 1 * (x 0).val → c = c0 + 1 * (x 1).val →
      C x * at2 s r 0 * at2 w 0 c
        = Strassen.comb (fun p => at3 M p (r % 384) (c % 256)) (r / 384) (c / 256) * at2 s r 0 * at2 w 0 c := by
    rintro r c rfl rfl
    rw [a1, a2, a3, a4, hC]
  refine Eq.trans (mul_eq (mul_eq rfl ?_) ?_) (e _ _ rfl rfl)
  · refine (col_apply (by omega) _ _ x).trans ((ld2 (Val := Elt Ideal) (e := .f32) s _ _ _ i1 _).trans ?_)
    exact congrArg (fun r => at2 s r 0) (show r0 + (x 0).val = r0 + 1 * (x 0).val by omega)
  · refine (row_apply (by omega) _ _ x).trans ?_
    refine (congrFun (shapeCast_self (s := S1x256) _ _) _).trans ?_
    refine (ld2 (Val := Elt Ideal) (e := .f32) w _ _ _ i2 _).trans ?_
    exact congrArg (fun c => at2 w 0 c) (show c0 + (x 1).val = c0 + 1 * (x 1).val by omega)

/-- One product's rows. -/
theorem prow (M : Vec Ideal S7x384x256 .f32) (p o : ℕ)
    (i : ∀ a, (![p, o, 0] : Fin 3 → ℕ) a + (![1, 32, 256] : Fin 3 → ℕ) a ≤ S7x384x256.size a) (x : S32x256.Idx) :
    shapeCast S32x256 (View.ld (Val := Elt Ideal) (e' := .f32) M (Rect.unit (s := S7x384x256) ![p, o, 0] ![1, 32, 256] i)) shapeCasts_S1x32x256_S32x256 x
      = at3 M p (o + (x 0).val) (x 1).val := by
  refine (drop_apply _ _ x).trans ((ld3 (Val := Elt Ideal) (e := .f32) M _ _ _ _ i _).trans ?_)
  exact congrArg (fun c => at3 M p (o + (x 0).val) c) (Nat.zero_add _)

/-- A block of rows in half 0 of the rows and half 0 of the columns. -/
theorem out00 (s : Vec Ideal S768x1 .f32) (w : Vec Ideal S1x512 .f32) (M : Vec Ideal S7x384x256 .f32)
    (o r0 : ℕ) (hr : r0 = 384 * 0 + o) (ho : o + 32 ≤ 384)
    (b0 : ∀ a, (![r0, 0] : Fin 2 → ℕ) a + (![32, 256] : Fin 2 → ℕ) a ≤ S768x512.size a)
    (b1 : ∀ a, (![r0, 0] : Fin 2 → ℕ) a + (![32, 1] : Fin 2 → ℕ) a ≤ S768x1.size a)
    (b2 : ∀ a, (![0, 0] : Fin 2 → ℕ) a + (![1, 256] : Fin 2 → ℕ) a ≤ S1x512.size a)
    (i0 : ∀ a, (![0, o, 0] : Fin 3 → ℕ) a + (![1, 32, 256] : Fin 3 → ℕ) a ≤ S7x384x256.size a)
    (i3 : ∀ a, (![3, o, 0] : Fin 3 → ℕ) a + (![1, 32, 256] : Fin 3 → ℕ) a ≤ S7x384x256.size a)
    (i4 : ∀ a, (![4, o, 0] : Fin 3 → ℕ) a + (![1, 32, 256] : Fin 3 → ℕ) a ≤ S7x384x256.size a)
    (i6 : ∀ a, (![6, o, 0] : Fin 3 → ℕ) a + (![1, 32, 256] : Fin 3 → ℕ) a ≤ S7x384x256.size a) (x : S32x256.Idx) :
    mulf (mulf (addf (F := Ideal) (φ := .f32) (subf (addf (shapeCast S32x256 (View.ld (Val := Elt Ideal) (e' := .f32) M (Rect.unit (s := S7x384x256) ![0, o, 0] ![1, 32, 256] i0)) shapeCasts_S1x32x256_S32x256) (shapeCast S32x256 (View.ld (Val := Elt Ideal) (e' := .f32) M (Rect.unit (s := S7x384x256) ![3, o, 0] ![1, 32, 256] i3)) shapeCasts_S1x32x256_S32x256)) (shapeCast S32x256 (View.ld (Val := Elt Ideal) (e' := .f32) M (Rect.unit (s := S7x384x256) ![4, o, 0] ![1, 32, 256] i4)) shapeCasts_S1x32x256_S32x256)) (shapeCast S32x256 (View.ld (Val := Elt Ideal) (e' := .f32) M (Rect.unit (s := S7x384x256) ![6, o, 0] ![1, 32, 256] i6)) shapeCasts_S1x32x256_S32x256)) (broadcastTo S32x256 (View.ld (Val := Elt Ideal) (e' := .f32) s (Rect.unit (s := S768x1) ![r0, 0] ![32, 1] b1)) broadcasts_S32x1_S32x256))
        (broadcastTo S32x256 (shapeCast S1x256 (View.ld (Val := Elt Ideal) (e' := .f32) w (Rect.unit (s := S1x512) ![0, 0] ![1, 256] b2)) shapeCasts_S1x256_S1x256)
          broadcasts_S1x256_S32x256) x
      = block s w M ((Rect.unit (s := S768x512) ![r0, 0] ![32, 256] b0).emb x) :=
  rows s w M _ 0 0 o r0 0 hr rfl ho b0 b1 b2 x (add_eq (sub_eq (add_eq (prow M 0 o i0 x) (prow M 3 o i3 x)) (prow M 4 o i4 x)) (prow M 6 o i6 x))

/-- A block of rows in half 0 of the rows and half 1 of the columns. -/
theorem out01 (s : Vec Ideal S768x1 .f32) (w : Vec Ideal S1x512 .f32) (M : Vec Ideal S7x384x256 .f32)
    (o r0 : ℕ) (hr : r0 = 384 * 0 + o) (ho : o + 32 ≤ 384)
    (b0 : ∀ a, (![r0, 256] : Fin 2 → ℕ) a + (![32, 256] : Fin 2 → ℕ) a ≤ S768x512.size a)
    (b1 : ∀ a, (![r0, 0] : Fin 2 → ℕ) a + (![32, 1] : Fin 2 → ℕ) a ≤ S768x1.size a)
    (b2 : ∀ a, (![0, 256] : Fin 2 → ℕ) a + (![1, 256] : Fin 2 → ℕ) a ≤ S1x512.size a)
    (i2 : ∀ a, (![2, o, 0] : Fin 3 → ℕ) a + (![1, 32, 256] : Fin 3 → ℕ) a ≤ S7x384x256.size a)
    (i4 : ∀ a, (![4, o, 0] : Fin 3 → ℕ) a + (![1, 32, 256] : Fin 3 → ℕ) a ≤ S7x384x256.size a) (x : S32x256.Idx) :
    mulf (mulf (addf (F := Ideal) (φ := .f32) (shapeCast S32x256 (View.ld (Val := Elt Ideal) (e' := .f32) M (Rect.unit (s := S7x384x256) ![2, o, 0] ![1, 32, 256] i2)) shapeCasts_S1x32x256_S32x256) (shapeCast S32x256 (View.ld (Val := Elt Ideal) (e' := .f32) M (Rect.unit (s := S7x384x256) ![4, o, 0] ![1, 32, 256] i4)) shapeCasts_S1x32x256_S32x256)) (broadcastTo S32x256 (View.ld (Val := Elt Ideal) (e' := .f32) s (Rect.unit (s := S768x1) ![r0, 0] ![32, 1] b1)) broadcasts_S32x1_S32x256))
        (broadcastTo S32x256 (shapeCast S1x256 (View.ld (Val := Elt Ideal) (e' := .f32) w (Rect.unit (s := S1x512) ![0, 256] ![1, 256] b2)) shapeCasts_S1x256_S1x256)
          broadcasts_S1x256_S32x256) x
      = block s w M ((Rect.unit (s := S768x512) ![r0, 256] ![32, 256] b0).emb x) :=
  rows s w M _ 0 1 o r0 256 hr rfl ho b0 b1 b2 x (add_eq (prow M 2 o i2 x) (prow M 4 o i4 x))

/-- A block of rows in half 1 of the rows and half 0 of the columns. -/
theorem out10 (s : Vec Ideal S768x1 .f32) (w : Vec Ideal S1x512 .f32) (M : Vec Ideal S7x384x256 .f32)
    (o r0 : ℕ) (hr : r0 = 384 * 1 + o) (ho : o + 32 ≤ 384)
    (b0 : ∀ a, (![r0, 0] : Fin 2 → ℕ) a + (![32, 256] : Fin 2 → ℕ) a ≤ S768x512.size a)
    (b1 : ∀ a, (![r0, 0] : Fin 2 → ℕ) a + (![32, 1] : Fin 2 → ℕ) a ≤ S768x1.size a)
    (b2 : ∀ a, (![0, 0] : Fin 2 → ℕ) a + (![1, 256] : Fin 2 → ℕ) a ≤ S1x512.size a)
    (i1 : ∀ a, (![1, o, 0] : Fin 3 → ℕ) a + (![1, 32, 256] : Fin 3 → ℕ) a ≤ S7x384x256.size a)
    (i3 : ∀ a, (![3, o, 0] : Fin 3 → ℕ) a + (![1, 32, 256] : Fin 3 → ℕ) a ≤ S7x384x256.size a) (x : S32x256.Idx) :
    mulf (mulf (addf (F := Ideal) (φ := .f32) (shapeCast S32x256 (View.ld (Val := Elt Ideal) (e' := .f32) M (Rect.unit (s := S7x384x256) ![1, o, 0] ![1, 32, 256] i1)) shapeCasts_S1x32x256_S32x256) (shapeCast S32x256 (View.ld (Val := Elt Ideal) (e' := .f32) M (Rect.unit (s := S7x384x256) ![3, o, 0] ![1, 32, 256] i3)) shapeCasts_S1x32x256_S32x256)) (broadcastTo S32x256 (View.ld (Val := Elt Ideal) (e' := .f32) s (Rect.unit (s := S768x1) ![r0, 0] ![32, 1] b1)) broadcasts_S32x1_S32x256))
        (broadcastTo S32x256 (shapeCast S1x256 (View.ld (Val := Elt Ideal) (e' := .f32) w (Rect.unit (s := S1x512) ![0, 0] ![1, 256] b2)) shapeCasts_S1x256_S1x256)
          broadcasts_S1x256_S32x256) x
      = block s w M ((Rect.unit (s := S768x512) ![r0, 0] ![32, 256] b0).emb x) :=
  rows s w M _ 1 0 o r0 0 hr rfl ho b0 b1 b2 x (add_eq (prow M 1 o i1 x) (prow M 3 o i3 x))

/-- A block of rows in half 1 of the rows and half 1 of the columns. -/
theorem out11 (s : Vec Ideal S768x1 .f32) (w : Vec Ideal S1x512 .f32) (M : Vec Ideal S7x384x256 .f32)
    (o r0 : ℕ) (hr : r0 = 384 * 1 + o) (ho : o + 32 ≤ 384)
    (b0 : ∀ a, (![r0, 256] : Fin 2 → ℕ) a + (![32, 256] : Fin 2 → ℕ) a ≤ S768x512.size a)
    (b1 : ∀ a, (![r0, 0] : Fin 2 → ℕ) a + (![32, 1] : Fin 2 → ℕ) a ≤ S768x1.size a)
    (b2 : ∀ a, (![0, 256] : Fin 2 → ℕ) a + (![1, 256] : Fin 2 → ℕ) a ≤ S1x512.size a)
    (i0 : ∀ a, (![0, o, 0] : Fin 3 → ℕ) a + (![1, 32, 256] : Fin 3 → ℕ) a ≤ S7x384x256.size a)
    (i1 : ∀ a, (![1, o, 0] : Fin 3 → ℕ) a + (![1, 32, 256] : Fin 3 → ℕ) a ≤ S7x384x256.size a)
    (i2 : ∀ a, (![2, o, 0] : Fin 3 → ℕ) a + (![1, 32, 256] : Fin 3 → ℕ) a ≤ S7x384x256.size a)
    (i5 : ∀ a, (![5, o, 0] : Fin 3 → ℕ) a + (![1, 32, 256] : Fin 3 → ℕ) a ≤ S7x384x256.size a) (x : S32x256.Idx) :
    mulf (mulf (addf (F := Ideal) (φ := .f32) (addf (subf (shapeCast S32x256 (View.ld (Val := Elt Ideal) (e' := .f32) M (Rect.unit (s := S7x384x256) ![0, o, 0] ![1, 32, 256] i0)) shapeCasts_S1x32x256_S32x256) (shapeCast S32x256 (View.ld (Val := Elt Ideal) (e' := .f32) M (Rect.unit (s := S7x384x256) ![1, o, 0] ![1, 32, 256] i1)) shapeCasts_S1x32x256_S32x256)) (shapeCast S32x256 (View.ld (Val := Elt Ideal) (e' := .f32) M (Rect.unit (s := S7x384x256) ![2, o, 0] ![1, 32, 256] i2)) shapeCasts_S1x32x256_S32x256)) (shapeCast S32x256 (View.ld (Val := Elt Ideal) (e' := .f32) M (Rect.unit (s := S7x384x256) ![5, o, 0] ![1, 32, 256] i5)) shapeCasts_S1x32x256_S32x256)) (broadcastTo S32x256 (View.ld (Val := Elt Ideal) (e' := .f32) s (Rect.unit (s := S768x1) ![r0, 0] ![32, 1] b1)) broadcasts_S32x1_S32x256))
        (broadcastTo S32x256 (shapeCast S1x256 (View.ld (Val := Elt Ideal) (e' := .f32) w (Rect.unit (s := S1x512) ![0, 256] ![1, 256] b2)) shapeCasts_S1x256_S1x256)
          broadcasts_S1x256_S32x256) x
      = block s w M ((Rect.unit (s := S768x512) ![r0, 256] ![32, 256] b0).emb x) :=
  rows s w M _ 1 1 o r0 256 hr rfl ho b0 b1 b2 x (add_eq (add_eq (sub_eq (prow M 0 o i0 x) (prow M 1 o i1 x)) (prow M 2 o i2 x)) (prow M 5 o i5 x))

set_option maxHeartbeats 1000000 in
/-- The stores of a later step's output restrict `block`. -/
theorem out_pieces (c : Dev nD) (i arg1 harg1 arg2 harg2 arg3 harg3 arg4 harg4 arg5 harg5 arg6 harg6 arg7 harg7 hc0 x0 x1 x2 x3 xs0 xs1) :
    ∀ p ∈ (kernelRun0_B (F := Ideal) c i arg1 harg1 arg2 harg2 arg3 harg3 arg4 harg4 arg5 harg5 arg6 harg6 arg7 harg7 hc0 x0 x1 x2 x3 xs0 xs1).1,
      ∀ x : p.1.shape.Idx, p.2 x = block x1 x3 xs1 (p.1.emb x) := by
  unfold kernelRun0_B; dsimp only; sl_unfold_words
  simp only [View.readAt_eq_ld, harg2.read_unread, harg4.read_unread, harg7.read_unread]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact fun x => out11 x1 x3 xs1 352 736 rfl (by omega) inb_S768x512_S32x256_736_256 inb_S768x1_S32x1_736_0 inb_S1x512_S1x256_0_256 inb_S7x384x256_S1x32x256_0_352_0 inb_S7x384x256_S1x32x256_1_352_0 inb_S7x384x256_S1x32x256_2_352_0 inb_S7x384x256_S1x32x256_5_352_0 x
  · exact fun x => out10 x1 x3 xs1 352 736 rfl (by omega) inb_S768x512_S32x256_736_0 inb_S768x1_S32x1_736_0 inb_S1x512_S1x256_0_0 inb_S7x384x256_S1x32x256_1_352_0 inb_S7x384x256_S1x32x256_3_352_0 x
  · exact fun x => out01 x1 x3 xs1 352 352 rfl (by omega) inb_S768x512_S32x256_352_256 inb_S768x1_S32x1_352_0 inb_S1x512_S1x256_0_256 inb_S7x384x256_S1x32x256_2_352_0 inb_S7x384x256_S1x32x256_4_352_0 x
  · exact fun x => out00 x1 x3 xs1 352 352 rfl (by omega) inb_S768x512_S32x256_352_0 inb_S768x1_S32x1_352_0 inb_S1x512_S1x256_0_0 inb_S7x384x256_S1x32x256_0_352_0 inb_S7x384x256_S1x32x256_3_352_0 inb_S7x384x256_S1x32x256_4_352_0 inb_S7x384x256_S1x32x256_6_352_0 x
  · exact fun x => out11 x1 x3 xs1 320 704 rfl (by omega) inb_S768x512_S32x256_704_256 inb_S768x1_S32x1_704_0 inb_S1x512_S1x256_0_256 inb_S7x384x256_S1x32x256_0_320_0 inb_S7x384x256_S1x32x256_1_320_0 inb_S7x384x256_S1x32x256_2_320_0 inb_S7x384x256_S1x32x256_5_320_0 x
  · exact fun x => out10 x1 x3 xs1 320 704 rfl (by omega) inb_S768x512_S32x256_704_0 inb_S768x1_S32x1_704_0 inb_S1x512_S1x256_0_0 inb_S7x384x256_S1x32x256_1_320_0 inb_S7x384x256_S1x32x256_3_320_0 x
  · exact fun x => out01 x1 x3 xs1 320 320 rfl (by omega) inb_S768x512_S32x256_320_256 inb_S768x1_S32x1_320_0 inb_S1x512_S1x256_0_256 inb_S7x384x256_S1x32x256_2_320_0 inb_S7x384x256_S1x32x256_4_320_0 x
  · exact fun x => out00 x1 x3 xs1 320 320 rfl (by omega) inb_S768x512_S32x256_320_0 inb_S768x1_S32x1_320_0 inb_S1x512_S1x256_0_0 inb_S7x384x256_S1x32x256_0_320_0 inb_S7x384x256_S1x32x256_3_320_0 inb_S7x384x256_S1x32x256_4_320_0 inb_S7x384x256_S1x32x256_6_320_0 x
  · exact fun x => out11 x1 x3 xs1 288 672 rfl (by omega) inb_S768x512_S32x256_672_256 inb_S768x1_S32x1_672_0 inb_S1x512_S1x256_0_256 inb_S7x384x256_S1x32x256_0_288_0 inb_S7x384x256_S1x32x256_1_288_0 inb_S7x384x256_S1x32x256_2_288_0 inb_S7x384x256_S1x32x256_5_288_0 x
  · exact fun x => out10 x1 x3 xs1 288 672 rfl (by omega) inb_S768x512_S32x256_672_0 inb_S768x1_S32x1_672_0 inb_S1x512_S1x256_0_0 inb_S7x384x256_S1x32x256_1_288_0 inb_S7x384x256_S1x32x256_3_288_0 x
  · exact fun x => out01 x1 x3 xs1 288 288 rfl (by omega) inb_S768x512_S32x256_288_256 inb_S768x1_S32x1_288_0 inb_S1x512_S1x256_0_256 inb_S7x384x256_S1x32x256_2_288_0 inb_S7x384x256_S1x32x256_4_288_0 x
  · exact fun x => out00 x1 x3 xs1 288 288 rfl (by omega) inb_S768x512_S32x256_288_0 inb_S768x1_S32x1_288_0 inb_S1x512_S1x256_0_0 inb_S7x384x256_S1x32x256_0_288_0 inb_S7x384x256_S1x32x256_3_288_0 inb_S7x384x256_S1x32x256_4_288_0 inb_S7x384x256_S1x32x256_6_288_0 x
  · exact fun x => out11 x1 x3 xs1 256 640 rfl (by omega) inb_S768x512_S32x256_640_256 inb_S768x1_S32x1_640_0 inb_S1x512_S1x256_0_256 inb_S7x384x256_S1x32x256_0_256_0 inb_S7x384x256_S1x32x256_1_256_0 inb_S7x384x256_S1x32x256_2_256_0 inb_S7x384x256_S1x32x256_5_256_0 x
  · exact fun x => out10 x1 x3 xs1 256 640 rfl (by omega) inb_S768x512_S32x256_640_0 inb_S768x1_S32x1_640_0 inb_S1x512_S1x256_0_0 inb_S7x384x256_S1x32x256_1_256_0 inb_S7x384x256_S1x32x256_3_256_0 x
  · exact fun x => out01 x1 x3 xs1 256 256 rfl (by omega) inb_S768x512_S32x256_256_256 inb_S768x1_S32x1_256_0 inb_S1x512_S1x256_0_256 inb_S7x384x256_S1x32x256_2_256_0 inb_S7x384x256_S1x32x256_4_256_0 x
  · exact fun x => out00 x1 x3 xs1 256 256 rfl (by omega) inb_S768x512_S32x256_256_0 inb_S768x1_S32x1_256_0 inb_S1x512_S1x256_0_0 inb_S7x384x256_S1x32x256_0_256_0 inb_S7x384x256_S1x32x256_3_256_0 inb_S7x384x256_S1x32x256_4_256_0 inb_S7x384x256_S1x32x256_6_256_0 x
  · exact fun x => out11 x1 x3 xs1 224 608 rfl (by omega) inb_S768x512_S32x256_608_256 inb_S768x1_S32x1_608_0 inb_S1x512_S1x256_0_256 inb_S7x384x256_S1x32x256_0_224_0 inb_S7x384x256_S1x32x256_1_224_0 inb_S7x384x256_S1x32x256_2_224_0 inb_S7x384x256_S1x32x256_5_224_0 x
  · exact fun x => out10 x1 x3 xs1 224 608 rfl (by omega) inb_S768x512_S32x256_608_0 inb_S768x1_S32x1_608_0 inb_S1x512_S1x256_0_0 inb_S7x384x256_S1x32x256_1_224_0 inb_S7x384x256_S1x32x256_3_224_0 x
  · exact fun x => out01 x1 x3 xs1 224 224 rfl (by omega) inb_S768x512_S32x256_224_256 inb_S768x1_S32x1_224_0 inb_S1x512_S1x256_0_256 inb_S7x384x256_S1x32x256_2_224_0 inb_S7x384x256_S1x32x256_4_224_0 x
  · exact fun x => out00 x1 x3 xs1 224 224 rfl (by omega) inb_S768x512_S32x256_224_0 inb_S768x1_S32x1_224_0 inb_S1x512_S1x256_0_0 inb_S7x384x256_S1x32x256_0_224_0 inb_S7x384x256_S1x32x256_3_224_0 inb_S7x384x256_S1x32x256_4_224_0 inb_S7x384x256_S1x32x256_6_224_0 x
  · exact fun x => out11 x1 x3 xs1 192 576 rfl (by omega) inb_S768x512_S32x256_576_256 inb_S768x1_S32x1_576_0 inb_S1x512_S1x256_0_256 inb_S7x384x256_S1x32x256_0_192_0 inb_S7x384x256_S1x32x256_1_192_0 inb_S7x384x256_S1x32x256_2_192_0 inb_S7x384x256_S1x32x256_5_192_0 x
  · exact fun x => out10 x1 x3 xs1 192 576 rfl (by omega) inb_S768x512_S32x256_576_0 inb_S768x1_S32x1_576_0 inb_S1x512_S1x256_0_0 inb_S7x384x256_S1x32x256_1_192_0 inb_S7x384x256_S1x32x256_3_192_0 x
  · exact fun x => out01 x1 x3 xs1 192 192 rfl (by omega) inb_S768x512_S32x256_192_256 inb_S768x1_S32x1_192_0 inb_S1x512_S1x256_0_256 inb_S7x384x256_S1x32x256_2_192_0 inb_S7x384x256_S1x32x256_4_192_0 x
  · exact fun x => out00 x1 x3 xs1 192 192 rfl (by omega) inb_S768x512_S32x256_192_0 inb_S768x1_S32x1_192_0 inb_S1x512_S1x256_0_0 inb_S7x384x256_S1x32x256_0_192_0 inb_S7x384x256_S1x32x256_3_192_0 inb_S7x384x256_S1x32x256_4_192_0 inb_S7x384x256_S1x32x256_6_192_0 x
  · exact fun x => out11 x1 x3 xs1 160 544 rfl (by omega) inb_S768x512_S32x256_544_256 inb_S768x1_S32x1_544_0 inb_S1x512_S1x256_0_256 inb_S7x384x256_S1x32x256_0_160_0 inb_S7x384x256_S1x32x256_1_160_0 inb_S7x384x256_S1x32x256_2_160_0 inb_S7x384x256_S1x32x256_5_160_0 x
  · exact fun x => out10 x1 x3 xs1 160 544 rfl (by omega) inb_S768x512_S32x256_544_0 inb_S768x1_S32x1_544_0 inb_S1x512_S1x256_0_0 inb_S7x384x256_S1x32x256_1_160_0 inb_S7x384x256_S1x32x256_3_160_0 x
  · exact fun x => out01 x1 x3 xs1 160 160 rfl (by omega) inb_S768x512_S32x256_160_256 inb_S768x1_S32x1_160_0 inb_S1x512_S1x256_0_256 inb_S7x384x256_S1x32x256_2_160_0 inb_S7x384x256_S1x32x256_4_160_0 x
  · exact fun x => out00 x1 x3 xs1 160 160 rfl (by omega) inb_S768x512_S32x256_160_0 inb_S768x1_S32x1_160_0 inb_S1x512_S1x256_0_0 inb_S7x384x256_S1x32x256_0_160_0 inb_S7x384x256_S1x32x256_3_160_0 inb_S7x384x256_S1x32x256_4_160_0 inb_S7x384x256_S1x32x256_6_160_0 x
  · exact fun x => out11 x1 x3 xs1 128 512 rfl (by omega) inb_S768x512_S32x256_512_256 inb_S768x1_S32x1_512_0 inb_S1x512_S1x256_0_256 inb_S7x384x256_S1x32x256_0_128_0 inb_S7x384x256_S1x32x256_1_128_0 inb_S7x384x256_S1x32x256_2_128_0 inb_S7x384x256_S1x32x256_5_128_0 x
  · exact fun x => out10 x1 x3 xs1 128 512 rfl (by omega) inb_S768x512_S32x256_512_0 inb_S768x1_S32x1_512_0 inb_S1x512_S1x256_0_0 inb_S7x384x256_S1x32x256_1_128_0 inb_S7x384x256_S1x32x256_3_128_0 x
  · exact fun x => out01 x1 x3 xs1 128 128 rfl (by omega) inb_S768x512_S32x256_128_256 inb_S768x1_S32x1_128_0 inb_S1x512_S1x256_0_256 inb_S7x384x256_S1x32x256_2_128_0 inb_S7x384x256_S1x32x256_4_128_0 x
  · exact fun x => out00 x1 x3 xs1 128 128 rfl (by omega) inb_S768x512_S32x256_128_0 inb_S768x1_S32x1_128_0 inb_S1x512_S1x256_0_0 inb_S7x384x256_S1x32x256_0_128_0 inb_S7x384x256_S1x32x256_3_128_0 inb_S7x384x256_S1x32x256_4_128_0 inb_S7x384x256_S1x32x256_6_128_0 x
  · exact fun x => out11 x1 x3 xs1 96 480 rfl (by omega) inb_S768x512_S32x256_480_256 inb_S768x1_S32x1_480_0 inb_S1x512_S1x256_0_256 inb_S7x384x256_S1x32x256_0_96_0 inb_S7x384x256_S1x32x256_1_96_0 inb_S7x384x256_S1x32x256_2_96_0 inb_S7x384x256_S1x32x256_5_96_0 x
  · exact fun x => out10 x1 x3 xs1 96 480 rfl (by omega) inb_S768x512_S32x256_480_0 inb_S768x1_S32x1_480_0 inb_S1x512_S1x256_0_0 inb_S7x384x256_S1x32x256_1_96_0 inb_S7x384x256_S1x32x256_3_96_0 x
  · exact fun x => out01 x1 x3 xs1 96 96 rfl (by omega) inb_S768x512_S32x256_96_256 inb_S768x1_S32x1_96_0 inb_S1x512_S1x256_0_256 inb_S7x384x256_S1x32x256_2_96_0 inb_S7x384x256_S1x32x256_4_96_0 x
  · exact fun x => out00 x1 x3 xs1 96 96 rfl (by omega) inb_S768x512_S32x256_96_0 inb_S768x1_S32x1_96_0 inb_S1x512_S1x256_0_0 inb_S7x384x256_S1x32x256_0_96_0 inb_S7x384x256_S1x32x256_3_96_0 inb_S7x384x256_S1x32x256_4_96_0 inb_S7x384x256_S1x32x256_6_96_0 x
  · exact fun x => out11 x1 x3 xs1 64 448 rfl (by omega) inb_S768x512_S32x256_448_256 inb_S768x1_S32x1_448_0 inb_S1x512_S1x256_0_256 inb_S7x384x256_S1x32x256_0_64_0 inb_S7x384x256_S1x32x256_1_64_0 inb_S7x384x256_S1x32x256_2_64_0 inb_S7x384x256_S1x32x256_5_64_0 x
  · exact fun x => out10 x1 x3 xs1 64 448 rfl (by omega) inb_S768x512_S32x256_448_0 inb_S768x1_S32x1_448_0 inb_S1x512_S1x256_0_0 inb_S7x384x256_S1x32x256_1_64_0 inb_S7x384x256_S1x32x256_3_64_0 x
  · exact fun x => out01 x1 x3 xs1 64 64 rfl (by omega) inb_S768x512_S32x256_64_256 inb_S768x1_S32x1_64_0 inb_S1x512_S1x256_0_256 inb_S7x384x256_S1x32x256_2_64_0 inb_S7x384x256_S1x32x256_4_64_0 x
  · exact fun x => out00 x1 x3 xs1 64 64 rfl (by omega) inb_S768x512_S32x256_64_0 inb_S768x1_S32x1_64_0 inb_S1x512_S1x256_0_0 inb_S7x384x256_S1x32x256_0_64_0 inb_S7x384x256_S1x32x256_3_64_0 inb_S7x384x256_S1x32x256_4_64_0 inb_S7x384x256_S1x32x256_6_64_0 x
  · exact fun x => out11 x1 x3 xs1 32 416 rfl (by omega) inb_S768x512_S32x256_416_256 inb_S768x1_S32x1_416_0 inb_S1x512_S1x256_0_256 inb_S7x384x256_S1x32x256_0_32_0 inb_S7x384x256_S1x32x256_1_32_0 inb_S7x384x256_S1x32x256_2_32_0 inb_S7x384x256_S1x32x256_5_32_0 x
  · exact fun x => out10 x1 x3 xs1 32 416 rfl (by omega) inb_S768x512_S32x256_416_0 inb_S768x1_S32x1_416_0 inb_S1x512_S1x256_0_0 inb_S7x384x256_S1x32x256_1_32_0 inb_S7x384x256_S1x32x256_3_32_0 x
  · exact fun x => out01 x1 x3 xs1 32 32 rfl (by omega) inb_S768x512_S32x256_32_256 inb_S768x1_S32x1_32_0 inb_S1x512_S1x256_0_256 inb_S7x384x256_S1x32x256_2_32_0 inb_S7x384x256_S1x32x256_4_32_0 x
  · exact fun x => out00 x1 x3 xs1 32 32 rfl (by omega) inb_S768x512_S32x256_32_0 inb_S768x1_S32x1_32_0 inb_S1x512_S1x256_0_0 inb_S7x384x256_S1x32x256_0_32_0 inb_S7x384x256_S1x32x256_3_32_0 inb_S7x384x256_S1x32x256_4_32_0 inb_S7x384x256_S1x32x256_6_32_0 x
  · exact fun x => out11 x1 x3 xs1 0 384 rfl (by omega) inb_S768x512_S32x256_384_256 inb_S768x1_S32x1_384_0 inb_S1x512_S1x256_0_256 inb_S7x384x256_S1x32x256_0_0_0 inb_S7x384x256_S1x32x256_1_0_0 inb_S7x384x256_S1x32x256_2_0_0 inb_S7x384x256_S1x32x256_5_0_0 x
  · exact fun x => out10 x1 x3 xs1 0 384 rfl (by omega) inb_S768x512_S32x256_384_0 inb_S768x1_S32x1_384_0 inb_S1x512_S1x256_0_0 inb_S7x384x256_S1x32x256_1_0_0 inb_S7x384x256_S1x32x256_3_0_0 x
  · exact fun x => out01 x1 x3 xs1 0 0 rfl (by omega) inb_S768x512_S32x256_0_256 inb_S768x1_S32x1_0_0 inb_S1x512_S1x256_0_256 inb_S7x384x256_S1x32x256_2_0_0 inb_S7x384x256_S1x32x256_4_0_0 x
  · exact fun x => out00 x1 x3 xs1 0 0 rfl (by omega) inb_S768x512_S32x256_0_0 inb_S768x1_S32x1_0_0 inb_S1x512_S1x256_0_0 inb_S7x384x256_S1x32x256_0_0_0 inb_S7x384x256_S1x32x256_3_0_0 inb_S7x384x256_S1x32x256_4_0_0 inb_S7x384x256_S1x32x256_6_0_0 x

/-- What a later step leaves in the output block. -/
theorem out_B (c : Dev nD) (i arg1 harg1 arg2 harg2 arg3 harg3 arg4 harg4 arg5 harg5 arg6 harg6 arg7 harg7 hc0 x0 x1 x2 x3 xs0 xs1) :
    out0_B_4 (F := Ideal) c i arg1 harg1 arg2 harg2 arg3 harg3 arg4 harg4 arg5 harg5 arg6 harg6 arg7 harg7 hc0 x0 x1 x2 x3 xs0 xs1 = block x1 x3 xs1 := by
  unfold out0_B_4
  rw [View.read_writes_eq_canon _ _ _ (cover0_B_4 c i arg1 harg1 arg2 harg2 arg3 harg3 arg4 harg4 arg5 harg5 arg6 harg6 arg7 harg7 hc0 x0 x1 x2 x3 xs0 xs1)]
  funext y
  exact View.canon_apply_of_pieces (block x1 x3 xs1) _
    (out_pieces c i arg1 harg1 arg2 harg2 arg3 harg3 arg4 harg4 arg5 harg5 arg6 harg6 arg7 harg7 hc0 x0 x1 x2 x3 xs0 xs1) y
    (cover0_B_4 c i arg1 harg1 arg2 harg2 arg3 harg3 arg4 harg4 arg5 harg5 arg6 harg6 arg7 harg7 hc0 x0 x1 x2 x3 xs0 xs1 y)

end Cert.DownIdeal.Tile
end
-- ==== Proof.DownValue.lean ====
module

public import proofs.«01_k».proof.Proof.DownTile
public import proofs.«01_k».proof.Proof.Gen.DownIdeal.Value
public import Idealize.ShloMosaic.Lib.Pipeline.ValueKit

@[expose] public section

set_option maxRecDepth 16384

noncomputable section

/-! The kernel's result array: every tile's block is the whole product's, scaled. -/
namespace Cert.DownIdeal.Tile

open scoped BigOperators
open Cert.DownIdeal Cert.DownIdeal.Gen Idealize.ShloMosaic Idealize.ShloMosaic.TcCoe Idealize.ShloMosaic.Tactic Idealize.SL.Sem
open Idealize.ShloMosaic.ValueIdx Blocks
open Idealize.ShloMosaic.Pipeline (Dat)

/-- The down projection: the codes' integer product, times a row's scale, times a column's scale. -/
def down (C : Vec Ideal S768x9216 .i8) (s : Vec Ideal S768x1 .f32) (W : Vec Ideal S9216x4608 .i8) (w : Vec Ideal S1x4608 .f32)
    (r c : ℕ) : EReal :=
  (∑ k : Fin 9216, (((at2 C r k.val).toInt : ℝ) : EReal) * (((at2 W k.val c).toInt : ℝ) : EReal)) * at2 s r 0 * at2 w 0 c

/-- The four sums of a tile's products are the tile of the whole product. -/
theorem comb_tile (C : Vec Ideal S768x9216 .i8) (W : Vec Ideal S9216x4608 .i8) (T : Vec Ideal S9216x512 .i8) (q h n r c : ℕ)
    (hT : ∀ k c', k < 9216 → c' < 512 → at2 T k c' = at2 W k (512 * q + c')) (hh : h < 2) (hn : n < 2) (hr : r < 384) (hc : c < 256) :
    Strassen.comb (fun p => at3 (prods (wide C) T) p r c) h n
      = ∑ k : Fin 9216, (((at2 C (384 * h + r) k.val).toInt : ℝ) : EReal) * (((at2 W k.val (512 * q + (256 * n + c))).toInt : ℝ) : EReal) := by
  have e1 : Strassen.comb (fun p => at3 (prods (wide C) T) p r c) h n
      = Strassen.comb (Strassen.prod (fun i j (k : Fin 4608) => (((at2 C (384 * i + r) (4608 * j + k.val)).toInt : ℝ) : EReal))
          (fun i j k => (((at2 T (4608 * i + k.val) (256 * j + c)).toInt : ℝ) : EReal))) h n :=
    comb_congr _ _ h n fun p hp => at3_fn (fun p r c => Strassen.prod (aQ (wide C) r) (bQ T c) p) p r c hp hr hc
  refine e1.trans ((Strassen.comb_prod (fun i j (k : Fin 4608) => ((at2 C (384 * i + r) (4608 * j + k.val)).toInt : ℝ))
    (fun i j k => ((at2 T (4608 * i + k.val) (256 * j + c)).toInt : ℝ)) h n hh hn).trans ?_)
  refine Eq.trans ?_ (Strassen.sum_halves 4608 fun k : Fin (4608 + 4608) =>
    (((at2 C (384 * h + r) k.val).toInt : ℝ) : EReal) * (((at2 W k.val (512 * q + (256 * n + c))).toInt : ℝ) : EReal)).symm
  have t : ∀ k, k < 9216 → at2 T k (256 * n + c) = at2 W k (512 * q + (256 * n + c)) := fun k hk => hT k _ hk (by omega)
  refine add_eq (Finset.sum_congr rfl fun k _ => ?_) (Finset.sum_congr rfl fun k _ => ?_)
  · have z : 4608 * 0 + k.val = k.val := by omega
    rw [z, t k.val (by omega)]
  · dsimp only
    rw [Nat.mul_one, t (4608 + k.val) (by omega)]

/-- A tile's block is the down projection's. -/
theorem block_eq (C : Vec Ideal S768x9216 .i8) (s : Vec Ideal S768x1 .f32) (W : Vec Ideal S9216x4608 .i8) (w : Vec Ideal S1x4608 .f32)
    (T : Vec Ideal S9216x512 .i8) (v : Vec Ideal S1x512 .f32) (q : ℕ)
    (hT : ∀ k c', k < 9216 → c' < 512 → at2 T k c' = at2 W k (512 * q + c'))
    (hv : ∀ c', c' < 512 → at2 v 0 c' = at2 w 0 (512 * q + c')) (y : S768x512.Idx) :
    block s v (prods (wide C) T) y = down C s W w (y 0).val (512 * q + (y 1).val) := by
  have h0 : (y 0).val < 768 := (y 0).isLt
  have h1 : (y 1).val < 512 := (y 1).isLt
  have a0 : 384 * ((y 0).val / 384) + (y 0).val % 384 = (y 0).val := by omega
  have a1 : 256 * ((y 1).val / 256) + (y 1).val % 256 = (y 1).val := by omega
  refine mul_eq (mul_eq ?_ rfl) (hv _ h1)
  refine (comb_tile C W T q _ _ _ _ hT (by omega) (by omega) (by omega) (by omega)).trans ?_
  rw [a0, a1]

variable (m : (ℓ : Loc nD τ sig) → Buf (Elt Ideal) ℓ)

/-- What the two scratches hold after point `n`. -/
theorem scratches (c : Dev nD) (n : ℕ) (hn : n < cfg0.N) :
    (outsAt0 m c n hn).2.1 = wide (iblk m c 0 ⟨0, Nat.lt_of_le_of_lt (Nat.zero_le _) hn⟩)
      ∧ (outsAt0 m c n hn).2.2 = prods (wide (iblk m c 0 ⟨0, Nat.lt_of_le_of_lt (Nat.zero_le _) hn⟩)) (iblk m c 2 ⟨n, hn⟩) := by
  induction n with
  | zero =>
    have e := outsAt0_A m c ⟨0, hn⟩ rfl
    rw [scratch0_A, scratch_A] at e
    exact ⟨congrArg (fun z => z.2.1) e, congrArg (fun z => z.2.2) e⟩
  | succ n ih =>
    have hN := lt_of_lt_of_eq hn (show cfg0.N = 10 from N_0)
    obtain ⟨i0, i1⟩ := ih (Nat.lt_of_succ_lt hn)
    have e := outsAt0_B m c ⟨n + 1, hn⟩ (by show ¬(n + 1) % 10 = 0; omega)
    rw [scratch_B] at e
    exact ⟨(congrArg (fun z => z.2.1) e).trans i0, (congrArg (fun z => z.2.2) e).trans (congrArg (fun X => prods X (iblk m c 2 ⟨n + 1, hn⟩)) i0)⟩

/-- The block index of the output window, and of the two tile windows, at a point. -/
theorem idx_out : ∀ t : Fin grid0.N, win0_4.index t 0 = 0 ∧ win0_4.index t 1 = t.val - 1 := by decide +kernel
theorem idx_w : ∀ t : Fin grid0.N, win0_2.index t 0 = 0 ∧ (t.val < 9 → win0_2.index t 1 = t.val) := by decide +kernel
theorem idx_s : ∀ t : Fin grid0.N, win0_3.index t 0 = 0 ∧ win0_3.index t 1 = t.val - 1 := by decide +kernel
theorem idx_c : ∀ t : Fin grid0.N, win0_0.index t 0 = 0 ∧ win0_0.index t 1 = 0 := by decide +kernel
theorem idx_r : ∀ t : Fin grid0.N, win0_1.index t 0 = 0 ∧ win0_1.index t 1 = 0 := by decide +kernel
theorem flush_pos : ∀ t : Fin grid0.N, win0_4.flush t = true → ¬t.val = 0 := by decide +kernel

/-- The argument blocks at coordinates. -/
theorem blk_c (c : Dev nD) (t : Fin cfg0.N) : (iblk m c 0 t : Vec Ideal S768x9216 .i8) = V m c main_arg0 := by
  funext y
  refine congrArg (V m c main_arg0) (funext fun a => Fin.ext ?_)
  have e := idx_c t
  match a with
  | ⟨0, _⟩ => exact (Pipeline.Window.rect_emb_val_of_index_zero win0_0 t ⟨0, by decide⟩ e.1 y)
  | ⟨1, _⟩ => exact (Pipeline.Window.rect_emb_val_of_index_zero win0_0 t ⟨1, by decide⟩ e.2 y)

theorem blk_r (c : Dev nD) (t : Fin cfg0.N) : (iblk m c 1 t : Vec Ideal S768x1 .f32) = V m c main_arg1 := by
  funext y
  refine congrArg (V m c main_arg1) (funext fun a => Fin.ext ?_)
  have e := idx_r t
  match a with
  | ⟨0, _⟩ => exact (Pipeline.Window.rect_emb_val_of_index_zero win0_1 t ⟨0, by decide⟩ e.1 y)
  | ⟨1, _⟩ => exact (Pipeline.Window.rect_emb_val_of_index_zero win0_1 t ⟨1, by decide⟩ e.2 y)

theorem blk_w (c : Dev nD) (t : Fin cfg0.N) (ht : t.val < 9) (k c' : ℕ) (hk : k < 9216) (hc : c' < 512) :
    at2 (iblk m c 2 t : Vec Ideal S9216x512 .i8) k c' = at2 (V m c main_arg2 : Vec Ideal S9216x4608 .i8) k (512 * t.val + c') := by
  have e := idx_w t
  refine at2_of (V m c main_arg2 : Vec Ideal S9216x4608 .i8) ((win0_2.rect t).emb (ValueIdx.ix2 (Fin.ofNat 9216 k) (Fin.ofNat 512 c'))) _ _ ?_ ?_
  · refine (Pipeline.Window.rect_emb_val_of_index_zero win0_2 t ⟨0, by decide⟩ e.1 _).trans (Nat.mod_eq_of_lt hk)
  · refine (Pipeline.Window.rect_emb_val win0_2 t _ ⟨1, by decide⟩).trans ?_
    show win0_2.index t 1 * 512 + c' % 512 = _
    rw [e.2 ht, Nat.mod_eq_of_lt hc, Nat.mul_comm]

theorem blk_s (c : Dev nD) (t : Fin cfg0.N) (c' : ℕ) (hc : c' < 512) :
    at2 (iblk m c 3 t : Vec Ideal S1x512 .f32) 0 c' = at2 (V m c main_v0 : Vec Ideal S1x4608 .f32) 0 (512 * (t.val - 1) + c') := by
  have e := idx_s t
  refine at2_of (V m c main_v0 : Vec Ideal S1x4608 .f32) ((win0_3.rect t).emb (ValueIdx.ix2 (Fin.ofNat 1 0) (Fin.ofNat 512 c'))) _ _ ?_ ?_
  · refine (Pipeline.Window.rect_emb_val_of_index_zero win0_3 t ⟨0, by decide⟩ e.1 _).trans rfl
  · refine (Pipeline.Window.rect_emb_val win0_3 t _ ⟨1, by decide⟩).trans ?_
    show win0_3.index t 1 * 512 + c' % 512 = _
    rw [e.2, Nat.mod_eq_of_lt hc, Nat.mul_comm]

/-- What a point after the first leaves in the output block. -/
theorem left (c : Dev nD) (t : Fin cfg0.N) (ht : ¬t.val = 0) (y : S768x512.Idx) :
    (outsAt0 m c t.val t.isLt).1 y
      = down (V m c main_arg0) (V m c main_arg1) (V m c main_arg2) (V m c main_v0) (y 0).val (512 * (t.val - 1) + (y 1).val) := by
  have hN := lt_of_lt_of_eq t.isLt (show cfg0.N = 10 from N_0)
  have hp : t.val - 1 < cfg0.N := Nat.lt_of_le_of_lt (Nat.sub_le _ _) t.isLt
  obtain ⟨-, i1⟩ := scratches m c (t.val - 1) hp
  rw [outsAt0_B m c t (by omega)]
  dsimp only
  rw [out_B, i1, blk_c, blk_r]
  exact block_eq (V m c main_arg0) (V m c main_arg1) (V m c main_arg2) (V m c main_v0) _ _ (t.val - 1)
    (fun k c' hk hc => blk_w m c ⟨t.val - 1, hp⟩ (by show t.val - 1 < 9; omega) k c' hk hc) (fun c' hc => blk_s m c t c' hc) y

/-- The result array. -/
theorem array (c : Dev nD) : (dats m 0 c).arrAt 4 cfg0.N
    = (fun y => down (V m c main_arg0) (V m c main_arg1) (V m c main_arg2) (V m c main_v0) (y 0).val (y 1).val : Vec Ideal S768x4608 .f32) := by
  refine (dats m 0 c).arrAt_eq_of_covers 4 _ (by decide +kernel) fun t hf y => ?_
  have e := idx_out t
  have b0 : ((win0_4.rect t).emb y 0 : ℕ) = y 0 := Pipeline.Window.rect_emb_val_of_index_zero win0_4 t ⟨0, by decide⟩ e.1 y
  have b1 : ((win0_4.rect t).emb y 1 : ℕ) = 512 * (t.val - 1) + y 1 :=
    (Pipeline.Window.rect_emb_val win0_4 t y ⟨1, by decide⟩).trans (by
      show win0_4.index t 1 * 512 + _ = _
      rw [e.2, Nat.mul_comm]; rfl)
  have l := left m c t (flush_pos t hf) y
  rw [← after0_4] at l
  refine l.trans ?_
  show _ = down _ _ _ _ ((win0_4.rect t).emb y 0).val ((win0_4.rect t).emb y 1).val
  exact (congrArg₂ (down _ _ _ _) b0 b1).symm

end Cert.DownIdeal.Tile
end
-- ==== Proof.DownRefValue.lean ====
module

public import proofs.«01_k».proof.Proof.DownValue
public import proofs.«01_k».proof.Proof.Gen.DownRefIdeal.Value

@[expose] public section

set_option maxRecDepth 16384

noncomputable section

/-! The reference's result array: the same function of the arguments. -/
namespace Cert.DownRefIdeal.Tile

open scoped BigOperators
open Cert.DownRefIdeal Cert.DownRefIdeal.Gen Idealize.ShloMosaic Idealize.ShloMosaic.TcCoe Idealize.ShloMosaic.Tactic Idealize.SL.Sem
open Idealize.ShloMosaic.ValueIdx Blocks
open Idealize.ShloMosaic.Pipeline (Dat)
open Cert.DownIdeal.Tile (down)

variable (m : (ℓ : Loc nD τ sig) → Buf (Elt Ideal) ℓ)

/-- Every window's block is its whole array. -/
theorem idx0 : ∀ t : Fin grid0.N, ∀ a, win0_0.index t a = 0 := by decide +kernel
theorem idx1 : ∀ t : Fin grid0.N, ∀ a, win0_1.index t a = 0 := by decide +kernel
theorem idx2 : ∀ t : Fin grid0.N, ∀ a, win0_2.index t a = 0 := by decide +kernel
theorem idx3 : ∀ t : Fin grid0.N, ∀ a, win0_3.index t a = 0 := by decide +kernel
theorem idx4 : ∀ t : Fin grid0.N, ∀ a, win0_4.index t a = 0 := by decide +kernel

theorem blk0 (c : Dev nD) (t : Fin cfg0.N) : (iblk m c 0 t : Vec Ideal S768x9216 .i8) = V m c main_arg0 :=
  funext fun y => congrArg (V m c main_arg0) (funext fun a => Fin.ext (Pipeline.Window.rect_emb_val_of_index_zero win0_0 t a (idx0 t a) y))
theorem blk1 (c : Dev nD) (t : Fin cfg0.N) : (iblk m c 1 t : Vec Ideal S768x1 .f32) = V m c main_arg1 :=
  funext fun y => congrArg (V m c main_arg1) (funext fun a => Fin.ext (Pipeline.Window.rect_emb_val_of_index_zero win0_1 t a (idx1 t a) y))
theorem blk2 (c : Dev nD) (t : Fin cfg0.N) : (iblk m c 2 t : Vec Ideal S9216x4608 .i8) = V m c main_arg2 :=
  funext fun y => congrArg (V m c main_arg2) (funext fun a => Fin.ext (Pipeline.Window.rect_emb_val_of_index_zero win0_2 t a (idx2 t a) y))
theorem blk3 (c : Dev nD) (t : Fin cfg0.N) : (iblk m c 3 t : Vec Ideal S1x4608 .f32) = V m c main_v0 :=
  funext fun y => congrArg (V m c main_v0) (funext fun a => Fin.ext (Pipeline.Window.rect_emb_val_of_index_zero win0_3 t a (idx3 t a) y))

/-- The body's value at an index. -/
theorem pay (C : Vec Ideal S768x9216 .i8) (s : Vec Ideal S768x1 .f32) (W : Vec Ideal S9216x4608 .i8) (w : Vec Ideal S1x4608 .f32)
    (y : S768x4608.Idx) : k0_pay1 C s W w y = down C s W w (y 0).val (y 1).val := by
  have mm : matmul (F := Ideal) (DotDims.plain 768 9216 4608) none (sitofp (F := Ideal) .bf16 C) (sitofp (F := Ideal) .bf16 W)
      (constant (F := Ideal) S768x4608 .f32 0x00000000#32) y
      = ∑ k : Fin 9216, (((at2 C (y 0).val k.val).toInt : ℝ) : EReal) * (((at2 W k.val (y 1).val).toInt : ℝ) : EReal) := by
    refine (mm2_apply _ _ y).trans (Finset.sum_congr rfl fun k _ => ?_)
    refine mul_eq (congrArg (fun z : BitVec 8 => (((z.toInt : ℝ) : EReal))) (at2_of C _ _ _ rfl rfl))
      (congrArg (fun z : BitVec 8 => (((z.toInt : ℝ) : EReal))) (at2_of W _ _ _ rfl rfl))
  refine mul_eq (mul_eq mm ?_) ?_
  · exact (col_apply (by omega) s _ y).trans (at2_of s _ _ _ rfl rfl)
  · refine (row_apply (by omega) _ _ y).trans ?_
    refine (congrFun (shapeCast_self (s := S1x4608) w _) _).trans (at2_of w _ _ _ rfl rfl)

/-- The result array. -/
theorem array (c : Dev nD) : (dats m 0 c).arrAt 4 cfg0.N
    = (fun y => down (V m c main_arg0) (V m c main_arg1) (V m c main_arg2) (V m c main_v0) (y 0).val (y 1).val : Vec Ideal S768x4608 .f32) := by
  refine (dats m 0 c).arrAt_eq_of_covers 4 _ (by decide +kernel) fun t hf y => ?_
  have b : ∀ a, ((win0_4.rect t).emb y a : ℕ) = y a := fun a => Pipeline.Window.rect_emb_val_of_index_zero win0_4 t a (idx4 t a) y
  have l : (dats m 0 c).after 4 t = out0_4 (iblk m c 0 t) (iblk m c 1 t) (iblk m c 2 t) (iblk m c 3 t) := after0_4 m c t
  have e : out0_4 (iblk m c 0 t) (iblk m c 1 t) (iblk m c 2 t) (iblk m c 3 t)
      = k0_pay1 (V m c main_arg0) (V m c main_arg1) (V m c main_arg2) (V m c main_v0) := by
    rw [blk0, blk1, blk2, blk3]
    refine (View.canon_unit_zero zero2 _ _).trans ?_
    rw [View.ld_unit_zero zero2, View.ld_unit_zero zero2, View.ld_unit_zero zero2, View.ld_unit_zero zero2]
  refine (congrFun (l.trans e) y).trans ((pay _ _ _ _ y).trans ?_)
  exact (congrArg₂ (down _ _ _ _) (b 0) (b 1)).symm

end Cert.DownRefIdeal.Tile
end
-- ==== Proof.DownClaim.lean ====
module

public import proofs.«01_k».proof.Defs
public import proofs.«01_k».proof.Proof.DownRefValue

@[expose] public section

set_option maxRecDepth 16384

noncomputable section

/-! The kernel's down projection is the reference's. -/
namespace Cert.DownClaim

open Idealize.ShloMosaic Idealize.ShloMosaic.TcCoe Idealize.SL.Sem

/-- The column scales as a row, in the kernel's program … -/
theorem row (m : (ℓ : Loc Cert.DownIdeal.nD Cert.DownIdeal.τ Cert.DownIdeal.sig) → Buf (Elt Ideal) ℓ) (c : Dev Cert.DownIdeal.nD) :
    (Cert.DownIdeal.Gen.V m c Cert.DownIdeal.main_v0 : Vec Ideal Cert.DownIdeal.S1x4608 .f32)
      = shapeCast Cert.DownIdeal.S1x4608 (m ((c : Thread Cert.DownIdeal.nD Cert.DownIdeal.τ).loc Cert.DownIdeal.main_arg3) : Vec Ideal Cert.DownIdeal.S4608 .f32)
          Cert.DownIdeal.Gen.shapeCasts_S4608_S1x4608 := by
  unfold Cert.DownIdeal.Gen.V
  simp only [Cert.DownIdeal.Gen.hostOps0, StableHlo.after_cons, StableHlo.after_nil]
  rw [StableHlo.reshape_result]
  rfl

/-- … and in the reference's. -/
theorem row' (m : (ℓ : Loc Cert.DownRefIdeal.nD Cert.DownRefIdeal.τ Cert.DownRefIdeal.sig) → Buf (Elt Ideal) ℓ) (c : Dev Cert.DownRefIdeal.nD) :
    (Cert.DownRefIdeal.Gen.V m c Cert.DownRefIdeal.main_v0 : Vec Ideal Cert.DownRefIdeal.S1x4608 .f32)
      = shapeCast Cert.DownRefIdeal.S1x4608 (m ((c : Thread Cert.DownRefIdeal.nD Cert.DownRefIdeal.τ).loc Cert.DownRefIdeal.main_arg3) : Vec Ideal Cert.DownRefIdeal.S4608 .f32)
          Cert.DownRefIdeal.Gen.shapeCasts_S4608_S1x4608 := by
  unfold Cert.DownRefIdeal.Gen.V
  simp only [Cert.DownRefIdeal.Gen.hostOps0, StableHlo.after_cons, StableHlo.after_nil]
  rw [StableHlo.reshape_result]
  rfl

theorem algebraic : Cert.algebraic_DownIdeal_DownRefIdeal (hDownIdeal := Cert.DownIdeal.Gen.facts) (hDownRefIdeal := Cert.DownRefIdeal.Gen.facts) := by
  intro m g m' g' _ hm
  refine ⟨fun c => (Cert.DownIdeal.Gen.dats m 0 c).arrAt 4 Cert.DownIdeal.cfg0.N, Cert.DownIdeal.Value.run_blocks m g, ?_⟩
  refine (θ_run _ _ _).mono (fun r h c => ⟨(h c).1.trans ?_, (h c).2⟩) (Cert.DownRefIdeal.Value.run_blocks m' g')
  obtain ⟨h0, h1, h2, h3⟩ := hm c
  dsimp only
  rw [Cert.DownRefIdeal.Tile.array, Cert.DownIdeal.Tile.array, row, row', Cert.DownIdeal.Gen.V_main_arg0, Cert.DownIdeal.Gen.V_main_arg1,
    Cert.DownIdeal.Gen.V_main_arg2, Cert.DownRefIdeal.Gen.V_main_arg0, Cert.DownRefIdeal.Gen.V_main_arg1, Cert.DownRefIdeal.Gen.V_main_arg2,
    h0, h1, h2, h3]

end Cert.DownClaim
end
-- ==== Proof.Norm.lean ====
module

public import proofs.«01_k».proof.Proof.Rows

@[expose] public section

set_option maxRecDepth 16384

noncomputable section

/-! A row's codes under its scale, and a row's root mean square. -/
namespace Norm

open scoped BigOperators
open Idealize.ShloMosaic Idealize.ShloMosaic.ValueIdx Blocks

/-- The scale of values whose greatest magnitude is `a`: one where that is zero. -/
def scale (a : EReal) : EReal :=
  Scalar.select (Ideal.cmp .oeq a (Ideal.ofBits .f32 0x00000000#32)) (Ideal.ofBits .f32 0x3F800000#32) (Ideal.div a (Ideal.ofBits .f32 0x42FE0000#32))

/-- A value in units of its scale, rounded and kept between -127 and 127 … -/
def step (x s : EReal) : EReal :=
  min (Ideal.ofBits .f32 0x42FE0000#32) (max (Ideal.ofBits .f32 0xC2FE0000#32) (Ideal.liftRound Ideal.roundHalfEven (Ideal.div x s)))

/-- … and the eight bits that hold it. -/
def code (x s : EReal) : BitVec 8 := Ideal.fptosi 8 (step x s)

/-- The root of the mean square of a row of 4608 values, kept off zero. -/
def rms (f : ℕ → EReal) : EReal :=
  Ideal.sqrt (Ideal.div (∑ k : Fin 4608, f k * f k) (Ideal.ofBits .f32 0x45900000#32) + Ideal.ofBits .f32 0x358637BD#32)

/-- A row's value over the row's root mean square, times one more than the gain. -/
def normed (f : ℕ → EReal) (x g : EReal) : EReal := Ideal.div x (rms f) * (Ideal.ofBits .f32 0x3F800000#32 + g)

/-- A row's sum, kept as a column, read at an index. -/
theorem rowsum_apply {M N : ℕ} (v : FVec Ideal ⟨2, ![M, N]⟩ .f32) (h : (⟨2, ![M, N]⟩ : Shape).Reduces [1] ⟨1, ![M]⟩)
    (hφ : FKind.Formats .f32) (hacc : (0x00000000#32 : BitVec 32) = FKind.add.neutral .f32 hφ)
    (hc : (⟨1, ![M]⟩ : Shape).ShapeCasts ⟨2, ![M, 1]⟩) (x : (⟨2, ![M, 1]⟩ : Shape).Idx) :
    shapeCast ⟨2, ![M, 1]⟩ (multiReduction .add [1] ⟨1, ![M]⟩ v 0x00000000#32 h hφ hacc) hc x = ∑ k : Fin N, v (ix2 (x 0) k) := by
  refine (congrArg _ (eq_ix2 x)).trans ((shapeCast_a_a1_apply _ hc (x 0) (x 1)).trans ?_)
  refine (Ideal.multiReduction_add_single v _ h hφ hacc (ix1 (x 0))).trans ?_
  refine Finset.sum_congr rfl fun k _ => congrArg v (funext fun a => ?_)
  match a with
  | ⟨0, _⟩ => rfl
  | ⟨1, _⟩ => rfl

end Norm
end
-- ==== Proof.ActqClaim.lean ====
module

public import proofs.«01_k».proof.Defs
public import proofs.«01_k».proof.Proof.Norm
public import Idealize.ShloMosaic.Lib.Pipeline.ValueKit
public import proofs.«01_k».proof.Proof.Gen.ActqIdeal.Value
public import proofs.«01_k».proof.Proof.Gen.ActqRefIdeal.Value

@[expose] public section

set_option maxRecDepth 16384

noncomputable section

/-! The activations' codes and row scales: the kernel's, 128 rows at a time, and the reference's are the same functions. -/
namespace Cert.ActqIdeal.Tile

open Cert.ActqIdeal Cert.ActqIdeal.Gen Idealize.ShloMosaic Idealize.ShloMosaic.TcCoe Idealize.ShloMosaic.Tactic Idealize.SL.Sem
open Idealize.ShloMosaic.ValueIdx Blocks Norm
open Idealize.ShloMosaic.Pipeline (Dat)

/-- The code at a row and a column … -/
def codes (A : Vec Ideal S768x9216 .f32) (M : Vec Ideal S768x1 .f32) (r c : ℕ) : BitVec 8 := code (at2 A r c) (scale (at2 M r 0))

/-- … and the row's scale. -/
def scales (M : Vec Ideal S768x1 .f32) (r : ℕ) : EReal := scale (at2 M r 0)

variable (m : (ℓ : Loc nD τ sig) → Buf (Elt Ideal) ℓ)

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel

/-- A point's block of activations … -/
theorem blk0 (c : Dev nD) (t : Fin cfg0.N) (y : S128x9216.Idx) :
    (iblk m c 0 t : Vec Ideal S128x9216 .f32) y = at2 (V m c main_arg0 : Vec Ideal S768x9216 .f32) (128 * t.val + (y 0).val) (y 1).val := by
  refine at2_of (V m c main_arg0 : Vec Ideal S768x9216 .f32) ((win0_0.rect t).emb y) _ _ ?_ ?_
  · refine (Pipeline.Window.rect_emb_val win0_0 t y ⟨0, by decide⟩).trans ?_
    show win0_0.index t 0 * 128 + (y 0).val = _
    rw [(idx0 t).1, Nat.mul_comm]
  · exact Pipeline.Window.rect_emb_val_of_index_zero win0_0 t ⟨1, by decide⟩ (idx0 t).2 y

/-- … and of their rows' greatest magnitudes. -/
theorem blk1 (c : Dev nD) (t : Fin cfg0.N) (y : S128x1.Idx) :
    (iblk m c 1 t : Vec Ideal S128x1 .f32) y = at2 (V m c main_arg1 : Vec Ideal S768x1 .f32) (128 * t.val + (y 0).val) (y 1).val := by
  refine at2_of (V m c main_arg1 : Vec Ideal S768x1 .f32) ((win0_1.rect t).emb y) _ _ ?_ ?_
  · refine (Pipeline.Window.rect_emb_val win0_1 t y ⟨0, by decide⟩).trans ?_
    show win0_1.index t 0 * 128 + (y 0).val = _
    rw [(idx1 t).1, Nat.mul_comm]
  · exact Pipeline.Window.rect_emb_val_of_index_zero win0_1 t ⟨1, by decide⟩ (idx1 t).2 y

/-- The kernel's codes. -/
theorem codesArray (c : Dev nD) : (dats m 0 c).arrAt 2 cfg0.N
    = (fun y => codes (V m c main_arg0) (V m c main_arg1) (y 0).val (y 1).val : Vec Ideal S768x9216 .i8) := by
  refine (dats m 0 c).arrAt_eq_of_covers 2 _ (by decide +kernel) fun t hf y => ?_
  have b0 : ((win0_2.rect t).emb y 0 : ℕ) = 128 * t.val + y 0 :=
    (Pipeline.Window.rect_emb_val win0_2 t y ⟨0, by decide⟩).trans (by
      show win0_2.index t 0 * 128 + _ = _
      rw [(idx2 t).1, Nat.mul_comm]; rfl)
  have b1 : ((win0_2.rect t).emb y 1 : ℕ) = y 1 := Pipeline.Window.rect_emb_val_of_index_zero win0_2 t ⟨1, by decide⟩ (idx2 t).2 y
  have l : (dats m 0 c).after 2 t = out0_2 (iblk m c 0 t) (iblk m c 1 t) := after0_2 m c t
  have e : out0_2 (iblk m c 0 t) (iblk m c 1 t) = k0_pay2 (iblk m c 1 t) (iblk m c 0 t) := by
    refine (View.canon_unit_zero zero2 _ _).trans ?_
    rw [View.ld_unit_zero zero2, View.ld_unit_zero zero2]
  refine (congrFun (l.trans e) y).trans ?_
  refine (congrArg (code _) (col_apply (M := 128) (by omega) (k0_pay1 (F := Ideal) (iblk m c 1 t)) _ y)).trans ?_
  refine (congrArg₂ (fun x a => code x (scale a)) (blk0 m c t y) (blk1 m c t _)).trans ?_
  show codes _ _ (128 * t.val + (y 0).val) (y 1).val = codes _ _ ((win0_2.rect t).emb y 0).val ((win0_2.rect t).emb y 1).val
  exact (congrArg₂ (codes _ _) b0 b1).symm

/-- The kernel's scales. -/
theorem scalesArray (c : Dev nD) : (dats m 0 c).arrAt 3 cfg0.N
    = (fun y => scales (V m c main_arg1) (y 0).val : Vec Ideal S768x1 .f32) := by
  refine (dats m 0 c).arrAt_eq_of_covers 3 _ (by decide +kernel) fun t hf y => ?_
  have b0 : ((win0_3.rect t).emb y 0 : ℕ) = 128 * t.val + y 0 :=
    (Pipeline.Window.rect_emb_val win0_3 t y ⟨0, by decide⟩).trans (by
      show win0_3.index t 0 * 128 + _ = _
      rw [(idx3 t).1, Nat.mul_comm]; rfl)
  have l : (dats m 0 c).after 3 t = out0_3 (iblk m c 0 t) (iblk m c 1 t) := after0_3 m c t
  have e : out0_3 (iblk m c 0 t) (iblk m c 1 t) = k0_pay1 (iblk m c 1 t) := by
    refine (View.canon_unit_zero zero2 _ _).trans ?_
    rw [View.ld_unit_zero zero2]
  refine (congrFun (l.trans e) y).trans ?_
  have z : (y 1).val = 0 := Nat.lt_one_iff.mp (y 1).isLt
  have h := blk1 m c t y
  rw [z] at h
  refine (congrArg scale h).trans ?_
  show scales _ (128 * t.val + (y 0).val) = scales _ ((win0_3.rect t).emb y 0).val
  exact (congrArg (scales _) b0).symm

end Cert.ActqIdeal.Tile

namespace Cert.ActqClaim

open Idealize.ShloMosaic Idealize.ShloMosaic.TcCoe Idealize.SL.Sem
open Idealize.ShloMosaic.ValueIdx Blocks Norm
open Cert.ActqIdeal.Tile (codes scales)

/-- The reference's codes … -/
theorem codes' (A : Vec Ideal Cert.ActqRefIdeal.S768x9216 .f32) (M : Vec Ideal Cert.ActqRefIdeal.S768x1 .f32) :
    Cert.ActqRefIdeal.Gen.k0_pay2 A M = (fun y => codes A M (y 0).val (y 1).val : Vec Ideal Cert.ActqRefIdeal.S768x9216 .i8) :=
  funext fun y => (congrArg (code (A y)) (col_apply (M := 768) (by omega) (Cert.ActqRefIdeal.Gen.k0_pay1 (F := Ideal) M) _ y)).trans
    (congrArg₂ (fun x a => code x (scale a)) (at2_of A _ _ _ rfl rfl) (at2_of M _ _ _ rfl rfl))

/-- … and its scales. -/
theorem scales' (M : Vec Ideal Cert.ActqRefIdeal.S768x1 .f32) :
    Cert.ActqRefIdeal.Gen.k0_pay1 M = (fun y => scales M (y 0).val : Vec Ideal Cert.ActqRefIdeal.S768x1 .f32) :=
  funext fun y => congrArg scale (at2_of M y _ _ rfl (Nat.lt_one_iff.mp (y 1).isLt))

theorem algebraic : Cert.algebraic_ActqIdeal_ActqRefIdeal (hActqIdeal := Cert.ActqIdeal.Gen.facts) (hActqRefIdeal := Cert.ActqRefIdeal.Gen.facts) := by
  intro m g m' g' _ hm
  refine ⟨fun c => (Cert.ActqIdeal.Gen.dats m 0 c).arrAt 2 Cert.ActqIdeal.cfg0.N, fun c => (Cert.ActqIdeal.Gen.dats m 0 c).arrAt 3 Cert.ActqIdeal.cfg0.N,
    Cert.ActqIdeal.Value.run_blocks m g, ?_⟩
  refine (θ_run _ _ _).mono (fun r h c => ⟨(h c).1.trans ?_, (h c).2.1.trans ?_, (h c).2.2⟩) (Cert.ActqRefIdeal.Value.run_blocks m' g')
  · obtain ⟨h0, h1⟩ := hm c
    dsimp only
    rw [Cert.ActqRefIdeal.Value.final2, Cert.ActqIdeal.Tile.codesArray, Cert.ActqIdeal.Gen.V_main_arg0, Cert.ActqIdeal.Gen.V_main_arg1, h0, h1]
    exact codes' _ _
  · obtain ⟨h0, h1⟩ := hm c
    dsimp only
    rw [Cert.ActqRefIdeal.Value.final3, Cert.ActqIdeal.Tile.scalesArray, Cert.ActqIdeal.Gen.V_main_arg1, h1]
    exact scales' _

end Cert.ActqClaim
end
-- ==== Proof.FinalClaim.lean ====
module

public import proofs.«01_k».proof.Defs
public import proofs.«01_k».proof.Proof.Norm
public import Idealize.ShloMosaic.Lib.Pipeline.ValueKit
public import proofs.«01_k».proof.Proof.Gen.FinalIdeal.Value
public import proofs.«01_k».proof.Proof.Gen.FinalRefIdeal.Run
public import Idealize.ShloMosaic.Lib.IdealHost

@[expose] public section

set_option maxRecDepth 16384

noncomputable section

/-! The last norm and the sum with the attention half: the kernel's, 128 rows at a time, and the reference's are the same function. -/
namespace Cert.FinalIdeal.Tile

open scoped BigOperators
open Cert.FinalIdeal Cert.FinalIdeal.Gen Idealize.ShloMosaic Idealize.ShloMosaic.TcCoe Idealize.ShloMosaic.Tactic Idealize.SL.Sem
open Idealize.ShloMosaic.ValueIdx Blocks Norm
open Idealize.ShloMosaic.Pipeline (Dat)

/-- The result at a row and a column. -/
def final (f h : Vec Ideal S768x4608 .f32) (g : Vec Ideal S1x4608 .f32) (r c : ℕ) : EReal :=
  at2 h r c + normed (fun k => at2 f r k) (at2 f r c) (at2 g 0 c)

variable (m : (ℓ : Loc nD τ sig) → Buf (Elt Ideal) ℓ)

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, ∀ a, win0_2.index t a = 0 := by decide +kernel
theorem idx3 : ∀ t : Fin grid0.N, win0_3.index t 0 = t.val ∧ win0_3.index t 1 = 0 := by decide +kernel

/-- A point's block of the feed-forward half … -/
theorem blk0 (c : Dev nD) (t : Fin cfg0.N) (y : S128x4608.Idx) :
    (iblk m c 0 t : Vec Ideal S128x4608 .f32) y = at2 (V m c main_arg0 : Vec Ideal S768x4608 .f32) (128 * t.val + (y 0).val) (y 1).val := by
  refine at2_of (V m c main_arg0 : Vec Ideal S768x4608 .f32) ((win0_0.rect t).emb y) _ _ ?_ ?_
  · refine (Pipeline.Window.rect_emb_val win0_0 t y ⟨0, by decide⟩).trans ?_
    show win0_0.index t 0 * 128 + (y 0).val = _
    rw [(idx0 t).1, Nat.mul_comm]
  · exact Pipeline.Window.rect_emb_val_of_index_zero win0_0 t ⟨1, by decide⟩ (idx0 t).2 y

/-- … of the attention half … -/
theorem blk1 (c : Dev nD) (t : Fin cfg0.N) (y : S128x4608.Idx) :
    (iblk m c 1 t : Vec Ideal S128x4608 .f32) y = at2 (V m c main_arg1 : Vec Ideal S768x4608 .f32) (128 * t.val + (y 0).val) (y 1).val := by
  refine at2_of (V m c main_arg1 : Vec Ideal S768x4608 .f32) ((win0_1.rect t).emb y) _ _ ?_ ?_
  · refine (Pipeline.Window.rect_emb_val win0_1 t y ⟨0, by decide⟩).trans ?_
    show win0_1.index t 0 * 128 + (y 0).val = _
    rw [(idx1 t).1, Nat.mul_comm]
  · exact Pipeline.Window.rect_emb_val_of_index_zero win0_1 t ⟨1, by decide⟩ (idx1 t).2 y

/-- … and of the gains, whole. -/
theorem blk2 (c : Dev nD) (t : Fin cfg0.N) : (iblk m c 2 t : Vec Ideal S1x4608 .f32) = V m c main_v0 :=
  funext fun y => congrArg (V m c main_v0) (funext fun a => Fin.ext (Pipeline.Window.rect_emb_val_of_index_zero win0_2 t a (idx2 t a) y))

/-- The body's value at an index. -/
theorem pay (v0 v1 : Vec Ideal S128x4608 .f32) (v12 : Vec Ideal S1x4608 .f32) (y : S128x4608.Idx) :
    k0_pay1 v0 v1 v12 y = v1 y + normed (fun k => at2 v0 (y 0).val k) (v0 y) (at2 v12 0 (y 1).val) := by
  have hs : ∑ k : Fin 4608, v0 (ValueIdx.ix2 (y 0) k) * v0 (ValueIdx.ix2 (y 0) k) = ∑ k : Fin 4608, at2 v0 (y 0).val k.val * at2 v0 (y 0).val k.val :=
    Finset.sum_congr rfl fun k _ => mul_eq (at2_of v0 _ _ _ rfl rfl) (at2_of v0 _ _ _ rfl rfl)
  refine add_eq rfl (mul_eq (congrArg (Ideal.div (v0 y)) ?_) ?_)
  · refine (col_apply (M := 128) (by omega) _ _ y).trans ?_
    refine congrArg (fun z => Ideal.sqrt (Ideal.div z (Ideal.ofBits .f32 0x45900000#32) + Ideal.ofBits .f32 0x358637BD#32)) ?_
    exact (rowsum_apply (mulf (F := Ideal) v0 v0) _ _ _ _ _).trans hs
  · refine (row_apply (by omega) _ _ y).trans (congrArg (fun z => Ideal.ofBits .f32 0x3F800000#32 + z) ?_)
    exact (congrFun (shapeCast_self (s := S1x4608) v12 _) _).trans (at2_of v12 _ _ _ rfl rfl)

/-- The kernel's result array. -/
theorem array (c : Dev nD) : (dats m 0 c).arrAt 3 cfg0.N
    = (fun y => final (V m c main_arg0) (V m c main_arg1) (V m c main_v0) (y 0).val (y 1).val : Vec Ideal S768x4608 .bf16) := by
  refine (dats m 0 c).arrAt_eq_of_covers 3 _ (by decide +kernel) fun t hf y => ?_
  have b0 : ((win0_3.rect t).emb y 0 : ℕ) = 128 * t.val + y 0 :=
    (Pipeline.Window.rect_emb_val win0_3 t y ⟨0, by decide⟩).trans (by
      show win0_3.index t 0 * 128 + _ = _
      rw [(idx3 t).1, Nat.mul_comm]; rfl)
  have b1 : ((win0_3.rect t).emb y 1 : ℕ) = y 1 := Pipeline.Window.rect_emb_val_of_index_zero win0_3 t ⟨1, by decide⟩ (idx3 t).2 y
  have l : (dats m 0 c).after 3 t = out0_3 (iblk m c 0 t) (iblk m c 1 t) (iblk m c 2 t) := after0_3 m c t
  have e : out0_3 (iblk m c 0 t) (iblk m c 1 t) (iblk m c 2 t) = k0_pay1 (iblk m c 0 t) (iblk m c 1 t) (V m c main_v0) := by
    rw [blk2]
    refine (View.canon_unit_zero zero2 _ _).trans ?_
    rw [View.ld_unit_zero zero2, View.ld_unit_zero zero2, View.ld_unit_zero zero2]
  refine (congrFun (l.trans e) y).trans ((pay _ _ _ y).trans ?_)
  have r : rms (fun k => at2 (iblk m c 0 t : Vec Ideal S128x4608 .f32) (y 0).val k)
      = rms (fun k => at2 (V m c main_arg0 : Vec Ideal S768x4608 .f32) (128 * t.val + (y 0).val) k) := by
    have s : ∀ k : Fin 4608, at2 (iblk m c 0 t : Vec Ideal S128x4608 .f32) (y 0).val k.val
        = at2 (V m c main_arg0 : Vec Ideal S768x4608 .f32) (128 * t.val + (y 0).val) k.val := fun k =>
      (at2_of (iblk m c 0 t : Vec Ideal S128x4608 .f32) (ValueIdx.ix2 (y 0) k) _ _ rfl rfl).symm.trans (blk0 m c t _)
    unfold rms
    simp only [s]
  unfold normed
  rw [r, blk0 m c t y, blk1 m c t y]
  show final _ _ _ (128 * t.val + (y 0).val) (y 1).val = final _ _ _ ((win0_3.rect t).emb y 0).val ((win0_3.rect t).emb y 1).val
  exact (congrArg₂ (final _ _ _) b0 b1).symm

end Cert.FinalIdeal.Tile

namespace Cert.FinalClaim

open scoped BigOperators
open Idealize.ShloMosaic Idealize.ShloMosaic.TcCoe Idealize.SL.Sem
open Idealize.ShloMosaic.ValueIdx Blocks Norm
open Cert.FinalIdeal.Tile (final)
open Cert.FinalRefIdeal Cert.FinalRefIdeal.Gen

/-- The gains as a row. -/
theorem row (m : (ℓ : Loc Cert.FinalIdeal.nD Cert.FinalIdeal.τ Cert.FinalIdeal.sig) → Buf (Elt Ideal) ℓ) (c : Dev Cert.FinalIdeal.nD) :
    (Cert.FinalIdeal.Gen.V m c Cert.FinalIdeal.main_v0 : Vec Ideal Cert.FinalIdeal.S1x4608 .f32)
      = shapeCast Cert.FinalIdeal.S1x4608 (m ((c : Thread Cert.FinalIdeal.nD Cert.FinalIdeal.τ).loc Cert.FinalIdeal.main_arg2) : Vec Ideal Cert.FinalIdeal.S4608 .f32)
          Cert.FinalIdeal.Gen.shapeCasts_S4608_S1x4608 := by
  unfold Cert.FinalIdeal.Gen.V
  simp only [Cert.FinalIdeal.Gen.hostOps0, StableHlo.after_cons, StableHlo.after_nil]
  rw [StableHlo.reshape_result]
  rfl

/-- A column repeated along its row, read at an index. -/
theorem col' {α : Type} (v : S768x1.Idx → α) (y : S768x4608.Idx) :
    broadcastInDim S768x4608 ![0, 1] bcast_S768x1_S768x4608_0_1 v y = v (ValueIdx.ix2 (y 0) ⟨0, Nat.one_pos⟩) :=
  broadcastInDim_apply _ _ v y _ fun a => by
    match a with
    | ⟨0, _⟩ => rfl
    | ⟨1, _⟩ => rfl

/-- A row repeated along its column. -/
theorem row' {α : Type} (v : S1x4608.Idx → α) (y : S768x4608.Idx) :
    broadcastInDim S768x4608 ![0, 1] bcast_S1x4608_S768x4608_0_1 v y = v (ValueIdx.ix2 ⟨0, Nat.one_pos⟩ (y 1)) :=
  broadcastInDim_apply _ _ v y _ fun a => by
    match a with
    | ⟨0, _⟩ => rfl
    | ⟨1, _⟩ => rfl

/-- The rows' sums, as a column. -/
theorem sum' (v : Vec Ideal S768x4608 .f32) (x : S768x1.Idx) :
    broadcastInDim S768x1 ![0] bcast_S768_S768x1_0 (Host.reduceAdd (F := Ideal) (φ := .f32) v (constant (F := Ideal) S_ .f32 0x00000000#32) reducesTo_S768x4608_S768_d1 h_S_) x
      = ∑ k : Fin 4608, v (ValueIdx.ix2 (x 0) k) := by
  refine (broadcastInDim_apply _ _ _ x (ValueIdx.ix1 (x 0)) fun a => by
    match a with
    | ⟨0, _⟩ => rfl).trans ?_
  refine (Ideal.hostReduceAdd_single reducesTo_S768x4608_S768_d1 (by decide : S768x4608.Reduces [1] S768) v _ (ValueIdx.ix1 (x 0))).trans ?_
  have z : (constant (F := Ideal) S_ .f32 0x00000000#32 (Shape.Idx.first h_S_) : EReal) = 0 := Ideal.ofBits_zero_f32
  rw [z, zero_add]
  refine Finset.sum_congr rfl fun k _ => congrArg v (funext fun a => ?_)
  match a with
  | ⟨0, _⟩ => rfl
  | ⟨1, _⟩ => rfl

/-- The reference's value at an index. -/
theorem value (f h : Vec Ideal S768x4608 .f32) (g : Vec Ideal S1x4608 .f32) (y : S768x4608.Idx) :
    (truncf (F := Ideal) .bf16 (addf h (mulf (Host.divf f (broadcastInDim S768x4608 ![0, 1] bcast_S768x1_S768x4608_0_1 (Host.sqrt (addf (Host.divf (broadcastInDim S768x1 ![0] bcast_S768_S768x1_0 (Host.reduceAdd (mulf f f) (constant S_ .f32 0x00000000#32) reducesTo_S768x4608_S768_d1 h_S_)) (broadcastInDim S768x1 ![] bcast_S_S768x1 (constant S_ .f32 0x45900000#32))) (broadcastInDim S768x1 ![] bcast_S_S768x1 (constant S_ .f32 0x358637BD#32)))))) (broadcastInDim S768x4608 ![0, 1] bcast_S1x4608_S768x4608_0_1 (addf (broadcastInDim S1x4608 ![] bcast_S_S1x4608 (constant S_ .f32 0x3F800000#32)) g)))) bitsLt_bf16_f32 : Vec Ideal S768x4608 .bf16) y
      = final f h g (y 0).val (y 1).val := by
  have hs : ∑ k : Fin 4608, f (ValueIdx.ix2 (y 0) k) * f (ValueIdx.ix2 (y 0) k) = ∑ k : Fin 4608, at2 f (y 0).val k.val * at2 f (y 0).val k.val :=
    Finset.sum_congr rfl fun k _ => mul_eq (at2_of f _ _ _ rfl rfl) (at2_of f _ _ _ rfl rfl)
  refine add_eq (at2_of h _ _ _ rfl rfl) (mul_eq (congrArg₂ Ideal.div (at2_of f _ _ _ rfl rfl) ?_) ?_)
  · refine (col' _ y).trans (congrArg Ideal.sqrt (add_eq (congrArg₂ Ideal.div ?_ ?_) ?_))
    · exact (sum' (mulf (F := Ideal) f f) _).trans hs
    · exact broadcastInDim_scalar_apply _ _ _
    · exact broadcastInDim_scalar_apply _ _ _
  · exact (row' _ y).trans (add_eq (broadcastInDim_scalar_apply _ _ _) (at2_of g _ _ _ rfl rfl))

theorem algebraic : Cert.algebraic_FinalIdeal_FinalRefIdeal (hFinalIdeal := Cert.FinalIdeal.Gen.facts) (hFinalRefIdeal := Cert.FinalRefIdeal.Gen.facts) := by
  intro m g m' g' _ hm
  refine ⟨fun c => (Cert.FinalIdeal.Gen.dats m 0 c).arrAt 3 Cert.FinalIdeal.cfg0.N, Cert.FinalIdeal.Value.run_blocks m g, ?_⟩
  refine (θ_run _ _ _).mono (fun r h c => ⟨(h c).1.trans ?_, (h c).2⟩) (Cert.FinalRefIdeal.Value.run m' g')
  obtain ⟨h0, h1, h2⟩ := hm c
  dsimp only
  rw [Cert.FinalIdeal.Tile.array, row, Cert.FinalIdeal.Gen.V_main_arg0, Cert.FinalIdeal.Gen.V_main_arg1, h0, h1, h2]
  exact funext fun y => value _ _ _ y

end Cert.FinalClaim
end
-- ==== Proof.Proj.lean ====
module

public import proofs.«01_k».proof.Proof.Norm
public import Idealize.ShloMosaic.Lib.KernelVsHost
public import Idealize.ShloMosaic.Lib.IdealHost

@[expose] public section

set_option maxRecDepth 16384

noncomputable section

/-! The projection of a row's codes and the rotation of its heads: each as a function of rows and columns, and the
array expressions that compute it, for any number of rows. -/
namespace Proj

open scoped BigOperators
open Idealize.ShloMosaic Blocks Norm Rows
open Idealize.ShloMosaic.ValueIdx (ix1 ix2 eq_ix2 shapeCast_a_a1_apply)

variable {α : Type}

/-- A row's values after the norm … -/
def normRow (f g : ℕ → EReal) (k : ℕ) : EReal := normed f (f k) (g k)

/-- … their scale … -/
def rowScale (f g : ℕ → EReal) : EReal := scale (Finset.univ.sup fun k : Fin 4608 => mag (normRow f g k))

/-- … and their codes. -/
def rowCode (f g : ℕ → EReal) (k : ℕ) : BitVec 8 := code (normRow f g k) (rowScale f g)

/-- A column of the projection. -/
def proj (f g : ℕ → EReal) (w : ℕ → ℕ → BitVec 8) (ws : ℕ → EReal) (c : ℕ) : EReal :=
  (∑ k : Fin 4608, (((rowCode f g k).toInt : ℝ) : EReal) * (((w k c).toInt : ℝ) : EReal)) * rowScale f g * ws c

/-- An entry of the head that starts at column `o`, after the rotation. -/
def head (p cs sn : ℕ → EReal) (o c : ℕ) : EReal :=
  if c < 64 then p (o + c) * cs c - p (o + (c + 64)) * sn c else p (o + c) * cs (c - 64) + p (o + (c - 64)) * sn (c - 64)

/-- A value kept in the range of the eight-bit floats. -/
def clamp (x : EReal) : EReal := min (Ideal.ofBits .f32 0x43E00000#32) (max (Ideal.ofBits .f32 0xC3E00000#32) x)

/-- A query entry … -/
def query (p cs sn : ℕ → EReal) (n : ℕ) : EReal := head p cs sn (128 * (n / 128)) (n % 128) * Ideal.ofBits .f32 0x3DAAAAAB#32
/-- … a key entry … -/
def key (p cs sn ks : ℕ → EReal) (n : ℕ) : EReal := clamp (Ideal.div (head p cs sn (1024 + 128 * (n / 128)) (n % 128)) (ks (n / 128)))
/-- … and a value entry. -/
def value (p vs : ℕ → EReal) (n : ℕ) : EReal := clamp (Ideal.div (p (1536 + n)) (vs (n / 128)))

/-- A column of a head. -/
theorem col_div (h c : ℕ) (hc : c < 128) : (128 * h + c) / 128 = h ∧ (128 * h + c) % 128 = c := by omega

theorem query_at (p cs sn : ℕ → EReal) (h c : ℕ) (hc : c < 128) : query p cs sn (128 * h + c) = head p cs sn (128 * h) c * Ideal.ofBits .f32 0x3DAAAAAB#32 := by
  unfold query; rw [(col_div h c hc).1, (col_div h c hc).2]
theorem key_at (p cs sn ks : ℕ → EReal) (h c : ℕ) (hc : c < 128) :
    key p cs sn ks (128 * h + c) = clamp (Ideal.div (head p cs sn (1024 + 128 * h) c) (ks h)) := by
  unfold key; rw [(col_div h c hc).1, (col_div h c hc).2]
theorem value_at (p vs : ℕ → EReal) (h c : ℕ) (hc : c < 128) :
    value p vs (128 * h + c) = clamp (Ideal.div (p (1536 + (128 * h + c))) (vs h)) := by
  unfold value; rw [(col_div h c hc).1]

/-- A rounded and kept value is the integer its code holds. -/
theorem step_eq_code (x s : EReal) : step x s = (((code x s).toInt : ℝ) : EReal) := by
  have h127 : Ideal.ofBits .f32 0x42FE0000#32 = ((127 : ℝ) : EReal) := by
    simp [Ideal.ofBits, Ideal.ieee]
    rw [← EReal.coe_mul]; norm_num
  have hm127 : Ideal.ofBits .f32 0xC2FE0000#32 = ((-127 : ℝ) : EReal) := by
    simp [Ideal.ofBits, Ideal.ieee]
    rw [← EReal.coe_mul]; norm_num
  have key : ∃ n : ℤ, -127 ≤ n ∧ n ≤ 127 ∧ step x s = ((n : ℝ) : EReal) := by
    unfold step
    rw [h127, hm127]
    generalize Ideal.div x s = z
    induction z using EReal.rec with
    | bot => exact ⟨-127, le_refl _, by norm_num, by
        show min ((127 : ℝ) : EReal) (max ((-127 : ℝ) : EReal) ⊥) = _
        rw [max_eq_left bot_le, min_eq_right (by exact_mod_cast (by norm_num : (-127 : ℝ) ≤ 127))]; norm_num⟩
    | top => exact ⟨127, by norm_num, le_refl _, by
        show min ((127 : ℝ) : EReal) (max ((-127 : ℝ) : EReal) ⊤) = _
        rw [max_eq_right le_top, min_eq_left le_top]; norm_num⟩
    | coe r =>
      refine ⟨min 127 (max (-127) (Ideal.roundHalfEven r)), by omega, by omega, ?_⟩
      show min ((127 : ℝ) : EReal) (max ((-127 : ℝ) : EReal) (((Ideal.roundHalfEven r : ℤ) : ℝ) : EReal)) = _
      push_cast
      rfl
  obtain ⟨n, h1, h2, e⟩ := key
  unfold code
  rw [e]
  have t : Ideal.toIntClamped (-(2 ^ (8 - 1) : Nat)) ((2 ^ (8 - 1) : Nat) - 1) ((n : ℝ) : EReal) = n := by
    rw [Ideal.toIntClamped_coe, Int.floor_intCast, Int.ceil_intCast, ite_self]
    norm_num
    omega
  unfold Ideal.fptosi
  rw [t, BitVec.toInt_ofInt]
  congr 2
  simp [Int.bmod]
  omega

/-- An array read at its rows and columns. -/
def Rep {M N : ℕ} (V : (⟨2, ![M, N]⟩ : Shape).Idx → α) (f : ℕ → ℕ → α) : Prop := ∀ y, V y = f (y 0).val (y 1).val

theorem Rep.at {M N : ℕ} {V : (⟨2, ![M, N]⟩ : Shape).Idx → α} {f : ℕ → ℕ → α} (h : Rep V f) (i : Fin M) (j : Fin N) : V (ix2 i j) = f i.val j.val := h _

/-- Any array is its own. -/
theorem rep_self {M N : ℕ} [NeZero M] [NeZero N] (V : (⟨2, ![M, N]⟩ : Shape).Idx → α) : Rep V (at2 V) := fun y => at2_of V y _ _ rfl rfl

/-- The norm of rows. -/
theorem rep_norm {M : ℕ} (hM : M ≠ 1) {X : FVec Ideal ⟨2, ![M, 4608]⟩ .f32} {G : FVec Ideal ⟨2, ![1, 4608]⟩ .f32} {f : ℕ → ℕ → EReal} {g : ℕ → EReal}
    (hX : Rep X f) (hG : Rep G fun _ => g) (h : (⟨2, ![M, 4608]⟩ : Shape).Reduces [1] ⟨1, ![M]⟩) (hφ : FKind.Formats .f32)
    (hacc : (0x00000000#32 : BitVec 32) = FKind.add.neutral .f32 hφ) (hc : (⟨1, ![M]⟩ : Shape).ShapeCasts ⟨2, ![M, 1]⟩)
    (hb : (⟨2, ![M, 1]⟩ : Shape).Broadcasts ⟨2, ![M, 4608]⟩) (hr : (⟨2, ![1, 4608]⟩ : Shape).Broadcasts ⟨2, ![M, 4608]⟩)
    (hs : (⟨2, ![1, 4608]⟩ : Shape).ShapeCasts ⟨2, ![1, 4608]⟩) :
    Rep (mulf (F := Ideal) (divf X (broadcastTo ⟨2, ![M, 4608]⟩ (sqrt (addf (divf (shapeCast ⟨2, ![M, 1]⟩ (multiReduction .add [1] ⟨1, ![M]⟩ (mulf X X) 0x00000000#32 h hφ hacc) hc)
        (broadcast ⟨2, ![M, 1]⟩ (Scalar.ofBits .f32 0x45900000#32))) (broadcast ⟨2, ![M, 1]⟩ (Scalar.ofBits .f32 0x358637BD#32)))) hb))
        (broadcastTo ⟨2, ![M, 4608]⟩ (addf (broadcast ⟨2, ![1, 4608]⟩ (Scalar.ofBits .f32 0x3F800000#32)) (shapeCast ⟨2, ![1, 4608]⟩ G hs)) hr))
      (fun r => normRow (f r) g) := fun y => by
  refine mul_eq (congrArg₂ Ideal.div (hX y) ?_) ?_
  · refine (col_apply hM _ _ y).trans ?_
    refine congrArg (fun z => Ideal.sqrt (Ideal.div z (Ideal.ofBits .f32 0x45900000#32) + Ideal.ofBits .f32 0x358637BD#32)) ?_
    refine (rowsum_apply (mulf (F := Ideal) X X) _ _ _ _ _).trans (Finset.sum_congr rfl fun k _ => ?_)
    exact mul_eq (hX _) (hX _)
  · refine (row_apply (by omega) _ _ y).trans (congrArg (fun z => Ideal.ofBits .f32 0x3F800000#32 + z) ?_)
    exact (congrFun (shapeCast_self (s := ⟨2, ![1, 4608]⟩) G _) _).trans (hG _)

/-- The rows' scales. -/
theorem rep_scale {M : ℕ} {N : FVec Ideal ⟨2, ![M, 4608]⟩ .f32} {f : ℕ → ℕ → EReal} {g : ℕ → EReal} (hN : Rep N fun r => normRow (f r) g)
    (h : (⟨2, ![M, 4608]⟩ : Shape).Reduces [1] ⟨1, ![M]⟩) (hφ : FKind.Formats .f32)
    (hacc : (0xFF800000#32 : BitVec 32) = FKind.maximumf.neutral .f32 hφ) (hc : (⟨1, ![M]⟩ : Shape).ShapeCasts ⟨2, ![M, 1]⟩) :
    Rep (select (cmpf (F := Ideal) .oeq (shapeCast ⟨2, ![M, 1]⟩ (multiReduction .maximumf [1] ⟨1, ![M]⟩ (absf N) 0xFF800000#32 h hφ hacc) hc) (broadcast ⟨2, ![M, 1]⟩ (Scalar.ofBits .f32 0x00000000#32)))
        (broadcast ⟨2, ![M, 1]⟩ (Scalar.ofBits .f32 0x3F800000#32))
        (divf (shapeCast ⟨2, ![M, 1]⟩ (multiReduction .maximumf [1] ⟨1, ![M]⟩ (absf N) 0xFF800000#32 h hφ hacc) hc) (broadcast ⟨2, ![M, 1]⟩ (Scalar.ofBits .f32 0x42FE0000#32))))
      (fun r _ => rowScale (f r) g) := fun y =>
  congrArg scale ((rowmax_apply N h hφ hacc hc y).trans (Finset.sup_congr rfl fun k _ => congrArg mag (hN _)))

/-- The rounded values. -/
theorem rep_step {M : ℕ} (hM : M ≠ 1) {N : FVec Ideal ⟨2, ![M, 4608]⟩ .f32} {S : FVec Ideal ⟨2, ![M, 1]⟩ .f32} {f : ℕ → ℕ → EReal} {g : ℕ → EReal}
    (hN : Rep N fun r => normRow (f r) g) (hS : Rep S fun r _ => rowScale (f r) g) (hb : (⟨2, ![M, 1]⟩ : Shape).Broadcasts ⟨2, ![M, 4608]⟩) :
    Rep (minimumf (F := Ideal) (broadcast ⟨2, ![M, 4608]⟩ (Scalar.ofBits .f32 0x42FE0000#32)) (maximumf (broadcast ⟨2, ![M, 4608]⟩ (Scalar.ofBits .f32 0xC2FE0000#32))
        (roundeven (divf N (broadcastTo ⟨2, ![M, 4608]⟩ S hb)))))
      (fun r c => step (normRow (f r) g c) (rowScale (f r) g)) := fun y =>
  congrArg₂ step (hN y) ((col_apply hM S hb y).trans (hS _))

/-- A product of integer-valued rows with columns of codes, scaled. -/
theorem rep_tile {M N T : ℕ} (hM : M ≠ 1) (hN : N ≠ 1) {L : FVec Ideal ⟨2, ![M, 4608]⟩ .bf16} {S : FVec Ideal ⟨2, ![M, 1]⟩ .f32} {W : IVec ⟨2, ![4608, N]⟩ 8}
    {E : FVec Ideal ⟨2, ![1, N]⟩ .f32} {f : ℕ → ℕ → EReal} {g ws : ℕ → EReal} {w : ℕ → ℕ → BitVec 8}
    (hL : Rep L fun r k => (((rowCode (f r) g k).toInt : ℝ) : EReal)) (hS : Rep S fun r _ => rowScale (f r) g) (hW : Rep W fun k c => w k (T + c)) (hE : Rep E fun _ c => ws (T + c))
    (hb : (⟨2, ![M, 1]⟩ : Shape).Broadcasts ⟨2, ![M, N]⟩) (hs : (⟨2, ![1, N]⟩ : Shape).ShapeCasts ⟨2, ![1, N]⟩) (hr : (⟨2, ![1, N]⟩ : Shape).Broadcasts ⟨2, ![M, N]⟩) :
    Rep (mulf (F := Ideal) (mulf (matmul (DotDims.plain M 4608 N) none L (sitofp .bf16 W) (constant ⟨2, ![M, N]⟩ .f32 0x00000000#32)) (broadcastTo ⟨2, ![M, N]⟩ S hb))
        (broadcastTo ⟨2, ![M, N]⟩ (shapeCast ⟨2, ![1, N]⟩ E hs) hr))
      (fun r c => proj (f r) g w ws (T + c)) := fun y => by
  refine mul_eq (mul_eq ?_ ?_) ?_
  · refine (mm2_apply _ _ y).trans (Finset.sum_congr rfl fun k _ => ?_)
    exact mul_eq (hL _) (congrArg (fun z : BitVec 8 => (((z.toInt : ℝ) : EReal))) (hW _))
  · exact (col_apply hM S hb y).trans (hS _)
  · exact (row_apply hN _ _ y).trans ((congrFun (shapeCast_self (s := ⟨2, ![1, N]⟩) E _) _).trans (hE _))

/-- Columns cut out. -/
theorem rep_slice {M N n : ℕ} (o : ℕ) {P : (⟨2, ![M, N]⟩ : Shape).Idx → α} {p : ℕ → ℕ → α} (hP : Rep P p)
    (h : (⟨2, ![M, N]⟩ : Shape).Slices ![0, o] ⟨2, ![M, n]⟩) :
    Rep (extractStridedSlice ⟨2, ![M, n]⟩ ![0, o] P h) (fun r c => p r (o + c)) := fun y => by
  have b := h.2 ⟨1, Nat.one_lt_two⟩
  refine (extractStridedSlice_apply _ P h y (ix2 (y 0) ⟨o + (y 1).val, lt_of_lt_of_le (Nat.add_lt_add_left (y 1).isLt o) b⟩) fun a => ?_).trans (hP _)
  match a with
  | ⟨0, _⟩ => exact (Nat.zero_add _).symm
  | ⟨1, _⟩ => rfl

/-- Two halves of a head side by side. -/
theorem rep_pair {M : ℕ} {A B : (⟨2, ![M, 64]⟩ : Shape).Idx → α} {a b : ℕ → ℕ → α} (hA : Rep A a) (hB : Rep B b)
    (h : Shape.Concatenates [⟨2, ![M, 64]⟩, ⟨2, ![M, 64]⟩] ⟨2, ![M, 128]⟩ 1) :
    Rep (concatenate ⟨2, ![M, 128]⟩ 1 [⟨⟨2, ![M, 64]⟩, A⟩, ⟨⟨2, ![M, 64]⟩, B⟩] h) (fun r c => if c < 64 then a r c else b r (c - 64)) := fun y => by
  have hy : (y 1).val < 128 := (y 1).isLt
  by_cases l : (y 1).val < 64
  · refine (concatenate_pair_apply_left 1 A B h y rfl (ix2 (y 0) ⟨(y 1).val, l⟩) fun c => ?_).trans ((hA _).trans (if_pos l).symm)
    match c with
    | ⟨0, _⟩ => rfl
    | ⟨1, _⟩ => rfl
  · refine (concatenate_pair_apply_right 1 A B h y rfl rfl (ix2 (y 0) ⟨(y 1).val - 64, by omega⟩) (fun c hc => ?_) ?_).trans ((hB _).trans (if_neg l).symm)
    · match c with
      | ⟨0, _⟩ => rfl
      | ⟨1, _⟩ => exact absurd rfl hc
    · show (y 1).val - 64 + 64 = _
      omega

/-- A head's halves exchanged. -/
theorem rep_roll {M : ℕ} {P : (⟨2, ![M, 128]⟩ : Shape).Idx → α} {p : ℕ → ℕ → α} (hP : Rep P p) (h : (⟨2, ![M, 128]⟩ : Shape).Rotates 1 none) :
    Rep (dynamicRotate 1 64#32 none P h) (fun r c => if c < 64 then p r (c + 64) else p r (c - 64)) := fun y => by
  have hy : (y 1).val < 128 := (y 1).isLt
  refine (dynamicRotate_apply 1 64#32 P h y (ix2 (y 0) ⟨((y 1).val + 128 - 64 % 128) % 128, Nat.mod_lt _ (by decide)⟩) fun a => ?_).trans ((hP _).trans ?_)
  · match a with
    | ⟨0, _⟩ => rfl
    | ⟨1, _⟩ => rfl
  · show p (y 0).val (((y 1).val + 128 - 64 % 128) % 128) = _
    by_cases l : (y 1).val < 64
    · exact (congrArg _ (by omega)).trans (if_pos l).symm
    · exact (congrArg _ (by omega)).trans (if_neg l).symm

/-- A head rotated as a sum of the head by the cosines and the exchanged head by the signed sines … -/
theorem rep_ropeRoll {M : ℕ} {H C S : FVec Ideal ⟨2, ![M, 128]⟩ .f32} {p cs sn : ℕ → ℕ → EReal} (T o : ℕ)
    (hH : Rep H fun r c => p r (T + (o + c))) (hC : Rep C fun r c => if c < 64 then cs r c else cs r (c - 64))
    (hS : Rep S fun r c => if c < 64 then 0 - sn r c else sn r (c - 64)) (h : (⟨2, ![M, 128]⟩ : Shape).Rotates 1 none) :
    Rep (addf (F := Ideal) (mulf H C) (mulf (dynamicRotate 1 64#32 none H h) S)) (fun r c => head (p r) (cs r) (sn r) (T + o) c) := fun y => by
  refine (add_eq (mul_eq (hH y) (hC y)) (mul_eq (rep_roll hH h y) (hS y))).trans ?_
  show _ = head _ _ _ _ _
  unfold head
  split
  · rename_i l
    simp only [if_pos l, zero_add, mul_neg, Nat.add_assoc, sub_eq_add_neg]
  · rename_i l
    simp only [if_neg l, Nat.add_assoc]

/-- … and as two halves. -/
theorem rep_ropePair {M : ℕ} {H : FVec Ideal ⟨2, ![M, 128]⟩ .f32} {C S : FVec Ideal ⟨2, ![M, 64]⟩ .f32} {p cs sn : ℕ → ℕ → EReal} (o : ℕ)
    (hH : Rep H fun r c => p r (o + c)) (hC : Rep C cs) (hS : Rep S sn)
    (h0 : (⟨2, ![M, 128]⟩ : Shape).Slices ![0, 0] ⟨2, ![M, 64]⟩) (h1 : (⟨2, ![M, 128]⟩ : Shape).Slices ![0, 64] ⟨2, ![M, 64]⟩)
    (h : Shape.Concatenates [⟨2, ![M, 64]⟩, ⟨2, ![M, 64]⟩] ⟨2, ![M, 128]⟩ 1) :
    Rep (concatenate ⟨2, ![M, 128]⟩ 1 [
        ⟨⟨2, ![M, 64]⟩, subf (F := Ideal) (mulf (extractStridedSlice ⟨2, ![M, 64]⟩ ![0, 0] H h0) C) (mulf (extractStridedSlice ⟨2, ![M, 64]⟩ ![0, 64] H h1) S)⟩,
        ⟨⟨2, ![M, 64]⟩, addf (F := Ideal) (mulf (extractStridedSlice ⟨2, ![M, 64]⟩ ![0, 64] H h1) C) (mulf (extractStridedSlice ⟨2, ![M, 64]⟩ ![0, 0] H h0) S)⟩] h)
      (fun r c => head (p r) (cs r) (sn r) o c) := fun y => by
  have a : Rep (subf (F := Ideal) (mulf (extractStridedSlice ⟨2, ![M, 64]⟩ ![0, 0] H h0) C) (mulf (extractStridedSlice ⟨2, ![M, 64]⟩ ![0, 64] H h1) S))
      (fun r c => p r (o + (0 + c)) * cs r c - p r (o + (64 + c)) * sn r c) := fun y =>
    sub_eq (mul_eq (rep_slice 0 hH h0 y) (hC y)) (mul_eq (rep_slice 64 hH h1 y) (hS y))
  have b : Rep (addf (F := Ideal) (mulf (extractStridedSlice ⟨2, ![M, 64]⟩ ![0, 64] H h1) C) (mulf (extractStridedSlice ⟨2, ![M, 64]⟩ ![0, 0] H h0) S))
      (fun r c => p r (o + (64 + c)) * cs r c + p r (o + (0 + c)) * sn r c) := fun y =>
    add_eq (mul_eq (rep_slice 64 hH h1 y) (hC y)) (mul_eq (rep_slice 0 hH h0 y) (hS y))
  refine (rep_pair a b h y).trans ?_
  show _ = head _ _ _ _ _
  unfold head
  split
  · rename_i l
    simp only [if_pos l, Nat.zero_add, Nat.add_comm 64]
  · rename_i l
    simp only [if_neg l, Nat.zero_add, show 64 + ((y 1).val - 64) = (y 1).val by omega]

/-- The cosines of both halves … -/
theorem rep_cos {M : ℕ} {C : FVec Ideal ⟨2, ![M, 64]⟩ .f32} {cs : ℕ → ℕ → EReal} (hC : Rep C cs)
    (h : Shape.Concatenates [⟨2, ![M, 64]⟩, ⟨2, ![M, 64]⟩] ⟨2, ![M, 128]⟩ 1) :
    Rep (concatenate ⟨2, ![M, 128]⟩ 1 [⟨⟨2, ![M, 64]⟩, C⟩, ⟨⟨2, ![M, 64]⟩, C⟩] h) (fun r c => if c < 64 then cs r c else cs r (c - 64)) := rep_pair hC hC h

/-- … and the sines, the first half's negated. -/
theorem rep_sin {M : ℕ} {S : FVec Ideal ⟨2, ![M, 64]⟩ .f32} {sn : ℕ → ℕ → EReal} (hS : Rep S sn)
    (h : Shape.Concatenates [⟨2, ![M, 64]⟩, ⟨2, ![M, 64]⟩] ⟨2, ![M, 128]⟩ 1) :
    Rep (concatenate ⟨2, ![M, 128]⟩ 1 [⟨⟨2, ![M, 64]⟩, subf (F := Ideal) (broadcast ⟨2, ![M, 64]⟩ (Scalar.ofBits .f32 0x00000000#32)) S⟩, ⟨⟨2, ![M, 64]⟩, S⟩] h)
      (fun r c => if c < 64 then 0 - sn r c else sn r (c - 64)) :=
  rep_pair (a := fun r c => 0 - sn r c) (fun y => sub_eq Ideal.ofBits_zero_f32 (hS y)) hS h

/-- A row. -/
theorem one_row {N : ℕ} [NeZero N] (A : (⟨2, ![1, N]⟩ : Shape).Idx → α) : Rep A fun _ => at2 A 0 :=
  fun y => at2_of A y _ _ (Nat.lt_one_iff.mp (y 0).isLt) rfl

/-- Columns of columns. -/
theorem Rep.shift {M N : ℕ} {V : (⟨2, ![M, N]⟩ : Shape).Idx → α} {p : ℕ → ℕ → α} {T o : ℕ} (h : Rep V fun r c => p r (T + (o + c))) :
    Rep V fun r c => p r (T + o + c) := fun y => (h y).trans (congrArg (p _) (Nat.add_assoc _ _ _).symm)

/-- A query head … -/
theorem queryRep {M : ℕ} {H : FVec Ideal ⟨2, ![M, 128]⟩ .f32} {p cs sn : ℕ → ℕ → EReal} (O h : ℕ) (hO : O = 128 * h) (hH : Rep H fun r c => head (p r) (cs r) (sn r) O c) :
    Rep (mulf (F := Ideal) H (broadcast ⟨2, ![M, 128]⟩ (Scalar.ofBits .f32 0x3DAAAAAB#32))) fun r c => query (p r) (cs r) (sn r) (128 * h + c) := fun y => by
  subst hO
  exact (mul_eq (hH y) rfl).trans (query_at _ _ _ h _ (y 1).isLt).symm

/-- … a key head … -/
theorem keyRep {M : ℕ} {H D : FVec Ideal ⟨2, ![M, 128]⟩ .f32} {p cs sn : ℕ → ℕ → EReal} (ks : ℕ → EReal) (O h : ℕ) (hO : O = 1024 + 128 * h)
    (hH : Rep H fun r c => head (p r) (cs r) (sn r) O c) (hD : Rep D fun _ _ => ks h) :
    Rep (minimumf (F := Ideal) (broadcast ⟨2, ![M, 128]⟩ (Scalar.ofBits .f32 0x43E00000#32)) (maximumf (broadcast ⟨2, ![M, 128]⟩ (Scalar.ofBits .f32 0xC3E00000#32)) (divf H D)))
      fun r c => key (p r) (cs r) (sn r) ks (128 * h + c) := fun y => by
  subst hO
  exact (congrArg₂ (fun a b => clamp (Ideal.div a b)) (hH y) (hD y)).trans (key_at _ _ _ _ h _ (y 1).isLt).symm

/-- … and a value head. -/
theorem valueRep {M : ℕ} {H D : FVec Ideal ⟨2, ![M, 128]⟩ .f32} {p : ℕ → ℕ → EReal} (vs : ℕ → EReal) (O h : ℕ) (hO : O = 1536 + 128 * h)
    (hH : Rep H fun r c => p r (O + c)) (hD : Rep D fun _ _ => vs h) :
    Rep (minimumf (F := Ideal) (broadcast ⟨2, ![M, 128]⟩ (Scalar.ofBits .f32 0x43E00000#32)) (maximumf (broadcast ⟨2, ![M, 128]⟩ (Scalar.ofBits .f32 0xC3E00000#32)) (divf H D)))
      fun r c => value (p r) vs (128 * h + c) := fun y => by
  subst hO
  refine (congrArg₂ (fun a b => clamp (Ideal.div a b)) ((hH y).trans (congrArg (p _) (Nat.add_assoc _ _ _))) (hD y)).trans (value_at _ _ h _ (y 1).isLt).symm

/-- A scalar's load. -/
theorem sLd (K : (⟨2, ![1, 4]⟩ : Shape).Idx → EReal) (h : ℕ) (inb : ∀ a, (![0, h] : Fin 2 → ℕ) a + (![1, 1] : Fin 2 → ℕ) a ≤ (⟨2, ![1, 4]⟩ : Shape).size a) (x : (⟨2, ![1, 1]⟩ : Shape).Idx) :
    View.ld (Val := Elt Ideal) (e' := .f32) K (Rect.unit (s := ⟨2, ![1, 4]⟩) ![0, h] ![1, 1] inb) x = at2 K 0 h :=
  (ld2 (Val := Elt Ideal) (e := .f32) K 0 h _ inb x).trans (by
    have h0 : (x 0).val < 1 := (x 0).isLt
    have h1 : (x 1).val < 1 := (x 1).isLt
    exact congrArg₂ (at2 K) (by omega) (by omega))

/-- A store of columns from `o` restricts an array given at its rows and columns. -/
theorem piece {M n : ℕ} {q : ℕ → ℕ → EReal} (o : ℕ) (inb : ∀ a, (![0, o] : Fin 2 → ℕ) a + (![M, 128] : Fin 2 → ℕ) a ≤ (⟨2, ![M, n]⟩ : Shape).size a)
    {v : (⟨2, ![M, 128]⟩ : Shape).Idx → EReal} (h : Rep v fun r c => q r (o + c)) (x : (Rect.unit (s := ⟨2, ![M, n]⟩) ![0, o] ![M, 128] inb).shape.Idx) :
    v x = (fun y : (⟨2, ![M, n]⟩ : Shape).Idx => q (y 0).val (y 1).val) ((Rect.unit (s := ⟨2, ![M, n]⟩) ![0, o] ![M, 128] inb).emb x) := by
  refine (h x).trans ?_
  show q (x 0).val (o + (x 1).val) = q (0 + 1 * (x 0).val) (o + 1 * (x 1).val)
  rw [Nat.zero_add, Nat.one_mul, Nat.one_mul]

/-- The projection of the rows of `X`, with the gains `G`, the weights `W` and their scales `E`. -/
def rows {M : ℕ} [NeZero M] (X : (⟨2, ![M, 4608]⟩ : Shape).Idx → EReal) (G : (⟨2, ![1, 4608]⟩ : Shape).Idx → EReal) (W : (⟨2, ![4608, 2048]⟩ : Shape).Idx → BitVec 8)
    (E : (⟨2, ![1, 2048]⟩ : Shape).Idx → EReal) (r c : ℕ) : EReal := proj (at2 X r) (at2 G 0) (at2 W) (at2 E 0) c

/-! The five arrays at a row and a column. -/

section
variable {M : ℕ} [NeZero M] (X : (⟨2, ![M, 4608]⟩ : Shape).Idx → EReal) (G : (⟨2, ![1, 4608]⟩ : Shape).Idx → EReal) (W : (⟨2, ![4608, 2048]⟩ : Shape).Idx → BitVec 8)
  (E : (⟨2, ![1, 2048]⟩ : Shape).Idx → EReal) (C S : (⟨2, ![M, 64]⟩ : Shape).Idx → EReal) (K : (⟨2, ![1, 4]⟩ : Shape).Idx → EReal) (r c : ℕ)

/-- The codes … -/
def codes : BitVec 8 := rowCode (at2 X r) (at2 G 0) c
/-- … their scales … -/
def scales : EReal := rowScale (at2 X r) (at2 G 0)
/-- … the queries … -/
def queries : EReal := query (rows X G W E r) (at2 C r) (at2 S r) c
/-- … the keys … -/
def keys : EReal := key (rows X G W E r) (at2 C r) (at2 S r) (at2 K 0) c
/-- … and the values. -/
def values : EReal := value (rows X G W E r) (at2 K 0) c
end

/-- A row read at any column is the row read within its width. -/
theorem at2_row {L N K : ℕ} [NeZero L] [NeZero N] [NeZero K] (A : (⟨2, ![L, K]⟩ : Shape).Idx → α) (B : (⟨2, ![N, K]⟩ : Shape).Idx → α) (o r : ℕ) (hr : r < L)
    (h : ∀ y : (⟨2, ![L, K]⟩ : Shape).Idx, A y = at2 B (o + (y 0).val) (y 1).val) : at2 A r = at2 B (o + r) := funext fun k => by
  refine (h _).trans ?_
  show at2 B (o + r % L) (k % K) = at2 B (o + r) k
  rw [Nat.mod_eq_of_lt hr]
  exact congrArg (fun z => B (ValueIdx.ix2 _ z)) (Fin.ext (Nat.mod_mod k K))

end Proj
end
-- ==== Proof.QkvTile.lean ====
module

public import proofs.«01_k».proof.Proof.Gen.QkvIdeal.Value
public import proofs.«01_k».proof.Proof.Proj
public import Idealize.ShloMosaic.Lib.Pipeline.CanonAppend

@[expose] public section

set_option maxRecDepth 16384

noncomputable section

/-! What one block of rows leaves in the kernel's five outputs. -/
namespace Cert.QkvIdeal.Tile

open scoped BigOperators
open Cert.QkvIdeal Cert.QkvIdeal.Gen Idealize.ShloMosaic Idealize.ShloMosaic.TcCoe Idealize.ShloMosaic.Tactic Idealize.SL.Sem
open Idealize.ShloMosaic.ValueIdx Blocks Norm Proj

variable (X : Vec Ideal S256x4608 .bf16) (G : Vec Ideal S1x4608 .f32) (W : Vec Ideal S4608x2048 .i8) (E : Vec Ideal S1x2048 .f32)

theorem normRep : Rep (k0_pay3 X G) fun r => normRow (at2 X r) (at2 G 0) :=
  rep_norm (M := 256) (by omega) (X := extf .f32 X bitsLt_bf16_f32) (f := at2 X) (rep_self X) (one_row G) _ _ _ _ _ _ _

theorem scaleRep : Rep (k0_pay4 X G) fun r _ => rowScale (at2 X r) (at2 G 0) := rep_scale (normRep X G) _ _ _ _

theorem stepRep : Rep (k0_pay5 X G) fun r c => step (normRow (at2 X r) (at2 G 0) c) (rowScale (at2 X r) (at2 G 0)) :=
  rep_step (M := 256) (by omega) (normRep X G) (scaleRep X G) _

theorem codeRep : Rep (k0_pay6 X G) fun r c => rowCode (at2 X r) (at2 G 0) c := fun y => congrArg (Ideal.fptosi 8) (stepRep X G y)

theorem leftRep : Rep (k0_pay7 X G) fun r k => (((rowCode (at2 X r) (at2 G 0) k).toInt : ℝ) : EReal) := fun y =>
  (stepRep X G y).trans (step_eq_code _ _)

theorem tileRep (T : ℕ) (V : Vec Ideal S4608x512 .i8) (e : Vec Ideal S1x512 .f32) (hV : Rep V fun k c => at2 W k (T + c)) (he : Rep e fun _ c => at2 E 0 (T + c)) :
    Rep (k0_pay10 (F := Ideal) (k0_pay4 X G) (k0_pay7 X G) V e) fun r c => rows X G W E r (T + c) :=
  rep_tile (M := 256) (N := 512) (by omega) (by omega) (leftRep X G) (scaleRep X G) hV he _ _ _

/-- A tile's columns cut out and rotated. -/
theorem ropeRep (C Sn : Vec Ideal S256x64 .f32) {p : ℕ → ℕ → EReal} {Q : FVec Ideal S256x512 .f32} (T o : ℕ) (hQ : Rep Q fun r c => p r (T + c))
    (hs : S256x512.Slices ![0, o] S256x128) :
    Rep (addf (F := Ideal) (mulf (extractStridedSlice S256x128 ![0, o] Q hs) (k0_pay8 C))
        (mulf (dynamicRotate 1 64#32 none (extractStridedSlice S256x128 ![0, o] Q hs) rotates_S256x128_d1) (k0_pay9 Sn)))
      fun r c => head (p r) (at2 C r) (at2 Sn r) (T + o) c :=
  rep_ropeRoll T o (rep_slice o hQ hs) (rep_cos (rep_self C) concatenates_S256x64_S256x64_S256x128_d1) (rep_sin (rep_self Sn) concatenates_S256x64_S256x64_S256x128_d1) _

/-- A load of the weights' columns from `T` … -/
theorem wLd (T : ℕ) (inb : ∀ a, (![0, T] : Fin 2 → ℕ) a + S4608x512.size a ≤ S4608x2048.size a) :
    Rep (View.ld (Val := Elt Ideal) (e' := .i8) W (Rect.unit (s := S4608x2048) ![0, T] S4608x512.size inb) : Vec Ideal S4608x512 .i8) fun k c => at2 W k (T + c) := fun y =>
  (ld2 (Val := Elt Ideal) (e := .i8) W 0 T _ inb y).trans (congrArg (fun k => at2 W k _) (Nat.zero_add _))

/-- … and of their scales. -/
theorem eLd (T : ℕ) (inb : ∀ a, (![0, T] : Fin 2 → ℕ) a + S1x512.size a ≤ S1x2048.size a) :
    Rep (View.ld (Val := Elt Ideal) (e' := .f32) E (Rect.unit (s := S1x2048) ![0, T] S1x512.size inb) : Vec Ideal S1x512 .f32) fun _ c => at2 E 0 (T + c) := fun y =>
  (ld2 (Val := Elt Ideal) (e := .f32) E 0 T _ inb y).trans (congrArg (fun k => at2 E k _) (by have : (y 0).val < 1 := (y 0).isLt; omega))

/-- The loads of whole blocks. -/
theorem xLd (inb : ∀ a, (![0, 0] : Fin 2 → ℕ) a + (![256, 4608] : Fin 2 → ℕ) a ≤ S256x4608.size a) :
    View.ld (Val := Elt Ideal) (e' := .bf16) X (Rect.unit (s := S256x4608) ![0, 0] ![256, 4608] inb) = X := View.ld_unit_zero zero2 _ _
theorem gLd (inb : ∀ a, (![0, 0] : Fin 2 → ℕ) a + (![1, 4608] : Fin 2 → ℕ) a ≤ S1x4608.size a) :
    View.ld (Val := Elt Ideal) (e' := .f32) G (Rect.unit (s := S1x4608) ![0, 0] ![1, 4608] inb) = G := View.ld_unit_zero zero2 _ _
theorem cLd (C : Vec Ideal S256x64 .f32) (inb : ∀ a, (![0, 0] : Fin 2 → ℕ) a + (![256, 64] : Fin 2 → ℕ) a ≤ S256x64.size a) :
    View.ld (Val := Elt Ideal) (e' := .f32) C (Rect.unit (s := S256x64) ![0, 0] ![256, 64] inb) = C := View.ld_unit_zero zero2 _ _

section
variable (c : Dev nD) (i : grid0.Coords) (arg1 : Memref sig .tc .smem S1x4 .f32) (harg1 : arg1.IsWhole) (arg2 : Memref sig .tc .smem S1x4 .f32) (harg2 : arg2.IsWhole) (arg3 : Memref sig .tc .vmem S256x4608 .bf16) (harg3 : arg3.IsWhole) (arg4 : Memref sig .tc .vmem S1x4608 .f32) (harg4 : arg4.IsWhole) (arg5 : Memref sig .tc .vmem S4608x2048 .i8) (harg5 : arg5.IsWhole) (arg6 : Memref sig .tc .vmem S1x2048 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x4608 .i8) (harg9 : arg9.IsWhole) (arg10 : Memref sig .tc .vmem S256x1 .f32) (harg10 : arg10.IsWhole) (arg11 : Memref sig .tc .vmem S256x1024 .bf16) (harg11 : arg11.IsWhole) (arg12 : Memref sig .tc .vmem S256x512 .fp8e4m3) (harg12 : arg12.IsWhole) (arg13 : Memref sig .tc .vmem S256x512 .fp8e4m3) (harg13 : arg13.IsWhole)
  (x0 x1 : Vec Ideal S1x4 .f32) (x2 : Vec Ideal S256x4608 .bf16) (x3 : Vec Ideal S1x4608 .f32) (x4 : Vec Ideal S4608x2048 .i8) (x5 : Vec Ideal S1x2048 .f32) (x6 x7 : Vec Ideal S256x64 .f32)

theorem out8 : out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7
    = (fun y => rowCode (at2 x2 (y 0).val) (at2 x3 0) (y 1).val : Vec Ideal S256x4608 .i8) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7)]
  have hcov := cover0_A_8 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7
  revert hcov
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [xLd, gLd, cLd]
  intro hcov
  exact (View.canon_unit_zero zero2 _ _).trans (funext fun y => codeRep x2 x3 y)

theorem out9 : out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7
    = (fun y => rowScale (at2 x2 (y 0).val) (at2 x3 0) : Vec Ideal S256x1 .f32) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7)]
  have hcov := cover0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7
  revert hcov
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [xLd, gLd, cLd]
  intro hcov
  exact (View.canon_unit_zero zero2 _ _).trans (funext fun y => scaleRep x2 x3 y)

theorem out10 : out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7
    = (fun y => query (rows x2 x3 x4 x5 (y 0).val) (at2 x6 (y 0).val) (at2 x7 (y 0).val) (y 1).val : Vec Ideal S256x1024 .bf16) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7)]
  have hcov := cover0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7
  revert hcov
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [xLd, gLd, cLd]
  intro hcov
  funext y
  refine View.canon_apply_of_pieces (fun y => (fun r => query (rows x2 x3 x4 x5 r) (at2 x6 r) (at2 x7 r)) (y 0).val (y 1).val) _ ?_ y (hcov y)
  intro p hp
  simp only [List.mem_cons, List.not_mem_nil, or_false] at hp
  have head := fun (T o h : ℕ) (hO : T + o = 128 * h) iw ie (hs : S256x512.Slices ![0, o] S256x128) inb x =>
    piece (M := 256) (n := 1024) (q := fun r => query (rows x2 x3 x4 x5 r) (at2 x6 r) (at2 x7 r)) (128 * h) inb (queryRep _ h hO (ropeRep x6 x7 T o (tileRep x2 x3 x4 x5 T _ _ (wLd x4 T iw) (eLd x5 T ie)) hs)) x
  have low := fun h => head 0 (128 * h) h (Nat.zero_add _) inb_S4608x2048_S4608x512_0_0 inb_S1x2048_S1x512_0_0
  have high := fun h => head 512 (128 * h) (4 + h) (Nat.mul_add 128 4 h).symm inb_S4608x2048_S4608x512_0_512 inb_S1x2048_S1x512_0_512
  rcases hp with rfl | rfl | rfl | rfl | rfl | rfl | rfl | rfl
  · exact high 3 slices_S256x512_o0_384_S256x128 inb_S256x1024_S256x128_0_896
  · exact high 2 slices_S256x512_o0_256_S256x128 inb_S256x1024_S256x128_0_768
  · exact high 1 slices_S256x512_o0_128_S256x128 inb_S256x1024_S256x128_0_640
  · exact high 0 slices_S256x512_o0_0_S256x128 inb_S256x1024_S256x128_0_512
  · exact low 3 slices_S256x512_o0_384_S256x128 inb_S256x1024_S256x128_0_384
  · exact low 2 slices_S256x512_o0_256_S256x128 inb_S256x1024_S256x128_0_256
  · exact low 1 slices_S256x512_o0_128_S256x128 inb_S256x1024_S256x128_0_128
  · exact low 0 slices_S256x512_o0_0_S256x128 inb_S256x1024_S256x128_0_0

theorem out11 : out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7
    = (fun y => key (rows x2 x3 x4 x5 (y 0).val) (at2 x6 (y 0).val) (at2 x7 (y 0).val) (at2 x0 0) (y 1).val : Vec Ideal S256x512 .fp8e4m3) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7)]
  have hcov := cover0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7
  revert hcov
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [xLd, gLd, cLd]
  intro hcov
  funext y
  refine View.canon_apply_of_pieces (fun y => (fun r => key (rows x2 x3 x4 x5 r) (at2 x6 r) (at2 x7 r) (at2 x0 0)) (y 0).val (y 1).val) _ ?_ y (hcov y)
  intro p hp
  simp only [List.mem_cons, List.not_mem_nil, or_false] at hp
  have head := fun (h : ℕ) (hs : S256x512.Slices ![0, 128 * h] S256x128) inb (D : FVec Ideal S256x128 .f32) (hD : Rep D fun _ _ => at2 x0 0 h) x =>
    piece (M := 256) (n := 512) (q := fun r => key (rows x2 x3 x4 x5 r) (at2 x6 r) (at2 x7 r) (at2 x0 0)) (128 * h) inb
      (keyRep (at2 x0 0) _ h rfl (ropeRep x6 x7 1024 (128 * h) (tileRep x2 x3 x4 x5 1024 _ _ (wLd x4 1024 inb_S4608x2048_S4608x512_0_1024) (eLd x5 1024 inb_S1x2048_S1x512_0_1024)) hs) hD) x
  rcases hp with rfl | rfl | rfl | rfl
  · exact head 3 slices_S256x512_o0_384_S256x128 inb_S256x512_S256x128_0_384 _ (fun _ => sLd x0 3 inb_S1x4_S1x1_0_3 _)
  · exact head 2 slices_S256x512_o0_256_S256x128 inb_S256x512_S256x128_0_256 _ (fun _ => sLd x0 2 inb_S1x4_S1x1_0_2 _)
  · exact head 1 slices_S256x512_o0_128_S256x128 inb_S256x512_S256x128_0_128 _ (fun _ => sLd x0 1 inb_S1x4_S1x1_0_1 _)
  · exact head 0 slices_S256x512_o0_0_S256x128 inb_S256x512_S256x128_0_0 _ (fun _ => sLd x0 0 inb_S1x4_S1x1_0_0 _)

theorem out12 : out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7
    = (fun y => value (rows x2 x3 x4 x5 (y 0).val) (at2 x1 0) (y 1).val : Vec Ideal S256x512 .fp8e4m3) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7)]
  have hcov := cover0_A_12 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7
  revert hcov
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [xLd, gLd, cLd]
  intro hcov
  funext y
  refine View.canon_apply_of_pieces (fun y => (fun r => value (rows x2 x3 x4 x5 r) (at2 x1 0)) (y 0).val (y 1).val) _ ?_ y (hcov y)
  intro p hp
  simp only [List.mem_cons, List.not_mem_nil, or_false] at hp
  have head := fun (h : ℕ) (hs : S256x512.Slices ![0, 128 * h] S256x128) inb (D : FVec Ideal S256x128 .f32) (hD : Rep D fun _ _ => at2 x1 0 h) x =>
    piece (M := 256) (n := 512) (q := fun r => value (rows x2 x3 x4 x5 r) (at2 x1 0)) (128 * h) inb
      (valueRep (at2 x1 0) _ h rfl (rep_slice (128 * h) (tileRep x2 x3 x4 x5 1536 _ _ (wLd x4 1536 inb_S4608x2048_S4608x512_0_1536) (eLd x5 1536 inb_S1x2048_S1x512_0_1536)) hs).shift hD) x
  rcases hp with rfl | rfl | rfl | rfl
  · exact head 3 slices_S256x512_o0_384_S256x128 inb_S256x512_S256x128_0_384 _ (fun _ => sLd x1 3 inb_S1x4_S1x1_0_3 _)
  · exact head 2 slices_S256x512_o0_256_S256x128 inb_S256x512_S256x128_0_256 _ (fun _ => sLd x1 2 inb_S1x4_S1x1_0_2 _)
  · exact head 1 slices_S256x512_o0_128_S256x128 inb_S256x512_S256x128_0_128 _ (fun _ => sLd x1 1 inb_S1x4_S1x1_0_1 _)
  · exact head 0 slices_S256x512_o0_0_S256x128 inb_S256x512_S256x128_0_0 _ (fun _ => sLd x1 0 inb_S1x4_S1x1_0_0 _)

end

end Cert.QkvIdeal.Tile
end
-- ==== Proof.QkvValue.lean ====
module

public import proofs.«01_k».proof.Proof.QkvTile
public import Idealize.ShloMosaic.Lib.Pipeline.ValueKit

@[expose] public section

set_option maxRecDepth 16384

noncomputable section

/-! The kernel's five arrays, 256 rows at a time. -/
namespace Cert.QkvIdeal.Tile

open Cert.QkvIdeal Cert.QkvIdeal.Gen Idealize.ShloMosaic Idealize.ShloMosaic.TcCoe Idealize.ShloMosaic.Tactic Idealize.SL.Sem
open Idealize.ShloMosaic.ValueIdx Blocks Norm Proj
open Idealize.ShloMosaic.Pipeline (Dat)

variable (m : (ℓ : Loc nD τ sig) → Buf (Elt Ideal) ℓ) (c : Dev nD)

/-- Five windows stay at their whole arrays … -/
theorem still : ∀ W : Fin 13, W.val ∈ [0, 1, 3, 4, 5] → ∀ (t : Fin grid0.N) a, (win0 W).index t a = 0 := by decide +kernel
/-- … and the others move down 256 rows a step. -/
theorem down : ∀ W : Fin 13, W.val ∉ [0, 1, 3, 4, 5] → ∀ (t : Fin grid0.N) a, (win0 W).index t a * (win0 W).size a = if a.val = 0 then 256 * t.val else 0 := by decide +kernel
theorem kinds : ∀ W : Fin 13, (win0 W).kind = .blocked := by decide +kernel

theorem emb_still (W : Fin 13) (hW : W.val ∈ [0, 1, 3, 4, 5]) (t : Fin grid0.N) (y) (a) : (((win0 W).rect t).emb y a : ℕ) = y a :=
  Pipeline.Window.rect_emb_val_of_index_zero (win0 W) t a (still W hW t a) y
theorem emb_down (W : Fin 13) (hW : W.val ∉ [0, 1, 3, 4, 5]) (t : Fin grid0.N) (y) (a) : (((win0 W).rect t).emb y a : ℕ) = (if a.val = 0 then 256 * t.val else 0) + y a :=
  (Pipeline.Window.rect_emb_val (win0 W) t y a (kinds W)).trans (congrArg (· + (y a : ℕ)) (down W hW t a))

/-! The blocks that stay … -/

theorem blk0 (t : Fin cfg0.N) : (iblk m c 0 t : Vec Ideal S1x4 .f32) = V m c main_v2 :=
  funext fun y => congrArg (V m c main_v2) (funext fun a => Fin.ext (emb_still 0 (by decide) t y a))
theorem blk1 (t : Fin cfg0.N) : (iblk m c 1 t : Vec Ideal S1x4 .f32) = V m c main_v3 :=
  funext fun y => congrArg (V m c main_v3) (funext fun a => Fin.ext (emb_still 1 (by decide) t y a))
theorem blk3 (t : Fin cfg0.N) : (iblk m c 3 t : Vec Ideal S1x4608 .f32) = V m c main_v0 :=
  funext fun y => congrArg (V m c main_v0) (funext fun a => Fin.ext (emb_still 3 (by decide) t y a))
theorem blk4 (t : Fin cfg0.N) : (iblk m c 4 t : Vec Ideal S4608x2048 .i8) = V m c main_arg4 :=
  funext fun y => congrArg (V m c main_arg4) (funext fun a => Fin.ext (emb_still 4 (by decide) t y a))
theorem blk5 (t : Fin cfg0.N) : (iblk m c 5 t : Vec Ideal S1x2048 .f32) = V m c main_v1 :=
  funext fun y => congrArg (V m c main_v1) (funext fun a => Fin.ext (emb_still 5 (by decide) t y a))

/-! … and a row of the blocks that move. -/

theorem row2 (t : Fin cfg0.N) (r : ℕ) (hr : r < 256) : at2 (iblk m c 2 t : Vec Ideal S256x4608 .bf16) r = at2 (V m c main_arg0 : Vec Ideal S768x4608 .bf16) (256 * t.val + r) :=
  at2_row _ _ _ _ hr fun y => at2_of (V m c main_arg0 : Vec Ideal S768x4608 .bf16) ((win0_2.rect t).emb y) _ _
    (emb_down 2 (by decide) t y ⟨0, by decide⟩) ((emb_down 2 (by decide) t y ⟨1, by decide⟩).trans (Nat.zero_add _))
theorem row6 (t : Fin cfg0.N) (r : ℕ) (hr : r < 256) : at2 (iblk m c 6 t : Vec Ideal S256x64 .f32) r = at2 (V m c main_arg1 : Vec Ideal S768x64 .f32) (256 * t.val + r) :=
  at2_row _ _ _ _ hr fun y => at2_of (V m c main_arg1 : Vec Ideal S768x64 .f32) ((win0_6.rect t).emb y) _ _
    (emb_down 6 (by decide) t y ⟨0, by decide⟩) ((emb_down 6 (by decide) t y ⟨1, by decide⟩).trans (Nat.zero_add _))
theorem row7 (t : Fin cfg0.N) (r : ℕ) (hr : r < 256) : at2 (iblk m c 7 t : Vec Ideal S256x64 .f32) r = at2 (V m c main_arg2 : Vec Ideal S768x64 .f32) (256 * t.val + r) :=
  at2_row _ _ _ _ hr fun y => at2_of (V m c main_arg2 : Vec Ideal S768x64 .f32) ((win0_7.rect t).emb y) _ _
    (emb_down 7 (by decide) t y ⟨0, by decide⟩) ((emb_down 7 (by decide) t y ⟨1, by decide⟩).trans (Nat.zero_add _))

/-- A row of the projection. -/
theorem rowsOf (t : Fin cfg0.N) (r : ℕ) (hr : r < 256) :
    rows (iblk m c 2 t : Vec Ideal S256x4608 .bf16) (iblk m c 3 t : Vec Ideal S1x4608 .f32) (iblk m c 4 t : Vec Ideal S4608x2048 .i8) (iblk m c 5 t : Vec Ideal S1x2048 .f32) r
      = rows (V m c main_arg0) (V m c main_v0) (V m c main_arg4) (V m c main_v1) (256 * t.val + r) := by
  unfold rows
  rw [row2 m c t r hr, blk3, blk4, blk5]

/-! What a point leaves of the five arrays, and the arrays. -/

theorem tile8 (t : Fin cfg0.N) : (dats m 0 c).after 8 t
    = (fun y => codes (V m c main_arg0) (V m c main_v0) (256 * t.val + (y 0).val) (y 1).val : Vec Ideal S256x4608 .i8) := by
  rw [after0_8]
  simp only [outsAt0]
  refine (out8 ..).trans (funext fun y => ?_)
  rw [row2 m c t _ (y 0).isLt, blk3, codes]

theorem tile9 (t : Fin cfg0.N) : (dats m 0 c).after 9 t
    = (fun y => scales (V m c main_arg0) (V m c main_v0) (256 * t.val + (y 0).val) : Vec Ideal S256x1 .f32) := by
  rw [after0_9]
  simp only [outsAt0]
  refine (out9 ..).trans (funext fun y => ?_)
  rw [row2 m c t _ (y 0).isLt, blk3, scales]

theorem tile10 (t : Fin cfg0.N) : (dats m 0 c).after 10 t
    = (fun y => queries (V m c main_arg0) (V m c main_v0) (V m c main_arg4) (V m c main_v1) (V m c main_arg1) (V m c main_arg2) (256 * t.val + (y 0).val) (y 1).val : Vec Ideal S256x1024 .bf16) := by
  rw [after0_10]
  simp only [outsAt0]
  refine (out10 ..).trans (funext fun y => ?_)
  rw [rowsOf m c t _ (y 0).isLt, row6 m c t _ (y 0).isLt, row7 m c t _ (y 0).isLt, queries]

theorem tile11 (t : Fin cfg0.N) : (dats m 0 c).after 11 t
    = (fun y => keys (V m c main_arg0) (V m c main_v0) (V m c main_arg4) (V m c main_v1) (V m c main_arg1) (V m c main_arg2) (V m c main_v2) (256 * t.val + (y 0).val) (y 1).val : Vec Ideal S256x512 .fp8e4m3) := by
  rw [after0_11]
  simp only [outsAt0]
  refine (out11 ..).trans (funext fun y => ?_)
  rw [rowsOf m c t _ (y 0).isLt, row6 m c t _ (y 0).isLt, row7 m c t _ (y 0).isLt, blk0, keys]

theorem tile12 (t : Fin cfg0.N) : (dats m 0 c).after 12 t
    = (fun y => values (V m c main_arg0) (V m c main_v0) (V m c main_arg4) (V m c main_v1) (V m c main_v3) (256 * t.val + (y 0).val) (y 1).val : Vec Ideal S256x512 .fp8e4m3) := by
  rw [after0_12]
  simp only [outsAt0]
  refine (out12 ..).trans (funext fun y => ?_)
  rw [rowsOf m c t _ (y 0).isLt, blk1, values]

/-- The codes … -/
theorem array8 : (dats m 0 c).arrAt 8 cfg0.N
    = (fun y => codes (V m c main_arg0) (V m c main_v0) (y 0).val (y 1).val : Vec Ideal S768x4608 .i8) :=
  (dats m 0 c).arrAt_eq_of_covers 8 _ (by decide +kernel) fun t _ y => (congrFun (tile8 m c t) y).trans
    (congrArg₂ (codes (V m c main_arg0) (V m c main_v0)) (emb_down 8 (by decide) t y ⟨0, by decide⟩) ((emb_down 8 (by decide) t y ⟨1, by decide⟩).trans (Nat.zero_add _))).symm

/-- … their scales … -/
theorem array9 : (dats m 0 c).arrAt 9 cfg0.N
    = (fun y => scales (V m c main_arg0) (V m c main_v0) (y 0).val : Vec Ideal S768x1 .f32) :=
  (dats m 0 c).arrAt_eq_of_covers 9 _ (by decide +kernel) fun t _ y => (congrFun (tile9 m c t) y).trans
    (congrArg (scales (V m c main_arg0) (V m c main_v0)) (emb_down 9 (by decide) t y ⟨0, by decide⟩)).symm

/-- … the queries … -/
theorem array10 : (dats m 0 c).arrAt 10 cfg0.N
    = (fun y => queries (V m c main_arg0) (V m c main_v0) (V m c main_arg4) (V m c main_v1) (V m c main_arg1) (V m c main_arg2) (y 0).val (y 1).val : Vec Ideal S768x1024 .bf16) :=
  (dats m 0 c).arrAt_eq_of_covers 10 _ (by decide +kernel) fun t _ y => (congrFun (tile10 m c t) y).trans
    (congrArg₂ (queries (V m c main_arg0) (V m c main_v0) (V m c main_arg4) (V m c main_v1) (V m c main_arg1) (V m c main_arg2)) (emb_down 10 (by decide) t y ⟨0, by decide⟩) ((emb_down 10 (by decide) t y ⟨1, by decide⟩).trans (Nat.zero_add _))).symm

/-- … the keys … -/
theorem array11 : (dats m 0 c).arrAt 11 cfg0.N
    = (fun y => keys (V m c main_arg0) (V m c main_v0) (V m c main_arg4) (V m c main_v1) (V m c main_arg1) (V m c main_arg2) (V m c main_v2) (y 0).val (y 1).val : Vec Ideal S768x512 .fp8e4m3) :=
  (dats m 0 c).arrAt_eq_of_covers 11 _ (by decide +kernel) fun t _ y => (congrFun (tile11 m c t) y).trans
    (congrArg₂ (keys (V m c main_arg0) (V m c main_v0) (V m c main_arg4) (V m c main_v1) (V m c main_arg1) (V m c main_arg2) (V m c main_v2)) (emb_down 11 (by decide) t y ⟨0, by decide⟩) ((emb_down 11 (by decide) t y ⟨1, by decide⟩).trans (Nat.zero_add _))).symm

/-- … and the values. -/
theorem array12 : (dats m 0 c).arrAt 12 cfg0.N
    = (fun y => values (V m c main_arg0) (V m c main_v0) (V m c main_arg4) (V m c main_v1) (V m c main_v3) (y 0).val (y 1).val : Vec Ideal S768x512 .fp8e4m3) :=
  (dats m 0 c).arrAt_eq_of_covers 12 _ (by decide +kernel) fun t _ y => (congrFun (tile12 m c t) y).trans
    (congrArg₂ (values (V m c main_arg0) (V m c main_v0) (V m c main_arg4) (V m c main_v1) (V m c main_v3)) (emb_down 12 (by decide) t y ⟨0, by decide⟩) ((emb_down 12 (by decide) t y ⟨1, by decide⟩).trans (Nat.zero_add _))).symm

end Cert.QkvIdeal.Tile
end
-- ==== Proof.QkvRefTile.lean ====
module

public import proofs.«01_k».proof.Proof.Gen.QkvRefIdeal.Value
public import proofs.«01_k».proof.Proof.Proj
public import Idealize.ShloMosaic.Lib.Pipeline.CanonAppend
public import Idealize.ShloMosaic.Lib.Pipeline.ValueKit

@[expose] public section

set_option maxRecDepth 16384

noncomputable section

/-! The reference's five arrays, from all rows at once. -/
namespace Cert.QkvRefIdeal.Tile

open scoped BigOperators
open Cert.QkvRefIdeal Cert.QkvRefIdeal.Gen Idealize.ShloMosaic Idealize.ShloMosaic.TcCoe Idealize.ShloMosaic.Tactic Idealize.SL.Sem
open Idealize.ShloMosaic.ValueIdx Blocks Norm Proj

variable (x0 : Vec Ideal S768x4608 .bf16) (x1 x2 : Vec Ideal S768x64 .f32) (x3 : Vec Ideal S1x4608 .f32) (x4 : Vec Ideal S4608x2048 .i8) (x5 : Vec Ideal S1x2048 .f32) (x6 x7 : Vec Ideal S1x4 .f32)

theorem normRep : Rep (k0_pay3 x0 x3) fun r => normRow (at2 x0 r) (at2 x3 0) :=
  rep_norm (M := 768) (by omega) (X := extf .f32 x0 bitsLt_bf16_f32) (f := at2 x0) (rep_self x0) (one_row x3) _ _ _ _ _ _ _

theorem scaleRep : Rep (k0_pay4 x0 x3) fun r _ => rowScale (at2 x0 r) (at2 x3 0) := rep_scale (normRep x0 x3) _ _ _ _

theorem codeRep : Rep (k0_pay5 x0 x3) fun r c => rowCode (at2 x0 r) (at2 x3 0) c := fun y =>
  congrArg (Ideal.fptosi 8) (rep_step (M := 768) (by omega) (normRep x0 x3) (scaleRep x0 x3) broadcasts_S768x1_S768x4608 y)

theorem zero_col {N : ℕ} {α : Type} {V : (⟨2, ![N, 2048]⟩ : Shape).Idx → α} {p : ℕ → ℕ → α} (h : Rep V p) : Rep V fun r c => p r (0 + c) :=
  fun y => (h y).trans (congrArg (p _) (Nat.zero_add _).symm)

theorem projRep : Rep (k0_pay6 (k0_pay4 x0 x3) (k0_pay5 x0 x3) x4 x5) (rows x0 x3 x4 x5) := fun y =>
  (rep_tile (M := 768) (N := 2048) (T := 0) (by omega) (by omega) (L := sitofp .bf16 (k0_pay5 x0 x3)) (f := at2 x0) (g := at2 x3 0)
    (fun y => congrArg (fun z : BitVec 8 => (((z.toInt : ℝ) : EReal))) (codeRep x0 x3 y)) (scaleRep x0 x3)
    (zero_col (rep_self x4)) (zero_col (one_row x5)) broadcasts_S768x1_S768x2048 shapeCasts_S1x2048_S1x2048 broadcasts_S1x2048_S768x2048 y).trans
    (congrArg (rows x0 x3 x4 x5 _) (Nat.zero_add _))

/-- A head of the projection, rotated. -/
theorem ropeRep {Q : FVec Ideal S768x2048 .f32} {p : ℕ → ℕ → EReal} (hQ : Rep Q p) (o : ℕ) (hs : S768x2048.Slices ![0, o] S768x128) :
    Rep (concatenate S768x128 1 [
        ⟨S768x64, subf (F := Ideal) (mulf (extractStridedSlice S768x64 ![0, 0] (extractStridedSlice S768x128 ![0, o] Q hs) slices_S768x128_o0_0_S768x64) x1)
          (mulf (extractStridedSlice S768x64 ![0, 64] (extractStridedSlice S768x128 ![0, o] Q hs) slices_S768x128_o0_64_S768x64) x2)⟩,
        ⟨S768x64, addf (F := Ideal) (mulf (extractStridedSlice S768x64 ![0, 64] (extractStridedSlice S768x128 ![0, o] Q hs) slices_S768x128_o0_64_S768x64) x1)
          (mulf (extractStridedSlice S768x64 ![0, 0] (extractStridedSlice S768x128 ![0, o] Q hs) slices_S768x128_o0_0_S768x64) x2)⟩] concatenates_S768x64_S768x64_S768x128_d1)
      fun r c => head (p r) (at2 x1 r) (at2 x2 r) o c :=
  rep_ropePair o (rep_slice o hQ hs) (rep_self x1) (rep_self x2) _ _ _

/-- A head's scale, repeated. -/
theorem spread {s : ℕ → EReal} (v : FVec Ideal S1x1 .f32) (h : ℕ) (hv : ∀ x, v x = s h) :
    Rep (broadcastTo S768x128 (shapeCast S1x1 v shapeCasts_S1x1_S1x1) broadcasts_S1x1_S768x128) fun _ _ => s h := fun y =>
  (broadcastTo_apply _ broadcasts_S1x1_S768x128 y (ValueIdx.ix2 ⟨0, Nat.one_pos⟩ ⟨0, Nat.one_pos⟩) fun a => by
    match a with
    | ⟨0, _⟩ => rfl
    | ⟨1, _⟩ => rfl).trans ((congrFun (shapeCast_self (s := S1x1) v _) _).trans (hv _))

/-- The loads of whole arrays. -/
theorem xLd : View.ld (Val := Elt Ideal) (e' := .bf16) x0 r0_0 = x0 := View.ld_unit_zero zero2 _ _
theorem gLd : View.ld (Val := Elt Ideal) (e' := .f32) x3 r0_1 = x3 := View.ld_unit_zero zero2 _ _
theorem wLd : View.ld (Val := Elt Ideal) (e' := .i8) x4 r0_3 = x4 := View.ld_unit_zero zero2 _ _
theorem eLd : View.ld (Val := Elt Ideal) (e' := .f32) x5 r0_4 = x5 := View.ld_unit_zero zero2 _ _
theorem cLd : View.ld (Val := Elt Ideal) (e' := .f32) x1 r0_5 = x1 := View.ld_unit_zero zero2 _ _

theorem out8 : out0_8 x0 x1 x2 x3 x4 x5 x6 x7 = (fun y => rowCode (at2 x0 (y 0).val) (at2 x3 0) (y 1).val : Vec Ideal S768x4608 .i8) := by
  unfold out0_8
  rw [xLd, gLd]
  exact (View.canon_unit_zero zero2 _ _).trans (funext fun y => codeRep x0 x3 y)

theorem out9 : out0_9 x0 x1 x2 x3 x4 x5 x6 x7 = (fun y => rowScale (at2 x0 (y 0).val) (at2 x3 0) : Vec Ideal S768x1 .f32) := by
  unfold out0_9
  rw [xLd, gLd]
  exact (View.canon_unit_zero zero2 _ _).trans (funext fun y => scaleRep x0 x3 y)

theorem out10 : out0_10 x0 x1 x2 x3 x4 x5 x6 x7 = (fun y => query (rows x0 x3 x4 x5 (y 0).val) (at2 x1 (y 0).val) (at2 x2 (y 0).val) (y 1).val : Vec Ideal S768x1024 .bf16) := by
  unfold_out out0_10
  simp only [xLd, gLd, wLd, eLd, cLd]
  funext y
  refine View.canon_apply_of_pieces (fun y => query (rows x0 x3 x4 x5 (y 0).val) (at2 x1 (y 0).val) (at2 x2 (y 0).val) (y 1).val) _ ?_ y (cover0_10 (F := Ideal) _ _ _ _ _ _ _ _ y)
  intro p hp
  simp only [List.mem_cons, List.not_mem_nil, or_false] at hp
  have head := fun (h : ℕ) inb (hs : S768x2048.Slices ![0, 128 * h] S768x128) x => piece (M := 768) (n := 1024) (q := fun r => query (rows x0 x3 x4 x5 r) (at2 x1 r) (at2 x2 r)) (128 * h) inb (queryRep _ h rfl (ropeRep x1 x2 (projRep x0 x3 x4 x5) (128 * h) hs)) x
  rcases hp with rfl | rfl | rfl | rfl | rfl | rfl | rfl | rfl
  · exact head 7 inb_S768x1024_S768x128_0_896 slices_S768x2048_o0_896_S768x128
  · exact head 6 inb_S768x1024_S768x128_0_768 slices_S768x2048_o0_768_S768x128
  · exact head 5 inb_S768x1024_S768x128_0_640 slices_S768x2048_o0_640_S768x128
  · exact head 4 inb_S768x1024_S768x128_0_512 slices_S768x2048_o0_512_S768x128
  · exact head 3 inb_S768x1024_S768x128_0_384 slices_S768x2048_o0_384_S768x128
  · exact head 2 inb_S768x1024_S768x128_0_256 slices_S768x2048_o0_256_S768x128
  · exact head 1 inb_S768x1024_S768x128_0_128 slices_S768x2048_o0_128_S768x128
  · exact head 0 inb_S768x1024_S768x128_0_0 slices_S768x2048_o0_0_S768x128

theorem out11 : out0_11 x0 x1 x2 x3 x4 x5 x6 x7 = (fun y => key (rows x0 x3 x4 x5 (y 0).val) (at2 x1 (y 0).val) (at2 x2 (y 0).val) (at2 x6 0) (y 1).val : Vec Ideal S768x512 .fp8e4m3) := by
  unfold_out out0_11
  simp only [xLd, gLd, wLd, eLd, cLd]
  funext y
  refine View.canon_apply_of_pieces (fun y => key (rows x0 x3 x4 x5 (y 0).val) (at2 x1 (y 0).val) (at2 x2 (y 0).val) (at2 x6 0) (y 1).val) _ ?_ y (cover0_11 (F := Ideal) _ _ _ _ y)
  intro p hp
  simp only [List.mem_cons, List.not_mem_nil, or_false] at hp
  have head := fun (h : ℕ) inb (hs : S768x2048.Slices ![0, 1024 + 128 * h] S768x128) ks x => piece (M := 768) (n := 512) (q := fun r => key (rows x0 x3 x4 x5 r) (at2 x1 r) (at2 x2 r) (at2 x6 0)) (128 * h) inb (keyRep (at2 x6 0) _ h rfl (ropeRep x1 x2 (projRep x0 x3 x4 x5) (1024 + 128 * h) hs) (spread _ h (sLd x6 h ks))) x
  rcases hp with rfl | rfl | rfl | rfl
  · exact head 3 inb_S768x512_S768x128_0_384 slices_S768x2048_o0_1408_S768x128 inb_S1x4_S1x1_0_3
  · exact head 2 inb_S768x512_S768x128_0_256 slices_S768x2048_o0_1280_S768x128 inb_S1x4_S1x1_0_2
  · exact head 1 inb_S768x512_S768x128_0_128 slices_S768x2048_o0_1152_S768x128 inb_S1x4_S1x1_0_1
  · exact head 0 inb_S768x512_S768x128_0_0 slices_S768x2048_o0_1024_S768x128 inb_S1x4_S1x1_0_0

theorem out12 : out0_12 x0 x1 x2 x3 x4 x5 x6 x7 = (fun y => value (rows x0 x3 x4 x5 (y 0).val) (at2 x7 0) (y 1).val : Vec Ideal S768x512 .fp8e4m3) := by
  unfold_out out0_12
  simp only [xLd, gLd, wLd, eLd]
  funext y
  refine View.canon_apply_of_pieces (fun y => value (rows x0 x3 x4 x5 (y 0).val) (at2 x7 0) (y 1).val) _ ?_ y (cover0_12 (F := Ideal) _ _ _ _ y)
  intro p hp
  simp only [List.mem_cons, List.not_mem_nil, or_false] at hp
  have head := fun (h : ℕ) inb (hs : S768x2048.Slices ![0, 1536 + 128 * h] S768x128) ks x => piece (M := 768) (n := 512) (q := fun r => value (rows x0 x3 x4 x5 r) (at2 x7 0)) (128 * h) inb (valueRep (at2 x7 0) _ h rfl (rep_slice (1536 + 128 * h) (projRep x0 x3 x4 x5) hs) (spread _ h (sLd x7 h ks))) x
  rcases hp with rfl | rfl | rfl | rfl
  · exact head 3 inb_S768x512_S768x128_0_384 slices_S768x2048_o0_1920_S768x128 inb_S1x4_S1x1_0_3
  · exact head 2 inb_S768x512_S768x128_0_256 slices_S768x2048_o0_1792_S768x128 inb_S1x4_S1x1_0_2
  · exact head 1 inb_S768x512_S768x128_0_128 slices_S768x2048_o0_1664_S768x128 inb_S1x4_S1x1_0_1
  · exact head 0 inb_S768x512_S768x128_0_0 slices_S768x2048_o0_1536_S768x128 inb_S1x4_S1x1_0_0

end Cert.QkvRefIdeal.Tile
end
-- ==== Proof.QkvRefValue.lean ====
module

public import proofs.«01_k».proof.Proof.QkvRefTile
public import Idealize.ShloMosaic.Lib.Pipeline.ValueKit

@[expose] public section

set_option maxRecDepth 16384

noncomputable section

/-! The reference's five arrays, in the program's own memory. -/
namespace Cert.QkvRefIdeal.Tile

open Cert.QkvRefIdeal Cert.QkvRefIdeal.Gen Idealize.ShloMosaic Idealize.ShloMosaic.TcCoe Idealize.ShloMosaic.Tactic Idealize.SL.Sem
open Idealize.ShloMosaic.ValueIdx Blocks Norm Proj
open Idealize.ShloMosaic.Pipeline (Dat)

variable (m : (ℓ : Loc nD τ sig) → Buf (Elt Ideal) ℓ) (c : Dev nD)

/-- Every window's block is its whole array. -/
theorem idx : ∀ (W : Fin 13) (t : Fin grid0.N) a, (win0 W).index t a = 0 := by decide +kernel
theorem emb (W : Fin 13) (t : Fin grid0.N) (y) (a) : (((win0 W).rect t).emb y a : ℕ) = y a :=
  Pipeline.Window.rect_emb_val_of_index_zero (win0 W) t a (idx W t a) y

theorem blk0 (t : Fin cfg0.N) : (iblk m c 0 t : Vec Ideal S768x4608 .bf16) = V m c main_arg0 :=
  funext fun y => congrArg (V m c main_arg0) (funext fun a => Fin.ext (emb 0 t y a))
theorem blk1 (t : Fin cfg0.N) : (iblk m c 1 t : Vec Ideal S768x64 .f32) = V m c main_arg1 :=
  funext fun y => congrArg (V m c main_arg1) (funext fun a => Fin.ext (emb 1 t y a))
theorem blk2 (t : Fin cfg0.N) : (iblk m c 2 t : Vec Ideal S768x64 .f32) = V m c main_arg2 :=
  funext fun y => congrArg (V m c main_arg2) (funext fun a => Fin.ext (emb 2 t y a))
theorem blk3 (t : Fin cfg0.N) : (iblk m c 3 t : Vec Ideal S1x4608 .f32) = V m c main_v0 :=
  funext fun y => congrArg (V m c main_v0) (funext fun a => Fin.ext (emb 3 t y a))
theorem blk4 (t : Fin cfg0.N) : (iblk m c 4 t : Vec Ideal S4608x2048 .i8) = V m c main_arg4 :=
  funext fun y => congrArg (V m c main_arg4) (funext fun a => Fin.ext (emb 4 t y a))
theorem blk5 (t : Fin cfg0.N) : (iblk m c 5 t : Vec Ideal S1x2048 .f32) = V m c main_v1 :=
  funext fun y => congrArg (V m c main_v1) (funext fun a => Fin.ext (emb 5 t y a))
theorem blk6 (t : Fin cfg0.N) : (iblk m c 6 t : Vec Ideal S1x4 .f32) = V m c main_v2 :=
  funext fun y => congrArg (V m c main_v2) (funext fun a => Fin.ext (emb 6 t y a))
theorem blk7 (t : Fin cfg0.N) : (iblk m c 7 t : Vec Ideal S1x4 .f32) = V m c main_v3 :=
  funext fun y => congrArg (V m c main_v3) (funext fun a => Fin.ext (emb 7 t y a))

/-- So what is computed from the blocks is computed from the arrays. -/
theorem blocks {β : Type} (f : Vec Ideal S768x4608 .bf16 → Vec Ideal S768x64 .f32 → Vec Ideal S768x64 .f32 → Vec Ideal S1x4608 .f32 → Vec Ideal S4608x2048 .i8 →
    Vec Ideal S1x2048 .f32 → Vec Ideal S1x4 .f32 → Vec Ideal S1x4 .f32 → β) (t : Fin cfg0.N) :
    f (iblk m c 0 t) (iblk m c 1 t) (iblk m c 2 t) (iblk m c 3 t) (iblk m c 4 t) (iblk m c 5 t) (iblk m c 6 t) (iblk m c 7 t)
      = f (V m c main_arg0) (V m c main_arg1) (V m c main_arg2) (V m c main_v0) (V m c main_arg4) (V m c main_v1) (V m c main_v2) (V m c main_v3) := by
  rw [blk0, blk1, blk2, blk3, blk4, blk5, blk6, blk7]

/-- The codes … -/
theorem array8 : (dats m 0 c).arrAt 8 cfg0.N
    = (fun y => codes (V m c main_arg0) (V m c main_v0) (y 0).val (y 1).val : Vec Ideal S768x4608 .i8) :=
  (dats m 0 c).arrAt_eq_of_covers 8 _ (by decide +kernel) fun t _ y =>
    (congrFun (((after0_8 m c t).trans (blocks m c out0_8 t)).trans (out8 _ _ _ _ _ _ _ _)) y).trans
      (congrArg₂ (codes (V m c main_arg0) (V m c main_v0)) (emb 8 t y ⟨0, by decide⟩) (emb 8 t y ⟨1, by decide⟩)).symm

/-- … their scales … -/
theorem array9 : (dats m 0 c).arrAt 9 cfg0.N
    = (fun y => scales (V m c main_arg0) (V m c main_v0) (y 0).val : Vec Ideal S768x1 .f32) :=
  (dats m 0 c).arrAt_eq_of_covers 9 _ (by decide +kernel) fun t _ y =>
    (congrFun (((after0_9 m c t).trans (blocks m c out0_9 t)).trans (out9 _ _ _ _ _ _ _ _)) y).trans
      (congrArg (scales (V m c main_arg0) (V m c main_v0)) (emb 9 t y ⟨0, by decide⟩)).symm

/-- … the queries … -/
theorem array10 : (dats m 0 c).arrAt 10 cfg0.N
    = (fun y => queries (V m c main_arg0) (V m c main_v0) (V m c main_arg4) (V m c main_v1) (V m c main_arg1) (V m c main_arg2) (y 0).val (y 1).val : Vec Ideal S768x1024 .bf16) :=
  (dats m 0 c).arrAt_eq_of_covers 10 _ (by decide +kernel) fun t _ y =>
    (congrFun (((after0_10 m c t).trans (blocks m c out0_10 t)).trans (out10 _ _ _ _ _ _ _ _)) y).trans
      (congrArg₂ (queries (V m c main_arg0) (V m c main_v0) (V m c main_arg4) (V m c main_v1) (V m c main_arg1) (V m c main_arg2)) (emb 10 t y ⟨0, by decide⟩) (emb 10 t y ⟨1, by decide⟩)).symm

/-- … the keys … -/
theorem array11 : (dats m 0 c).arrAt 11 cfg0.N
    = (fun y => keys (V m c main_arg0) (V m c main_v0) (V m c main_arg4) (V m c main_v1) (V m c main_arg1) (V m c main_arg2) (V m c main_v2) (y 0).val (y 1).val : Vec Ideal S768x512 .fp8e4m3) :=
  (dats m 0 c).arrAt_eq_of_covers 11 _ (by decide +kernel) fun t _ y =>
    (congrFun (((after0_11 m c t).trans (blocks m c out0_11 t)).trans (out11 _ _ _ _ _ _ _ _)) y).trans
      (congrArg₂ (keys (V m c main_arg0) (V m c main_v0) (V m c main_arg4) (V m c main_v1) (V m c main_arg1) (V m c main_arg2) (V m c main_v2)) (emb 11 t y ⟨0, by decide⟩) (emb 11 t y ⟨1, by decide⟩)).symm

/-- … and the values. -/
theorem array12 : (dats m 0 c).arrAt 12 cfg0.N
    = (fun y => values (V m c main_arg0) (V m c main_v0) (V m c main_arg4) (V m c main_v1) (V m c main_v3) (y 0).val (y 1).val : Vec Ideal S768x512 .fp8e4m3) :=
  (dats m 0 c).arrAt_eq_of_covers 12 _ (by decide +kernel) fun t _ y =>
    (congrFun (((after0_12 m c t).trans (blocks m c out0_12 t)).trans (out12 _ _ _ _ _ _ _ _)) y).trans
      (congrArg₂ (values (V m c main_arg0) (V m c main_v0) (V m c main_arg4) (V m c main_v1) (V m c main_v3)) (emb 12 t y ⟨0, by decide⟩) (emb 12 t y ⟨1, by decide⟩)).symm

end Cert.QkvRefIdeal.Tile
end
-- ==== Proof.QkvClaim.lean ====
module

public import proofs.«01_k».proof.Defs
public import proofs.«01_k».proof.Proof.QkvValue
public import proofs.«01_k».proof.Proof.QkvRefValue

@[expose] public section

set_option maxRecDepth 16384

noncomputable section

/-! The normalised rows' codes and scales and the rotated, scaled heads: the kernel's arrays are the reference's. -/
namespace Cert.QkvClaim

open Idealize.ShloMosaic Idealize.ShloMosaic.TcCoe Idealize.SL.Sem

/-- The reshaped arguments of the kernel. -/
theorem reshaped (m : (ℓ : Loc Cert.QkvIdeal.nD Cert.QkvIdeal.τ Cert.QkvIdeal.sig) → Buf (Elt Ideal) ℓ) (c : Dev Cert.QkvIdeal.nD) :
    (Cert.QkvIdeal.Gen.V m c Cert.QkvIdeal.main_v0 : Vec Ideal Cert.QkvIdeal.S1x4608 .f32) = shapeCast Cert.QkvIdeal.S1x4608 (m ((c : Thread Cert.QkvIdeal.nD Cert.QkvIdeal.τ).loc Cert.QkvIdeal.main_arg3) : Vec Ideal Cert.QkvIdeal.S4608 .f32) Cert.QkvIdeal.Gen.shapeCasts_S4608_S1x4608
    ∧ (Cert.QkvIdeal.Gen.V m c Cert.QkvIdeal.main_v1 : Vec Ideal Cert.QkvIdeal.S1x2048 .f32) = shapeCast Cert.QkvIdeal.S1x2048 (m ((c : Thread Cert.QkvIdeal.nD Cert.QkvIdeal.τ).loc Cert.QkvIdeal.main_arg5) : Vec Ideal Cert.QkvIdeal.S2048 .f32) Cert.QkvIdeal.Gen.shapeCasts_S2048_S1x2048
    ∧ (Cert.QkvIdeal.Gen.V m c Cert.QkvIdeal.main_v2 : Vec Ideal Cert.QkvIdeal.S1x4 .f32) = shapeCast Cert.QkvIdeal.S1x4 (m ((c : Thread Cert.QkvIdeal.nD Cert.QkvIdeal.τ).loc Cert.QkvIdeal.main_arg6) : Vec Ideal Cert.QkvIdeal.S4 .f32) Cert.QkvIdeal.Gen.shapeCasts_S4_S1x4
    ∧ (Cert.QkvIdeal.Gen.V m c Cert.QkvIdeal.main_v3 : Vec Ideal Cert.QkvIdeal.S1x4 .f32) = shapeCast Cert.QkvIdeal.S1x4 (m ((c : Thread Cert.QkvIdeal.nD Cert.QkvIdeal.τ).loc Cert.QkvIdeal.main_arg7) : Vec Ideal Cert.QkvIdeal.S4 .f32) Cert.QkvIdeal.Gen.shapeCasts_S4_S1x4 := by
  refine ⟨?_, ?_, ?_, ?_⟩
  all_goals
    simp (disch := decide) only [Cert.QkvIdeal.Gen.V, Cert.QkvIdeal.Gen.hostOps0, StableHlo.after_cons, StableHlo.after_nil, StableHlo.reshape_result_ne', StableHlo.reshape_result']
    rfl

/-- The reshaped arguments of the reference. -/
theorem reshaped' (m : (ℓ : Loc Cert.QkvRefIdeal.nD Cert.QkvRefIdeal.τ Cert.QkvRefIdeal.sig) → Buf (Elt Ideal) ℓ) (c : Dev Cert.QkvRefIdeal.nD) :
    (Cert.QkvRefIdeal.Gen.V m c Cert.QkvRefIdeal.main_v0 : Vec Ideal Cert.QkvRefIdeal.S1x4608 .f32) = shapeCast Cert.QkvRefIdeal.S1x4608 (m ((c : Thread Cert.QkvRefIdeal.nD Cert.QkvRefIdeal.τ).loc Cert.QkvRefIdeal.main_arg3) : Vec Ideal Cert.QkvRefIdeal.S4608 .f32) Cert.QkvRefIdeal.Gen.shapeCasts_S4608_S1x4608
    ∧ (Cert.QkvRefIdeal.Gen.V m c Cert.QkvRefIdeal.main_v1 : Vec Ideal Cert.QkvRefIdeal.S1x2048 .f32) = shapeCast Cert.QkvRefIdeal.S1x2048 (m ((c : Thread Cert.QkvRefIdeal.nD Cert.QkvRefIdeal.τ).loc Cert.QkvRefIdeal.main_arg5) : Vec Ideal Cert.QkvRefIdeal.S2048 .f32) Cert.QkvRefIdeal.Gen.shapeCasts_S2048_S1x2048
    ∧ (Cert.QkvRefIdeal.Gen.V m c Cert.QkvRefIdeal.main_v2 : Vec Ideal Cert.QkvRefIdeal.S1x4 .f32) = shapeCast Cert.QkvRefIdeal.S1x4 (m ((c : Thread Cert.QkvRefIdeal.nD Cert.QkvRefIdeal.τ).loc Cert.QkvRefIdeal.main_arg6) : Vec Ideal Cert.QkvRefIdeal.S4 .f32) Cert.QkvRefIdeal.Gen.shapeCasts_S4_S1x4
    ∧ (Cert.QkvRefIdeal.Gen.V m c Cert.QkvRefIdeal.main_v3 : Vec Ideal Cert.QkvRefIdeal.S1x4 .f32) = shapeCast Cert.QkvRefIdeal.S1x4 (m ((c : Thread Cert.QkvRefIdeal.nD Cert.QkvRefIdeal.τ).loc Cert.QkvRefIdeal.main_arg7) : Vec Ideal Cert.QkvRefIdeal.S4 .f32) Cert.QkvRefIdeal.Gen.shapeCasts_S4_S1x4 := by
  refine ⟨?_, ?_, ?_, ?_⟩
  all_goals
    simp (disch := decide) only [Cert.QkvRefIdeal.Gen.V, Cert.QkvRefIdeal.Gen.hostOps0, StableHlo.after_cons, StableHlo.after_nil, StableHlo.reshape_result_ne', StableHlo.reshape_result']
    rfl

theorem algebraic : Cert.algebraic_QkvIdeal_QkvRefIdeal (hQkvIdeal := Cert.QkvIdeal.Gen.facts) (hQkvRefIdeal := Cert.QkvRefIdeal.Gen.facts) := by
  intro m g m' g' _ hm
  refine ⟨fun c => (Cert.QkvIdeal.Gen.dats m 0 c).arrAt 8 Cert.QkvIdeal.cfg0.N, fun c => (Cert.QkvIdeal.Gen.dats m 0 c).arrAt 9 Cert.QkvIdeal.cfg0.N, fun c => (Cert.QkvIdeal.Gen.dats m 0 c).arrAt 10 Cert.QkvIdeal.cfg0.N, fun c => (Cert.QkvIdeal.Gen.dats m 0 c).arrAt 11 Cert.QkvIdeal.cfg0.N, fun c => (Cert.QkvIdeal.Gen.dats m 0 c).arrAt 12 Cert.QkvIdeal.cfg0.N,
    Cert.QkvIdeal.Value.run_blocks m g, ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2⟩)
    (Cert.QkvRefIdeal.Value.run_blocks m' g')
  all_goals
    obtain ⟨h0, h1, h2, h3, h4, h5, h6, h7⟩ := hm c
    obtain ⟨g, w, k, v⟩ := reshaped m c
    obtain ⟨g', w', k', v'⟩ := reshaped' m' c
    rw [h3] at g'
    rw [h5] at w'
    rw [h6] at k'
    rw [h7] at v'
    have x := (Cert.QkvRefIdeal.Gen.V_main_arg0 m' c).trans (h0.trans (Cert.QkvIdeal.Gen.V_main_arg0 m c).symm)
    have cs := (Cert.QkvRefIdeal.Gen.V_main_arg1 m' c).trans (h1.trans (Cert.QkvIdeal.Gen.V_main_arg1 m c).symm)
    have sn := (Cert.QkvRefIdeal.Gen.V_main_arg2 m' c).trans (h2.trans (Cert.QkvIdeal.Gen.V_main_arg2 m c).symm)
    have W := (Cert.QkvRefIdeal.Gen.V_main_arg4 m' c).trans (h4.trans (Cert.QkvIdeal.Gen.V_main_arg4 m c).symm)
    dsimp only
  · rw [Cert.QkvRefIdeal.Tile.array8, Cert.QkvIdeal.Tile.array8, x, g, g']
  · rw [Cert.QkvRefIdeal.Tile.array9, Cert.QkvIdeal.Tile.array9, x, g, g']
  · rw [Cert.QkvRefIdeal.Tile.array10, Cert.QkvIdeal.Tile.array10, x, g, g', W, w, w', cs, sn]
  · rw [Cert.QkvRefIdeal.Tile.array11, Cert.QkvIdeal.Tile.array11, x, g, g', W, w, w', cs, sn, k, k']
  · rw [Cert.QkvRefIdeal.Tile.array12, Cert.QkvIdeal.Tile.array12, x, g, g', W, w, w', v, v']

end Cert.QkvClaim
end
-- ==== Proof.lean ====
module

public import proofs.«01_k».proof.Defs
public import proofs.«01_k».proof.Proof.Gen.Ffn.Frame
public import proofs.«01_k».proof.Proof.FfnClaim
public import proofs.«01_k».proof.Proof.Gen.Down.Frame
public import proofs.«01_k».proof.Proof.DownClaim
public import proofs.«01_k».proof.Proof.Gen.Actq.Frame
public import proofs.«01_k».proof.Proof.ActqClaim
public import proofs.«01_k».proof.Proof.Gen.Final.Frame
public import proofs.«01_k».proof.Proof.FinalClaim
public import proofs.«01_k».proof.Proof.Gen.Qkv.Frame
public import proofs.«01_k».proof.Proof.QkvClaim
public import Idealize.ShloMosaic.Lib.Quiescent

@[expose] public section

namespace Cert.Proof

open Idealize.ShloMosaic Idealize.SL.Sem

theorem claim : Cert.Claim :=
  ⟨Cert.Ffn.Gen.facts, Cert.FfnIdeal.Gen.facts, Cert.FfnRefIdeal.Gen.facts, Cert.Down.Gen.facts, Cert.DownIdeal.Gen.facts, Cert.DownRefIdeal.Gen.facts,
    Cert.Actq.Gen.facts, Cert.ActqIdeal.Gen.facts, Cert.ActqRefIdeal.Gen.facts, Cert.Final.Gen.facts, Cert.FinalIdeal.Gen.facts, Cert.FinalRefIdeal.Gen.facts,
    Cert.Qkv.Gen.facts, Cert.QkvIdeal.Gen.facts, Cert.QkvRefIdeal.Gen.facts,
    fun m ρ _ => Cert.Ffn.Gen.frame m ρ,
    fun m ρ _ => Cert.FfnIdeal.Gen.frame m ρ,
    fun m ρ _ => Cert.FfnRefIdeal.Gen.frame m ρ,
    fun m ρ _ => Cert.Down.Gen.frame m ρ,
    fun m ρ _ => Cert.DownIdeal.Gen.frame m ρ,
    fun m ρ _ => Cert.DownRefIdeal.Gen.frame m ρ,
    fun m ρ _ => Cert.Actq.Gen.frame m ρ,
    fun m ρ _ => Cert.ActqIdeal.Gen.frame m ρ,
    fun m ρ _ => Cert.ActqRefIdeal.Gen.frame m ρ,
    fun m ρ _ => Cert.Final.Gen.frame m ρ,
    fun m ρ _ => Cert.FinalIdeal.Gen.frame m ρ,
    fun m ρ _ => (θ_run Cert.FinalRefIdeal.defs _ _).mono
      (fun r h => ⟨fun c => ⟨(h c).2.1, (h c).2.2.1, (h c).2.2.2⟩, Idealize.ShloMosaic.sem_eq_zero_of_no_sems (by decide) r.2⟩)
      (Cert.FinalRefIdeal.Value.run (F := Ideal) m ρ),
    fun m ρ _ => Cert.Qkv.Gen.frame m ρ,
    fun m ρ _ => Cert.QkvIdeal.Gen.frame m ρ,
    fun m ρ _ => Cert.QkvRefIdeal.Gen.frame m ρ,
    trivial, Cert.FfnClaim.algebraic,
    trivial, Cert.DownClaim.algebraic,
    trivial, Cert.ActqClaim.algebraic,
    trivial, Cert.FinalClaim.algebraic,
    trivial, Cert.QkvClaim.algebraic⟩

end Cert.Proof

end
